-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩
abbrev S16 : Shape := ⟨1, ![16]⟩
abbrev S1x16 : Shape := ⟨2, ![1, 16]⟩
abbrev S1024x16 : Shape := ⟨2, ![1024, 16]⟩

class Facts : Prop where
  bcast_S_S1024x1 : S_.BroadcastsInDim S1024x1 (![] : Fin 0 → Fin S1024x1.rank)
  bcast_S16_S1x16_1 : S16.BroadcastsInDim S1x16 (![1] : Fin 1 → Fin S1x16.rank)
  bcast_S_S1x16 : S_.BroadcastsInDim S1x16 (![] : Fin 0 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  natLt_1_32 : 1 < 32
  reducesTo_S1024x16_S16_d0 : S1024x16.ReducesTo [0] S16
  h_S_ : 0 < S_.numel
  bcast_S_S16 : S_.BroadcastsInDim S16 (![] : Fin 0 → Fin S16.rank)

variable [Facts]

def fn_part1 {F : FTy → Type} [FloatOps F] (main_v4 : IVec S1024x1 1) (main_v11 : IVec S1024x16 1) (main_v18 : IVec S1024x16 1) : IVec S1024x1 1 × IVec S16 1 :=
  let main_v19 : IVec S1024x16 1 := andi main_v11 main_v18
  let main_v20 : IVec S1024x16 32 := (extui 32 · natLt_1_32) main_v19
  let main_c_4 : IVec S_ 32 := constantI S_ 32 0#32
  let main_v21 : IVec S16 32 := (fun x v => Host.reduce IntOp.addi x v reducesTo_S1024x16_S16_d0 h_S_) main_v20 main_c_4
  let main_c_5 : IVec S_ 32 := constantI S_ 32 128#32
  let main_v22 : IVec S16 32 := broadcastInDim S16 ![] bcast_S_S16 main_c_5
  let main_v23 : IVec S16 1 := cmpi .sle main_v21 main_v22
  (main_v4, main_v23)

def fn {F : FTy → Type} [FloatOps F] (main_arg0 : FVec F S1024x256 .bf16) (main_arg1 : FVec F S256x64 .bf16) (main_arg2 : IVec S1024x1 32) (main_arg3 : FVec F S4x256x512 .bf16) (main_arg4 : FVec F S256x512 .bf16) : IVec S1024x1 1 × IVec S16 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S16 32 := iotaInDim S16 32 0
  let main_v6 : IVec S1x16 32 := broadcastInDim S1x16 ![1] bcast_S16_S1x16_1 main_v5
  let main_c_1 : IVec S_ 32 := constantI S_ 32 4#32
  let main_v7 : IVec S1x16 32 := broadcastInDim S1x16 ![] bcast_S_S1x16 main_c_1
  let main_v8 : IVec S1x16 32 := muli main_v7 main_v6
  let main_v9 : IVec S1024x16 32 := broadcastInDim S1024x16 ![0, 1] bcast_S1024x1_S1024x16_0_1 main_arg2
  let main_v10 : IVec S1024x16 32 := broadcastInDim S1024x16 ![0, 1] bcast_S1x16_S1024x16_0_1 main_v8
  let main_v11 : IVec S1024x16 1 := cmpi .sge main_v9 main_v10
  let main_c_2 : IVec S_ 32 := constantI S_ 32 4#32
  let main_v12 : IVec S1x16 32 := broadcastInDim S1x16 ![] bcast_S_S1x16 main_c_2
  let main_v13 : IVec S1x16 32 := muli main_v12 main_v6
  let main_c_3 : IVec S_ 32 := constantI S_ 32 4#32
  let main_v14 : IVec S1x16 32 := broadcastInDim S1x16 ![] bcast_S_S1x16 main_c_3
  let main_v15 : IVec S1x16 32 := addi main_v13 main_v14
  let main_v16 : IVec S1024x16 32 := broadcastInDim S1024x16 ![0, 1] bcast_S1024x1_S1024x16_0_1 main_arg2
  let main_v17 : IVec S1024x16 32 := broadcastInDim S1024x16 ![0, 1] bcast_S1x16_S1024x16_0_1 main_v15
  let main_v18 : IVec S1024x16 1 := cmpi .slt main_v16 main_v17
  fn_part1 (F := F) main_v4 main_v11 main_v18
-- ==== Pre_within_capacity_ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S_ : Shape := ⟨0, ![]⟩
abbrev S16 : Shape := ⟨1, ![16]⟩
abbrev S1x16 : Shape := ⟨2, ![1, 16]⟩
abbrev S16384x16 : Shape := ⟨2, ![16384, 16]⟩

class Facts : Prop where
  bcast_S_S16384x1 : S_.BroadcastsInDim S16384x1 (![] : Fin 0 → Fin S16384x1.rank)
  bcast_S16_S1x16_1 : S16.BroadcastsInDim S1x16 (![1] : Fin 1 → Fin S1x16.rank)
  bcast_S_S1x16 : S_.BroadcastsInDim S1x16 (![] : Fin 0 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16_d0 : S16384x16.ReducesTo [0] S16
  h_S_ : 0 < S_.numel
  bcast_S_S16 : S_.BroadcastsInDim S16 (![] : Fin 0 → Fin S16.rank)

variable [Facts]

def fn_part1 {F : FTy → Type} [FloatOps F] (main_v4 : IVec S16384x1 1) (main_v11 : IVec S16384x16 1) (main_v18 : IVec S16384x16 1) : IVec S16384x1 1 × IVec S16 1 :=
  let main_v19 : IVec S16384x16 1 := andi main_v11 main_v18
  let main_v20 : IVec S16384x16 32 := (extui 32 · natLt_1_32) main_v19
  let main_c_4 : IVec S_ 32 := constantI S_ 32 0#32
  let main_v21 : IVec S16 32 := (fun x v => Host.reduce IntOp.addi x v reducesTo_S16384x16_S16_d0 h_S_) main_v20 main_c_4
  let main_c_5 : IVec S_ 32 := constantI S_ 32 128#32
  let main_v22 : IVec S16 32 := broadcastInDim S16 ![] bcast_S_S16 main_c_5
  let main_v23 : IVec S16 1 := cmpi .sle main_v21 main_v22
  (main_v4, main_v23)

def fn {F : FTy → Type} [FloatOps F] (main_arg0 : FVec F S16384x256 .bf16) (main_arg1 : FVec F S256x64 .bf16) (main_arg2 : IVec S16384x1 32) (main_arg3 : FVec F S64x256x512 .bf16) (main_arg4 : FVec F S256x512 .bf16) : IVec S16384x1 1 × IVec S16 1 :=
  let main_c : IVec S_ 32 := constantI S_ 32 0#32
  let main_v0 : IVec S16384x1 32 := broadcastInDim S16384x1 ![] bcast_S_S16384x1 main_c
  let main_v1 : IVec S16384x1 1 := cmpi .sge main_arg2 main_v0
  let main_c_0 : IVec S_ 32 := constantI S_ 32 64#32
  let main_v2 : IVec S16384x1 32 := broadcastInDim S16384x1 ![] bcast_S_S16384x1 main_c_0
  let main_v3 : IVec S16384x1 1 := cmpi .slt main_arg2 main_v2
  let main_v4 : IVec S16384x1 1 := andi main_v1 main_v3
  let main_v5 : IVec S16 32 := iotaInDim S16 32 0
  let main_v6 : IVec S1x16 32 := broadcastInDim S1x16 ![1] bcast_S16_S1x16_1 main_v5
  let main_c_1 : IVec S_ 32 := constantI S_ 32 4#32
  let main_v7 : IVec S1x16 32 := broadcastInDim S1x16 ![] bcast_S_S1x16 main_c_1
  let main_v8 : IVec S1x16 32 := muli main_v7 main_v6
  let main_v9 : IVec S16384x16 32 := broadcastInDim S16384x16 ![0, 1] bcast_S16384x1_S16384x16_0_1 main_arg2
  let main_v10 : IVec S16384x16 32 := broadcastInDim S16384x16 ![0, 1] bcast_S1x16_S16384x16_0_1 main_v8
  let main_v11 : IVec S16384x16 1 := cmpi .sge main_v9 main_v10
  let main_c_2 : IVec S_ 32 := constantI S_ 32 4#32
  let main_v12 : IVec S1x16 32 := broadcastInDim S1x16 ![] bcast_S_S1x16 main_c_2
  let main_v13 : IVec S1x16 32 := muli main_v12 main_v6
  let main_c_3 : IVec S_ 32 := constantI S_ 32 4#32
  let main_v14 : IVec S1x16 32 := broadcastInDim S1x16 ![] bcast_S_S1x16 main_c_3
  let main_v15 : IVec S1x16 32 := addi main_v13 main_v14
  let main_v16 : IVec S16384x16 32 := broadcastInDim S16384x16 ![0, 1] bcast_S16384x1_S16384x16_0_1 main_arg2
  let main_v17 : IVec S16384x16 32 := broadcastInDim S16384x16 ![0, 1] bcast_S1x16_S16384x16_0_1 main_v15
  let main_v18 : IVec S16384x16 1 := cmpi .slt main_v16 main_v17
  fn_part1 (F := F) main_v4 main_v11 main_v18
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S16x128x384 : Shape := ⟨3, ![16, 128, 384]⟩
abbrev S16x128x512 : Shape := ⟨3, ![16, 128, 512]⟩
abbrev S16 : Shape := ⟨1, ![16]⟩
abbrev S_ : Shape := ⟨0, ![]⟩
abbrev S1024x64 : Shape := ⟨2, ![1024, 64]⟩
abbrev S1024 : Shape := ⟨1, ![1024]⟩
abbrev S1024x16 : Shape := ⟨2, ![1024, 16]⟩
abbrev S1024x1024 : Shape := ⟨2, ![1024, 1024]⟩
abbrev S1024x2048 : Shape := ⟨2, ![1024, 2048]⟩
abbrev S1024x128 : Shape := ⟨2, ![1024, 128]⟩
abbrev S1024x384 : Shape := ⟨2, ![1024, 384]⟩
abbrev S8x128x384 : Shape := ⟨3, ![8, 128, 384]⟩
abbrev S1 : Shape := ⟨1, ![1]⟩
abbrev S1x128x384 : Shape := ⟨3, ![1, 128, 384]⟩
abbrev S128x384 : Shape := ⟨2, ![128, 384]⟩
abbrev S1024x896 : Shape := ⟨2, ![1024, 896]⟩
abbrev S896x384 : Shape := ⟨2, ![896, 384]⟩
abbrev S7x128x384 : Shape := ⟨3, ![7, 128, 384]⟩
abbrev S128x256 : Shape := ⟨2, ![128, 256]⟩
abbrev S128x128 : Shape := ⟨2, ![128, 128]⟩
abbrev S128x512 : Shape := ⟨2, ![128, 512]⟩
abbrev S1x256x512 : Shape := ⟨3, ![1, 256, 512]⟩
abbrev S128x1 : Shape := ⟨2, ![128, 1]⟩
abbrev S1x128x512 : Shape := ⟨3, ![1, 128, 512]⟩
abbrev S8x128x512 : Shape := ⟨3, ![8, 128, 512]⟩
abbrev S896x256 : Shape := ⟨2, ![896, 256]⟩
abbrev S896x128 : Shape := ⟨2, ![896, 128]⟩
abbrev S896x512 : Shape := ⟨2, ![896, 512]⟩
abbrev S896x1 : Shape := ⟨2, ![896, 1]⟩
abbrev S7x128x512 : Shape := ⟨3, ![7, 128, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .f32⟩
  | .local _ .vmem, ⟨0, _⟩ => ⟨S1024x256, .bf16⟩
  | .local _ .vmem, ⟨1, _⟩ => ⟨S256x64, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .f32⟩
  | .local _ .vmem, ⟨6, _⟩ => ⟨S16x128x384, .bf16⟩
  | .local _ .vmem, ⟨7, _⟩ => ⟨S16x128x384, .bf16⟩
  | .local _ .vmem, ⟨8, _⟩ => ⟨S16x128x512, .bf16⟩
  | .local _ .vmem, ⟨9, _⟩ => ⟨S16x128x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_85 : BitVec 32 := 1#32
  let v162 : BitVec 32 := Scalar.addi v2 c1_i32_85
  let c16_i32_86 : BitVec 32 := 16#32
  let v163 : BitVec 32 := Scalar.remsi v162 c16_i32_86
  let c1_i32_91 : BitVec 32 := 1#32
  let v164 : BitVec 32 := Scalar.muli v163 c1_i32_91
  let v165 : BitVec 32 := Scalar.addi c0_i32_92 v164
  v165.toNat
def k0_dev17 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_97 : BitVec 32 := 2#32
  let v174 : BitVec 32 := Scalar.addi v2 c2_i32_97
  let c16_i32_98 : BitVec 32 := 16#32
  let v175 : BitVec 32 := Scalar.remsi v174 c16_i32_98
  let c1_i32_103 : BitVec 32 := 1#32
  let v176 : BitVec 32 := Scalar.muli v175 c1_i32_103
  let v177 : BitVec 32 := Scalar.addi c0_i32_104 v176
  v177.toNat
def k0_dev18 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_109 : BitVec 32 := 3#32
  let v186 : BitVec 32 := Scalar.addi v2 c3_i32_109
  let c16_i32_110 : BitVec 32 := 16#32
  let v187 : BitVec 32 := Scalar.remsi v186 c16_i32_110
  let c1_i32_115 : BitVec 32 := 1#32
  let v188 : BitVec 32 := Scalar.muli v187 c1_i32_115
  let v189 : BitVec 32 := Scalar.addi c0_i32_116 v188
  v189.toNat
def k0_dev19 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v198 : BitVec 32 := Scalar.addi v2 c4_i32_121
  let c16_i32_122 : BitVec 32 := 16#32
  let v199 : BitVec 32 := Scalar.remsi v198 c16_i32_122
  let c1_i32_127 : BitVec 32 := 1#32
  let v200 : BitVec 32 := Scalar.muli v199 c1_i32_127
  let v201 : BitVec 32 := Scalar.addi c0_i32_128 v200
  v201.toNat
def k0_dev20 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_133 : BitVec 32 := 5#32
  let v210 : BitVec 32 := Scalar.addi v2 c5_i32_133
  let c16_i32_134 : BitVec 32 := 16#32
  let v211 : BitVec 32 := Scalar.remsi v210 c16_i32_134
  let c1_i32_139 : BitVec 32 := 1#32
  let v212 : BitVec 32 := Scalar.muli v211 c1_i32_139
  let v213 : BitVec 32 := Scalar.addi c0_i32_140 v212
  v213.toNat
def k0_dev21 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_145 : BitVec 32 := 6#32
  let v222 : BitVec 32 := Scalar.addi v2 c6_i32_145
  let c16_i32_146 : BitVec 32 := 16#32
  let v223 : BitVec 32 := Scalar.remsi v222 c16_i32_146
  let c1_i32_151 : BitVec 32 := 1#32
  let v224 : BitVec 32 := Scalar.muli v223 c1_i32_151
  let v225 : BitVec 32 := Scalar.addi c0_i32_152 v224
  v225.toNat
def k0_dev22 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_157 : BitVec 32 := 7#32
  let v234 : BitVec 32 := Scalar.addi v2 c7_i32_157
  let c16_i32_158 : BitVec 32 := 16#32
  let v235 : BitVec 32 := Scalar.remsi v234 c16_i32_158
  let c1_i32_163 : BitVec 32 := 1#32
  let v236 : BitVec 32 := Scalar.muli v235 c1_i32_163
  let v237 : BitVec 32 := Scalar.addi c0_i32_164 v236
  v237.toNat
def k0_dev23 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v246 : BitVec 32 := Scalar.addi v2 c8_i32_169
  let c16_i32_170 : BitVec 32 := 16#32
  let v247 : BitVec 32 := Scalar.remsi v246 c16_i32_170
  let c1_i32_175 : BitVec 32 := 1#32
  let v248 : BitVec 32 := Scalar.muli v247 c1_i32_175
  let v249 : BitVec 32 := Scalar.addi c0_i32_176 v248
  v249.toNat
def k0_dev24 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_184 : BitVec 32 := 9#32
  let v265 : BitVec 32 := Scalar.addi v2 c9_i32_184
  let c16_i32_185 : BitVec 32 := 16#32
  let v266 : BitVec 32 := Scalar.remsi v265 c16_i32_185
  let c1_i32_190 : BitVec 32 := 1#32
  let v267 : BitVec 32 := Scalar.muli v266 c1_i32_190
  let v268 : BitVec 32 := Scalar.addi c0_i32_191 v267
  v268.toNat
def k0_dev25 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_196 : BitVec 32 := 10#32
  let v277 : BitVec 32 := Scalar.addi v2 c10_i32_196
  let c16_i32_197 : BitVec 32 := 16#32
  let v278 : BitVec 32 := Scalar.remsi v277 c16_i32_197
  let c1_i32_202 : BitVec 32 := 1#32
  let v279 : BitVec 32 := Scalar.muli v278 c1_i32_202
  let v280 : BitVec 32 := Scalar.addi c0_i32_203 v279
  v280.toNat
def k0_dev26 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_208 : BitVec 32 := 11#32
  let v289 : BitVec 32 := Scalar.addi v2 c11_i32_208
  let c16_i32_209 : BitVec 32 := 16#32
  let v290 : BitVec 32 := Scalar.remsi v289 c16_i32_209
  let c1_i32_214 : BitVec 32 := 1#32
  let v291 : BitVec 32 := Scalar.muli v290 c1_i32_214
  let v292 : BitVec 32 := Scalar.addi c0_i32_215 v291
  v292.toNat
def k0_dev27 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_220 : BitVec 32 := 12#32
  let v301 : BitVec 32 := Scalar.addi v2 c12_i32_220
  let c16_i32_221 : BitVec 32 := 16#32
  let v302 : BitVec 32 := Scalar.remsi v301 c16_i32_221
  let c1_i32_226 : BitVec 32 := 1#32
  let v303 : BitVec 32 := Scalar.muli v302 c1_i32_226
  let v304 : BitVec 32 := Scalar.addi c0_i32_227 v303
  v304.toNat
def k0_dev28 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_232 : BitVec 32 := 13#32
  let v313 : BitVec 32 := Scalar.addi v2 c13_i32_232
  let c16_i32_233 : BitVec 32 := 16#32
  let v314 : BitVec 32 := Scalar.remsi v313 c16_i32_233
  let c1_i32_238 : BitVec 32 := 1#32
  let v315 : BitVec 32 := Scalar.muli v314 c1_i32_238
  let v316 : BitVec 32 := Scalar.addi c0_i32_239 v315
  v316.toNat
def k0_dev29 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_244 : BitVec 32 := 14#32
  let v325 : BitVec 32 := Scalar.addi v2 c14_i32_244
  let c16_i32_245 : BitVec 32 := 16#32
  let v326 : BitVec 32 := Scalar.remsi v325 c16_i32_245
  let c1_i32_250 : BitVec 32 := 1#32
  let v327 : BitVec 32 := Scalar.muli v326 c1_i32_250
  let v328 : BitVec 32 := Scalar.addi c0_i32_251 v327
  v328.toNat
def k0_dev30 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_256 : BitVec 32 := 15#32
  let v337 : BitVec 32 := Scalar.addi v2 c15_i32_256
  let c16_i32_257 : BitVec 32 := 16#32
  let v338 : BitVec 32 := Scalar.remsi v337 c16_i32_257
  let c1_i32_262 : BitVec 32 := 1#32
  let v339 : BitVec 32 := Scalar.muli v338 c1_i32_262
  let v340 : BitVec 32 := Scalar.addi c0_i32_263 v339
  v340.toNat
def k0_dev31 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_391 : BitVec 32 := 8#32
  let v513 : BitVec 32 := Scalar.addi v2 c8_i32_391
  let c16_i32_392 : BitVec 32 := 16#32
  let v514 : BitVec 32 := Scalar.remsi v513 c16_i32_392
  let c1_i32_397 : BitVec 32 := 1#32
  let v515 : BitVec 32 := Scalar.muli v514 c1_i32_397
  let v516 : BitVec 32 := Scalar.addi c0_i32_398 v515
  v516.toNat
def k0_dev32 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_403 : BitVec 32 := 9#32
  let v525 : BitVec 32 := Scalar.addi v2 c9_i32_403
  let c16_i32_404 : BitVec 32 := 16#32
  let v526 : BitVec 32 := Scalar.remsi v525 c16_i32_404
  let c1_i32_409 : BitVec 32 := 1#32
  let v527 : BitVec 32 := Scalar.muli v526 c1_i32_409
  let v528 : BitVec 32 := Scalar.addi c0_i32_410 v527
  v528.toNat
def k0_dev33 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_415 : BitVec 32 := 10#32
  let v537 : BitVec 32 := Scalar.addi v2 c10_i32_415
  let c16_i32_416 : BitVec 32 := 16#32
  let v538 : BitVec 32 := Scalar.remsi v537 c16_i32_416
  let c1_i32_421 : BitVec 32 := 1#32
  let v539 : BitVec 32 := Scalar.muli v538 c1_i32_421
  let v540 : BitVec 32 := Scalar.addi c0_i32_422 v539
  v540.toNat
def k0_dev34 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_427 : BitVec 32 := 11#32
  let v549 : BitVec 32 := Scalar.addi v2 c11_i32_427
  let c16_i32_428 : BitVec 32 := 16#32
  let v550 : BitVec 32 := Scalar.remsi v549 c16_i32_428
  let c1_i32_433 : BitVec 32 := 1#32
  let v551 : BitVec 32 := Scalar.muli v550 c1_i32_433
  let v552 : BitVec 32 := Scalar.addi c0_i32_434 v551
  v552.toNat
def k0_dev35 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_439 : BitVec 32 := 12#32
  let v561 : BitVec 32 := Scalar.addi v2 c12_i32_439
  let c16_i32_440 : BitVec 32 := 16#32
  let v562 : BitVec 32 := Scalar.remsi v561 c16_i32_440
  let c1_i32_445 : BitVec 32 := 1#32
  let v563 : BitVec 32 := Scalar.muli v562 c1_i32_445
  let v564 : BitVec 32 := Scalar.addi c0_i32_446 v563
  v564.toNat
def k0_dev36 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v573 : BitVec 32 := Scalar.addi v2 c13_i32_451
  let c16_i32_452 : BitVec 32 := 16#32
  let v574 : BitVec 32 := Scalar.remsi v573 c16_i32_452
  let c1_i32_457 : BitVec 32 := 1#32
  let v575 : BitVec 32 := Scalar.muli v574 c1_i32_457
  let v576 : BitVec 32 := Scalar.addi c0_i32_458 v575
  v576.toNat
def k0_dev37 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_463 : BitVec 32 := 14#32
  let v585 : BitVec 32 := Scalar.addi v2 c14_i32_463
  let c16_i32_464 : BitVec 32 := 16#32
  let v586 : BitVec 32 := Scalar.remsi v585 c16_i32_464
  let c1_i32_469 : BitVec 32 := 1#32
  let v587 : BitVec 32 := Scalar.muli v586 c1_i32_469
  let v588 : BitVec 32 := Scalar.addi c0_i32_470 v587
  v588.toNat
def k0_dev38 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_475 : BitVec 32 := 15#32
  let v597 : BitVec 32 := Scalar.addi v2 c15_i32_475
  let c16_i32_476 : BitVec 32 := 16#32
  let v598 : BitVec 32 := Scalar.remsi v597 c16_i32_476
  let c1_i32_481 : BitVec 32 := 1#32
  let v599 : BitVec 32 := Scalar.muli v598 c1_i32_481
  let v600 : BitVec 32 := Scalar.addi c0_i32_482 v599
  v600.toNat
def k0_dev39 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_568 : BitVec 32 := 1#32
  let v704 : BitVec 32 := Scalar.addi v2 c1_i32_568
  let c16_i32_569 : BitVec 32 := 16#32
  let v705 : BitVec 32 := Scalar.remsi v704 c16_i32_569
  let c1_i32_574 : BitVec 32 := 1#32
  let v706 : BitVec 32 := Scalar.muli v705 c1_i32_574
  let v707 : BitVec 32 := Scalar.addi c0_i32_575 v706
  v707.toNat
def k0_dev40 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_580 : BitVec 32 := 2#32
  let v716 : BitVec 32 := Scalar.addi v2 c2_i32_580
  let c16_i32_581 : BitVec 32 := 16#32
  let v717 : BitVec 32 := Scalar.remsi v716 c16_i32_581
  let c1_i32_586 : BitVec 32 := 1#32
  let v718 : BitVec 32 := Scalar.muli v717 c1_i32_586
  let v719 : BitVec 32 := Scalar.addi c0_i32_587 v718
  v719.toNat
def k0_dev41 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_592 : BitVec 32 := 3#32
  let v728 : BitVec 32 := Scalar.addi v2 c3_i32_592
  let c16_i32_593 : BitVec 32 := 16#32
  let v729 : BitVec 32 := Scalar.remsi v728 c16_i32_593
  let c1_i32_598 : BitVec 32 := 1#32
  let v730 : BitVec 32 := Scalar.muli v729 c1_i32_598
  let v731 : BitVec 32 := Scalar.addi c0_i32_599 v730
  v731.toNat
def k0_dev42 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_604 : BitVec 32 := 4#32
  let v740 : BitVec 32 := Scalar.addi v2 c4_i32_604
  let c16_i32_605 : BitVec 32 := 16#32
  let v741 : BitVec 32 := Scalar.remsi v740 c16_i32_605
  let c1_i32_610 : BitVec 32 := 1#32
  let v742 : BitVec 32 := Scalar.muli v741 c1_i32_610
  let v743 : BitVec 32 := Scalar.addi c0_i32_611 v742
  v743.toNat
def k0_dev43 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_616 : BitVec 32 := 5#32
  let v752 : BitVec 32 := Scalar.addi v2 c5_i32_616
  let c16_i32_617 : BitVec 32 := 16#32
  let v753 : BitVec 32 := Scalar.remsi v752 c16_i32_617
  let c1_i32_622 : BitVec 32 := 1#32
  let v754 : BitVec 32 := Scalar.muli v753 c1_i32_622
  let v755 : BitVec 32 := Scalar.addi c0_i32_623 v754
  v755.toNat
def k0_dev44 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_628 : BitVec 32 := 6#32
  let v764 : BitVec 32 := Scalar.addi v2 c6_i32_628
  let c16_i32_629 : BitVec 32 := 16#32
  let v765 : BitVec 32 := Scalar.remsi v764 c16_i32_629
  let c1_i32_634 : BitVec 32 := 1#32
  let v766 : BitVec 32 := Scalar.muli v765 c1_i32_634
  let v767 : BitVec 32 := Scalar.addi c0_i32_635 v766
  v767.toNat
def k0_dev45 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_640 : BitVec 32 := 7#32
  let v776 : BitVec 32 := Scalar.addi v2 c7_i32_640
  let c16_i32_641 : BitVec 32 := 16#32
  let v777 : BitVec 32 := Scalar.remsi v776 c16_i32_641
  let c1_i32_646 : BitVec 32 := 1#32
  let v778 : BitVec 32 := Scalar.muli v777 c1_i32_646
  let v779 : BitVec 32 := Scalar.addi c0_i32_647 v778
  v779.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S16384x64 : Shape := ⟨2, ![16384, 64]⟩
abbrev S_ : Shape := ⟨0, ![]⟩
abbrev S16384 : Shape := ⟨1, ![16384]⟩
abbrev S16384x512 : Shape := ⟨2, ![16384, 512]⟩
abbrev S16384x1x1 : Shape := ⟨3, ![16384, 1, 1]⟩
abbrev S16384x256x512 : Shape := ⟨3, ![16384, 256, 512]⟩

abbrev nBuf : Space → Nat
  | .hbm => 38
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x64, .bf16⟩
  | .hbm, ⟨2, _⟩ => ⟨S16384x1, .i32⟩
  | .hbm, ⟨3, _⟩ => ⟨S64x256x512, .bf16⟩
  | .hbm, ⟨4, _⟩ => ⟨S256x512, .bf16⟩
  | .hbm, ⟨5, _⟩ => ⟨S16384x256, .f32⟩
  | .hbm, ⟨6, _⟩ => ⟨S256x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S256x512, .f32⟩
  | .hbm, ⟨20, _⟩ => ⟨S16384x512, .f32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S16384x1, .f32⟩
  | .hbm, ⟨30, _⟩ => ⟨S64x256x512, .f32⟩
  | .hbm, ⟨31, _⟩ => ⟨S16384, .i32⟩
  | .hbm, ⟨32, _⟩ => ⟨S16384x1, .i32⟩
  | .hbm, ⟨33, _⟩ => ⟨S16384x256x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.Fold.lean ====
/-
A separating product along a list of numbers, and its passage to and from the product over a finite set.
-/
module

public import Idealize.ShloMosaic.Lib.Pipeline.Launch
public import Idealize.ShloMosaic.Lib.Tactic

@[expose] public section

noncomputable section

namespace Cert.Exchange

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

/-- The product of `Φ` over the numbers of a list, in the list's order. -/
def sepL : List ℕ → (ℕ → sProp M) → sProp M
  | [], _ => iprop(emp)
  | o :: l, Φ => iprop(Φ o ∗ sepL l Φ)

theorem sepL_nil (Φ : ℕ → sProp M) : sepL [] Φ = iprop(emp) := rfl
theorem sepL_cons (o : ℕ) (l : List ℕ) (Φ : ℕ → sProp M) : sepL (o :: l) Φ = iprop(Φ o ∗ sepL l Φ) := rfl

theorem sepL_mono {Φ Ψ : ℕ → sProp M} : ∀ {l : List ℕ}, (∀ o ∈ l, Φ o ⊢ Ψ o) → sepL l Φ ⊢ sepL l Ψ
  | [], _ => BI.Entails.refl _
  | o :: l, h => by
    have h1 := h o List.mem_cons_self
    have h2 := sepL_mono (l := l) (fun o' ho' => h o' (List.mem_cons_of_mem _ ho'))
    rw [sepL_cons, sepL_cons]
    iintro ⟨H, T⟩
    ihave H := h1 $$ H
    ihave T := h2 $$ T
    isplitl [H]
    · iexact H
    · iexact T

theorem sepL_sep (Φ Ψ : ℕ → sProp M) : ∀ l : List ℕ, sepL l (fun o => iprop(Φ o ∗ Ψ o)) ⊢ iprop(sepL l Φ ∗ sepL l Ψ)
  | [] => by
    rw [sepL_nil, sepL_nil, sepL_nil]
    iintro -; isplitl [] <;> iempintro
  | o :: l => by
    rw [sepL_cons, sepL_cons, sepL_cons]
    iintro ⟨⟨H1, H2⟩, T⟩
    ihave T := sepL_sep Φ Ψ l $$ T
    icases T with ⟨T1, T2⟩
    isplitl [H1 T1]
    · isplitl [H1] <;> iassumption
    · isplitl [H2] <;> iassumption

theorem sepL_join (Φ Ψ : ℕ → sProp M) : ∀ l : List ℕ, iprop(sepL l Φ ∗ sepL l Ψ) ⊢ sepL l (fun o => iprop(Φ o ∗ Ψ o))
  | [] => by
    rw [sepL_nil, sepL_nil, sepL_nil]
    iintro ⟨-, -⟩; iempintro
  | o :: l => by
    rw [sepL_cons, sepL_cons, sepL_cons]
    iintro ⟨⟨H1, T1⟩, H2, T2⟩
    isplitl [H1 H2]
    · isplitl [H1] <;> iassumption
    iapply (sepL_join Φ Ψ l)
    isplitl [T1] <;> iassumption

theorem sepL_sep_eq (Φ Ψ : ℕ → sProp M) (l : List ℕ) : sepL l (fun o => iprop(Φ o ∗ Ψ o)) = iprop(sepL l Φ ∗ sepL l Ψ) :=
  (sepL_sep Φ Ψ l).antisymm (sepL_join Φ Ψ l)

theorem sepL_append (Φ : ℕ → sProp M) (b : List ℕ) : ∀ a : List ℕ, iprop(sepL a Φ ∗ sepL b Φ) ⊢ sepL (a ++ b) Φ
  | [] => by
    rw [sepL_nil, List.nil_append]
    iintro ⟨-, H⟩; iexact H
  | o :: a => by
    rw [List.cons_append, sepL_cons, sepL_cons]
    iintro ⟨⟨H, A⟩, B⟩
    isplitl [H]
    · iexact H
    · iapply (sepL_append Φ b a); isplitl [A] <;> iassumption

theorem sepL_split (Φ : ℕ → sProp M) (b : List ℕ) : ∀ a : List ℕ, sepL (a ++ b) Φ ⊢ iprop(sepL a Φ ∗ sepL b Φ)
  | [] => by
    rw [sepL_nil, List.nil_append]
    iintro H; isplitl []
    · iempintro
    · iexact H
  | o :: a => by
    rw [List.cons_append, sepL_cons, sepL_cons]
    iintro ⟨H, A⟩
    ihave A := sepL_split Φ b a $$ A
    icases A with ⟨A, B⟩
    isplitl [H A]
    · isplitl [H] <;> iassumption
    · iexact B

/-- One factor added at the end. -/
theorem sepL_snoc (Φ : ℕ → sProp M) (a : List ℕ) (o : ℕ) : iprop(sepL a Φ ∗ Φ o) ⊢ sepL (a ++ [o]) Φ := by
  iintro ⟨A, H⟩
  iapply (sepL_append Φ [o] a)
  isplitl [A]
  · iexact A
  · rw [sepL_cons, sepL_nil]
    isplitl [H]
    · iexact H
    · iempintro

/-- A persistent assertion beside the product serves each factor. -/
theorem sepL_mono_pers (R : sProp M) [BI.Persistent R] {Φ Ψ : ℕ → sProp M} :
    ∀ {l : List ℕ}, (∀ o ∈ l, iprop(R ∗ Φ o) ⊢ Ψ o) → iprop(R ∗ sepL l Φ) ⊢ sepL l Ψ
  | [], _ => by
    rw [sepL_nil, sepL_nil]
    iintro ⟨-, H⟩; iexact H
  | o :: l, h => by
    have h1 := h o List.mem_cons_self
    have h2 := sepL_mono_pers R (l := l) (fun o' ho' => h o' (List.mem_cons_of_mem _ ho'))
    rw [sepL_cons, sepL_cons]
    iintro ⟨#HR, H, T⟩
    isplitl [H]
    · iapply h1; isplitl []
      · iexact HR
      · iexact H
    · iapply h2; isplitl []
      · iexact HR
      · iexact T

variable {I : Type} [DecidableEq I]

theorem sepL_perm {Φ : ℕ → sProp M} {l l' : List ℕ} (h : l.Perm l') : sepL l Φ ⊢ sepL l' Φ := by
  induction h with
  | nil => exact BIBase.Entails.rfl
  | cons x _ ih => rw [sepL_cons, sepL_cons]; exact sep_mono_right ih
  | swap x y l =>
    rw [sepL_cons, sepL_cons, sepL_cons, sepL_cons]
    iintro ⟨H1, H2, H3⟩
    isplitl [H2]; · iexact H2
    isplitl [H1] <;> iassumption
  | trans _ _ ih1 ih2 => exact ih1.trans ih2

/-- The product over a finite set hands out the factors at a duplicate-free list of its members. -/
theorem sepL_of_bigSep (Φ : I → sProp M) (f : ℕ → I) :
    ∀ (l : List ℕ) (S : Finset I), (l.map f).Nodup → (∀ o ∈ l, f o ∈ S) → bigSep S Φ ⊢ sepL l (fun o => Φ (f o))
  | [], S, _, _ => by
    rw [sepL_nil]; iintro -; iempintro
  | o :: l, S, hn, hS => by
    rw [List.map_cons, List.nodup_cons] at hn
    have h2 := sepL_of_bigSep Φ f l (S.erase (f o)) hn.2 (fun o' ho' => Finset.mem_erase.mpr
      ⟨fun e => hn.1 (e ▸ List.mem_map_of_mem ho'), hS o' (List.mem_cons_of_mem _ ho')⟩)
    have e : bigSep S Φ = iprop(Φ (f o) ∗ bigSep (S.erase (f o)) Φ) := BI.bigSep_erase (hS o List.mem_cons_self)
    rw [sepL_cons, e]
    iintro ⟨H, T⟩
    isplitl [H]
    · iexact H
    · iapply h2; iexact T

/-- The factors at a duplicate-free list make the product over its members. -/
theorem bigSep_of_sepL (Φ : I → sProp M) (f : ℕ → I) :
    ∀ (l : List ℕ), (l.map f).Nodup → sepL l (fun o => Φ (f o)) ⊢ bigSep (l.map f).toFinset Φ
  | [], _ => by
    rw [sepL_nil, List.map_nil, List.toFinset_nil, BI.bigSep_empty]; exact BI.Entails.refl _
  | o :: l, hn => by
    rw [List.map_cons, List.nodup_cons] at hn
    have h2 := bigSep_of_sepL Φ f l hn.2
    have e : bigSep (insert (f o) (l.map f).toFinset) Φ = iprop(Φ (f o) ∗ bigSep (l.map f).toFinset Φ) :=
      BI.bigSep_insert (fun h => hn.1 (List.mem_toFinset.mp h))
    rw [sepL_cons, List.map_cons, List.toFinset_cons, e]
    iintro ⟨H, T⟩
    isplitl [H]
    · iexact H
    · iapply h2; iexact T

end Cert.Exchange

end
-- ==== Proof.Contents.lean ====
/-
What the arrays of the exchange hold, device by device, as functions of the devices' inputs.
-/
module

public import proofs.«01_k».proof.Proof.Gen.KernelIdeal
public import proofs.«01_k».proof.Proof.Gen.KernelIdeal.Skeleton
public import Idealize.ShloMosaic.Lib.ValueIdxCore

@[expose] public section

noncomputable section

namespace Cert.Exchange

open Cert.KernelIdeal Cert.KernelIdeal.Gen
open Idealize.ShloMosaic
open Idealize.ShloMosaic.ValueIdx

/-- The device `o` places after `c` around the ring of sixteen. -/
def sh (c : Dev nD) (o : ℕ) : Dev nD := ⟨(c.val + o) % 16, Nat.mod_lt _ (Nat.succ_pos 15)⟩

theorem sh_val (c : Dev nD) (o : ℕ) : (sh c o).val = (c.val + o) % 16 := rfl

theorem sh_sh {o s : ℕ} (h : o + s = 16) (c : Dev nD) : sh (sh c o) s = c := by
  apply Fin.ext
  have hc : c.val < 16 := c.isLt
  rw [sh_val, sh_val]
  omega

/-- The element of slot `k` at row `a`, column `b`. -/
def at3 {d : ℕ} (k : ℕ) (a : Fin 128) (b : Fin d) : (⟨3, ![16, 128, d]⟩ : Shape).Idx :=
  ix3 (⟨k % 16, Nat.mod_lt _ (Nat.succ_pos 15)⟩ : Fin 16) a b

/-- The `n` slots from slot `lo` on, as an array of their own. -/
def grp {α : Type} {d : ℕ} (lo n : ℕ) (f : (⟨3, ![16, 128, d]⟩ : Shape).Idx → α) : (⟨3, ![n, 128, d]⟩ : Shape).Idx → α :=
  fun j => f (at3 (lo + (j 0).val) (j 1) (j 2))

/-- Sixteen slots from a group of `n0`, then one of `n1`, then one of `n2`. -/
def cat3 {α : Type} {d : ℕ} {n0 n1 n2 : ℕ} (f0 : (⟨3, ![n0, 128, d]⟩ : Shape).Idx → α) (f1 : (⟨3, ![n1, 128, d]⟩ : Shape).Idx → α)
    (f2 : (⟨3, ![n2, 128, d]⟩ : Shape).Idx → α) (hn : 16 ≤ n0 + n1 + n2) : (⟨3, ![16, 128, d]⟩ : Shape).Idx → α :=
  fun i =>
    if h0 : (i 0).val < n0 then f0 (ix3 ⟨(i 0).val, h0⟩ (i 1) (i 2))
    else if h1 : (i 0).val - n0 < n1 then f1 (ix3 ⟨(i 0).val - n0, h1⟩ (i 1) (i 2))
    else f2 (ix3 ⟨(i 0).val - n0 - n1, by have h : (i 0).val < 16 := (i 0).isLt; omega⟩ (i 1) (i 2))

variable {F : FTy → Type} [FloatOps F]

variable (F) in
/-- The inputs of the sixteen devices: tokens, router weights, expert numbers, expert weights, shared weights. -/
structure Inp where
  x : Dev nD → Vec F S1024x256 .bf16
  rw : Dev nD → Vec F S256x64 .bf16
  idx : Dev nD → Vec F S1024x1 .i32
  ew : Dev nD → Vec F S4x256x512 .bf16
  sw : Dev nD → Vec F S256x512 .bf16

variable (A : Inp F)

/-- The device's own number, as the kernel reckons it. -/
def meW (c : Dev nD) : BitVec 32 := Scalar.remsi (Scalar.divsi (Dev.word c) 1#32) 16#32

def xC (c : Dev nD) : FVec F S1024x256 .bf16 := k0_pay1 (A.x c)
def idxC (c : Dev nD) : IVec S1024x1 32 := k0_pay2 (F := F) (A.idx c)
def scoreC (c : Dev nD) : FVec F S1024x64 .f32 := k0_pay3 (A.x c) (A.rw c)
def probC (c : Dev nD) : FVec F S1024x1 .f32 := k0_pay4 (idxC A c) (scoreC A c)
def localC (c : Dev nD) : IVec S1024x1 32 := k0_pay5 (idxC A c)
def qC (c : Dev nD) : IVec S1024x1 32 := k0_pay6 (meW c) (idxC A c)
def hotC (c : Dev nD) : IVec S1024x16 32 := k0_pay7 (meW c) (idxC A c)
def pC (c : Dev nD) : FVec F S1024x2048 .bf16 := k0_pay8 (qC A c) (hotC A c)
def augC (c : Dev nD) : FVec F S1024x384 .bf16 := k0_pay9 (xC A c) (localC A c)

/-- The sixteen slots device `c` sends out: slot `o` goes to the device `o` places on. -/
def dispC (c : Dev nD) : Vec F S16x128x384 .bf16 :=
  cat3 (n0 := 1) (n1 := 8) (n2 := 7) (k0_pay12 (pC A c) (augC A c)) (k0_pay10 (xC A c) (localC A c) (qC A c) (hotC A c))
    (k0_pay11 (pC A c) (augC A c)) (Nat.le_refl 16)

/-- The sixteen slots device `c` has received: slot `s` is from the device `s` places on, slot 0 its own. -/
def recvC (c : Dev nD) : Vec F S16x128x384 .bf16 := fun i =>
  if (i 0).val = 0 then k0_pay13 (grp 0 1 (dispC A c)) (ix3 (0 : Fin 1) (i 1) (i 2))
  else dispC A (sh c (i 0).val) (at3 (16 - (i 0).val) (i 1) (i 2))

def sharedC (c : Dev nD) : FVec F S1024x512 .f32 := k0_pay14 (xC A c) (A.sw c)
def ewC (c : Dev nD) : FVec F S4x256x512 .bf16 := k0_pay15 (A.ew c)

def rows0 (c : Dev nD) : Vec F S1x128x384 .bf16 := grp 0 1 (recvC A c)
def rows8 (c : Dev nD) : Vec F S8x128x384 .bf16 := grp 8 8 (recvC A c)
def rows1 (c : Dev nD) : Vec F S7x128x384 .bf16 := grp 1 7 (recvC A c)

/-- The sixteen slots of results device `c` sends back. -/
def retC (c : Dev nD) : Vec F S16x128x512 .bf16 :=
  cat3 (n0 := 1) (n1 := 7) (n2 := 8)
    (k0_pay20 (ewC A c) (k0_pay17 (rows0 A c)) (k0_pay18 (rows0 A c)) k0_pay19)
    (k0_pay33 (ewC A c) (k0_pay29 (rows1 A c)) (k0_pay30 (rows1 A c)) k0_pay31 (k0_pay32 (ewC A c)))
    (k0_pay27 (k0_pay23 (rows8 A c)) (k0_pay24 (rows8 A c)) (k0_pay25 (ewC A c) (rows8 A c)) (k0_pay26 (ewC A c)))
    (Nat.le_refl 16)

/-- The sixteen slots of results device `c` has got back: slot `s` from the device `s` places on. -/
def backC (c : Dev nD) : Vec F S16x128x512 .bf16 := fun i =>
  if (i 0).val = 0 then k0_pay21 (grp 0 1 (retC A c)) (ix3 (0 : Fin 1) (i 1) (i 2))
  else retC A (sh c (i 0).val) (at3 (16 - (i 0).val) (i 1) (i 2))

/-- The kernel's result on device `c`. -/
def outC (c : Dev nD) : Vec F S1024x512 .f32 := k0_pay34 (probC A c) (pC A c) (sharedC A c) (backC A c)

end Cert.Exchange

end
-- ==== Proof.Slots.lean ====
/-
The slots of the exchanged arrays: which elements a slot or a run of slots names, what is read of it, what a copy into it leaves.
-/
module

public import proofs.«01_k».proof.Proof.Contents
public import Idealize.ShloMosaic.Lib.ValueLayout
public import Idealize.ShloMosaic.Lib.Tactic

@[expose] public section

noncomputable section

namespace Cert.Exchange

open Cert.KernelIdeal Cert.KernelIdeal.Gen
open Idealize.ShloMosaic
open Idealize.ShloMosaic.ValueIdx

/-- The elements of the slots from `lo` up to `hi`. -/
def bnd {d : ℕ} (lo hi : ℕ) : Finset (⟨3, ![16, 128, d]⟩ : Shape).Idx :=
  Finset.univ.filter fun i => lo ≤ (i 0).val ∧ (i 0).val < hi

theorem mem_bnd {d lo hi : ℕ} {i : (⟨3, ![16, 128, d]⟩ : Shape).Idx} : i ∈ bnd lo hi ↔ lo ≤ (i 0).val ∧ (i 0).val < hi := by
  simp only [bnd, Finset.mem_filter, Finset.mem_univ, true_and]

theorem bnd_disjoint {d a b a' b' : ℕ} (h : b ≤ a' ∨ b' ≤ a) : Disjoint (bnd (d := d) a b) (bnd a' b') := by
  rw [Finset.disjoint_left]
  intro i h1 h2
  rw [mem_bnd] at h1 h2
  omega

theorem bnd_union {d a b e : ℕ} (h1 : a ≤ b) (h2 : b ≤ e) : bnd (d := d) a e = bnd a b ∪ bnd b e := by
  ext i
  rw [Finset.mem_union, mem_bnd, mem_bnd, mem_bnd]
  omega

theorem bnd_univ {d : ℕ} : bnd (d := d) 0 16 = Finset.univ := by
  ext i
  have h : (i 0).val < 16 := (i 0).isLt
  simp only [mem_bnd, Finset.mem_univ, iff_true]
  omega

theorem at3_self {d k : ℕ} (i : (⟨3, ![16, 128, d]⟩ : Shape).Idx) (h : (i 0).val = k) : at3 k (i 1) (i 2) = i := by
  have h16 : (i 0).val < 16 := (i 0).isLt
  funext a
  apply Fin.ext
  match a with
  | ⟨0, _⟩ => show k % 16 = (i 0).val; omega
  | ⟨1, _⟩ => rfl
  | ⟨2, _⟩ => rfl

theorem at3_0 {d k : ℕ} (hk : k < 16) (a : Fin 128) (b : Fin d) : ((at3 k a b) 0).val = k := Nat.mod_eq_of_lt hk

theorem rect_set {d lo n : ℕ} (inb : ∀ a, (![lo, 0, 0] : Fin 3 → ℕ) a + (⟨3, ![n, 128, d]⟩ : Shape).size a ≤ (⟨3, ![16, 128, d]⟩ : Shape).size a) :
    (Rect.unit (s := ⟨3, ![16, 128, d]⟩) ![lo, 0, 0] (⟨3, ![n, 128, d]⟩ : Shape).size inb).set = bnd lo (lo + n) := by
  ext i
  rw [Rect.mem_set_unit, mem_bnd]
  constructor
  · intro h; exact h 0
  · intro h a
    match a with
    | ⟨0, _⟩ => exact h
    | ⟨1, _⟩ =>
      have : (i 1).val < 128 := (i 1).isLt
      exact ⟨Nat.zero_le _, by show (i 1).val < 0 + 128; omega⟩
    | ⟨2, _⟩ =>
      have : (i 2).val < d := (i 2).isLt
      exact ⟨Nat.zero_le _, by show (i 2).val < 0 + d; omega⟩

theorem rect_emb {d lo n : ℕ} (inb : ∀ a, (![lo, 0, 0] : Fin 3 → ℕ) a + (⟨3, ![n, 128, d]⟩ : Shape).size a ≤ (⟨3, ![16, 128, d]⟩ : Shape).size a)
    (j : (⟨3, ![n, 128, d]⟩ : Shape).Idx) :
    (Rect.unit (s := ⟨3, ![16, 128, d]⟩) ![lo, 0, 0] (⟨3, ![n, 128, d]⟩ : Shape).size inb).emb j = at3 (lo + (j 0).val) (j 1) (j 2) := by
  have h0 : lo + n ≤ 16 := inb 0
  have hj : (j 0).val < n := (j 0).isLt
  funext a
  apply Fin.ext
  match a with
  | ⟨0, _⟩ => show lo + 1 * (j 0).val = (lo + (j 0).val) % 16; omega
  | ⟨1, _⟩ => show 0 + 1 * (j 1).val = (j 1).val; omega
  | ⟨2, _⟩ => show 0 + 1 * (j 2).val = (j 2).val; omega

theorem slot_emb {d k : ℕ} (inb : ∀ a, (![k, 0, 0] : Fin 3 → ℕ) a + (⟨3, ![1, 128, d]⟩ : Shape).size a ≤ (⟨3, ![16, 128, d]⟩ : Shape).size a)
    (h : (⟨2, ![128, d]⟩ : Shape).numel = (⟨3, ![1, 128, d]⟩ : Shape).numel) (y : (⟨2, ![128, d]⟩ : Shape).Idx) :
    (Rect.unit (s := ⟨3, ![16, 128, d]⟩) ![k, 0, 0] (⟨3, ![1, 128, d]⟩ : Shape).size inb).emb (Shape.reshapeEquiv h y) = at3 k (y 0) (y 1) := by
  have e : Shape.reshapeEquiv h y = ix3 (0 : Fin 1) (y 0) (y 1) :=
    (congrArg (Shape.reshapeEquiv h) (eq_ix2 y)).trans (reshapeEquiv_ix2_1ab h (y 0) (y 1))
  rw [e]
  exact rect_emb inb _

variable {F : FTy → Type} [FloatOps F]

section Wide

abbrev M6 : Memref sig .tc .vmem S16x128x384 .bf16 := Memref.whole cc0_scratch0
abbrev M7 : Memref sig .tc .vmem S16x128x384 .bf16 := Memref.whole cc0_scratch1
abbrev M8 : Memref sig .tc .vmem S16x128x512 .bf16 := Memref.whole cc0_scratch2
abbrev M9 : Memref sig .tc .vmem S16x128x512 .bf16 := Memref.whole cc0_scratch3

/-- Slot `k` of an array of sixteen. -/
abbrev slotA (M : Memref sig .tc .vmem S16x128x384 .bf16) (k : ℕ) (inb : ∀ a, (![k, 0, 0] : Fin 3 → ℕ) a + S1x128x384.size a ≤ S16x128x384.size a) :
    Memref sig .tc .vmem S128x384 .bf16 :=
  (M.slice (Rect.unit (s := S16x128x384) ![k, 0, 0] S1x128x384.size inb) (fun _ => rfl)).squeeze S128x384 squeezes_S1x128x384_S128x384
abbrev slotB (M : Memref sig .tc .vmem S16x128x512 .bf16) (k : ℕ) (inb : ∀ a, (![k, 0, 0] : Fin 3 → ℕ) a + S1x128x512.size a ≤ S16x128x512.size a) :
    Memref sig .tc .vmem S128x512 .bf16 :=
  (M.slice (Rect.unit (s := S16x128x512) ![k, 0, 0] S1x128x512.size inb) (fun _ => rfl)).squeeze S128x512 squeezes_S1x128x512_S128x512

theorem inbA (k : ℕ) (hk : k < 16) : ∀ a, (![k, 0, 0] : Fin 3 → ℕ) a + S1x128x384.size a ≤ S16x128x384.size a := by
  intro a
  match a with
  | ⟨0, _⟩ => show k + 1 ≤ 16; omega
  | ⟨1, _⟩ => exact Nat.le_refl 128
  | ⟨2, _⟩ => exact Nat.le_refl 384
theorem inbB (k : ℕ) (hk : k < 16) : ∀ a, (![k, 0, 0] : Fin 3 → ℕ) a + S1x128x512.size a ≤ S16x128x512.size a := by
  intro a
  match a with
  | ⟨0, _⟩ => show k + 1 ≤ 16; omega
  | ⟨1, _⟩ => exact Nat.le_refl 128
  | ⟨2, _⟩ => exact Nat.le_refl 512

theorem set6 (k : ℕ) (inb) : (slotA M6 k inb).view.set = bnd k (k + 1) := by
  show (((View.whole cc0_scratch0).slice (Rect.unit (s := S16x128x384) ![k, 0, 0] S1x128x384.size inb)).reshape S128x384 _).set = _
  rw [View.set_reshape, View.set_slice_whole]; exact rect_set inb
theorem set7 (k : ℕ) (inb) : (slotA M7 k inb).view.set = bnd k (k + 1) := by
  show (((View.whole cc0_scratch1).slice (Rect.unit (s := S16x128x384) ![k, 0, 0] S1x128x384.size inb)).reshape S128x384 _).set = _
  rw [View.set_reshape, View.set_slice_whole]; exact rect_set inb
theorem set8 (k : ℕ) (inb) : (slotB M8 k inb).view.set = bnd k (k + 1) := by
  show (((View.whole cc0_scratch2).slice (Rect.unit (s := S16x128x512) ![k, 0, 0] S1x128x512.size inb)).reshape S128x512 _).set = _
  rw [View.set_reshape, View.set_slice_whole]; exact rect_set inb
theorem set9 (k : ℕ) (inb) : (slotB M9 k inb).view.set = bnd k (k + 1) := by
  show (((View.whole cc0_scratch3).slice (Rect.unit (s := S16x128x512) ![k, 0, 0] S1x128x512.size inb)).reshape S128x512 _).set = _
  rw [View.set_reshape, View.set_slice_whole]; exact rect_set inb

theorem copy67 (o s : ℕ) (inbo inbs) (fd fs : Vec F S16x128x384 .bf16) (i : S16x128x384.Idx) (hi : i ∈ bnd s (s + 1)) :
    (slotA M7 s inbs).view.write (Elt F) fd ((slotA M6 o inbo).view.read (Elt F) fs) Finset.univ i = fs (at3 o (i 1) (i 2)) := by
  have e : (slotA M7 s inbs).view.emb (ix2 (i 1) (i 2)) = i := by
    refine (slot_emb inbs _ (ix2 (i 1) (i 2))).trans (at3_self i ?_)
    rw [mem_bnd] at hi; omega
  have e' : (slotA M6 o inbo).view.emb (ix2 (i 1) (i 2)) = at3 o (i 1) (i 2) := slot_emb inbo _ (ix2 (i 1) (i 2))
  conv_lhs => rw [← e]
  rw [View.write_emb_of_mem _ _ (Finset.mem_univ _), View.read_apply, e']
  rfl
theorem copy89 (o s : ℕ) (inbo inbs) (fd fs : Vec F S16x128x512 .bf16) (i : S16x128x512.Idx) (hi : i ∈ bnd s (s + 1)) :
    (slotB M9 s inbs).view.write (Elt F) fd ((slotB M8 o inbo).view.read (Elt F) fs) Finset.univ i = fs (at3 o (i 1) (i 2)) := by
  have e : (slotB M9 s inbs).view.emb (ix2 (i 1) (i 2)) = i := by
    refine (slot_emb inbs _ (ix2 (i 1) (i 2))).trans (at3_self i ?_)
    rw [mem_bnd] at hi; omega
  have e' : (slotB M8 o inbo).view.emb (ix2 (i 1) (i 2)) = at3 o (i 1) (i 2) := slot_emb inbo _ (ix2 (i 1) (i 2))
  conv_lhs => rw [← e]
  rw [View.write_emb_of_mem _ _ (Finset.mem_univ _), View.read_apply, e']
  rfl

/-- The run of `n` slots from `lo` on, as the kernel's loads and stores name it. -/
abbrev runA (lo n : ℕ) (inb : ∀ a, (![lo, 0, 0] : Fin 3 → ℕ) a + (⟨3, ![n, 128, 384]⟩ : Shape).size a ≤ S16x128x384.size a) : Rect S16x128x384 :=
  Rect.unit (s := S16x128x384) ![lo, 0, 0] (⟨3, ![n, 128, 384]⟩ : Shape).size inb
abbrev runB (lo n : ℕ) (inb : ∀ a, (![lo, 0, 0] : Fin 3 → ℕ) a + (⟨3, ![n, 128, 512]⟩ : Shape).size a ≤ S16x128x512.size a) : Rect S16x128x512 :=
  Rect.unit (s := S16x128x512) ![lo, 0, 0] (⟨3, ![n, 128, 512]⟩ : Shape).size inb

theorem read6 (lo n : ℕ) (inb) (f : Vec F S16x128x384 .bf16) : M6.view.readAt (Elt F) (runA lo n inb).toLoadRect f = grp lo n f := by
  funext j; show f ((runA lo n inb).emb j) = _; rw [rect_emb]; rfl
theorem read7 (lo n : ℕ) (inb) (f : Vec F S16x128x384 .bf16) : M7.view.readAt (Elt F) (runA lo n inb).toLoadRect f = grp lo n f := by
  funext j; show f ((runA lo n inb).emb j) = _; rw [rect_emb]; rfl
theorem read8 (lo n : ℕ) (inb) (f : Vec F S16x128x512 .bf16) : M8.view.readAt (Elt F) (runB lo n inb).toLoadRect f = grp lo n f := by
  funext j; show f ((runB lo n inb).emb j) = _; rw [rect_emb]; rfl

theorem read9 (lo n : ℕ) (inb) (f : Vec F S16x128x512 .bf16) : M9.view.readAt (Elt F) (runB lo n inb).toLoadRect f = grp lo n f := by
  funext j; show f ((runB lo n inb).emb j) = _; rw [rect_emb]; rfl

theorem set6run (lo n : ℕ) (inb) : (M6.access (runA lo n inb)).set = bnd lo (lo + n) := by
  show ((View.whole cc0_scratch0).slice (runA lo n inb)).set = _
  rw [View.set_slice_whole]; exact rect_set inb
theorem set7run (lo n : ℕ) (inb) : (M7.access (runA lo n inb)).set = bnd lo (lo + n) := by
  show ((View.whole cc0_scratch1).slice (runA lo n inb)).set = _
  rw [View.set_slice_whole]; exact rect_set inb
theorem set8run (lo n : ℕ) (inb) : (M8.access (runB lo n inb)).set = bnd lo (lo + n) := by
  show ((View.whole cc0_scratch2).slice (runB lo n inb)).set = _
  rw [View.set_slice_whole]; exact rect_set inb
theorem set9run (lo n : ℕ) (inb) : (M9.access (runB lo n inb)).set = bnd lo (lo + n) := by
  show ((View.whole cc0_scratch3).slice (runB lo n inb)).set = _
  rw [View.set_slice_whole]; exact rect_set inb

/-- An element of a run of slots, as the run's own index placed in the array. -/
theorem run_idx {d lo n : ℕ} (i : (⟨3, ![16, 128, d]⟩ : Shape).Idx) (hi : i ∈ bnd lo (lo + n)) :
    ∃ h : (i 0).val - lo < n, at3 (lo + ((ix3 (⟨(i 0).val - lo, h⟩ : Fin n) (i 1) (i 2) : (⟨3, ![n, 128, d]⟩ : Shape).Idx) 0).val) (i 1) (i 2) = i := by
  rw [mem_bnd] at hi
  refine ⟨by omega, at3_self i ?_⟩
  show (i 0).val = lo + ((i 0).val - lo)
  omega

theorem write6 (lo n : ℕ) (inb) (f g : Vec F S16x128x384 .bf16) (w : (⟨3, ![n, 128, 384]⟩ : Shape).Idx → Elt F .bf16)
    (h : ∀ (i : S16x128x384.Idx) (hi : (i 0).val - lo < n), lo ≤ (i 0).val → w (ix3 ⟨(i 0).val - lo, hi⟩ (i 1) (i 2)) = g i)
    (i : S16x128x384.Idx) (hi : i ∈ bnd lo (lo + n)) : (M6.access (runA lo n inb)).write (Elt F) f w Finset.univ i = g i := by
  obtain ⟨h1, e⟩ := run_idx i hi
  have e2 : (M6.access (runA lo n inb)).emb (ix3 ⟨(i 0).val - lo, h1⟩ (i 1) (i 2)) = i := (rect_emb inb _).trans e
  conv_lhs => rw [← e2]
  rw [View.write_emb_of_mem _ _ (Finset.mem_univ _)]
  exact h i h1 (mem_bnd.mp hi).1
theorem write7 (lo n : ℕ) (inb) (f g : Vec F S16x128x384 .bf16) (w : (⟨3, ![n, 128, 384]⟩ : Shape).Idx → Elt F .bf16)
    (h : ∀ (i : S16x128x384.Idx) (hi : (i 0).val - lo < n), lo ≤ (i 0).val → w (ix3 ⟨(i 0).val - lo, hi⟩ (i 1) (i 2)) = g i)
    (i : S16x128x384.Idx) (hi : i ∈ bnd lo (lo + n)) : (M7.access (runA lo n inb)).write (Elt F) f w Finset.univ i = g i := by
  obtain ⟨h1, e⟩ := run_idx i hi
  have e2 : (M7.access (runA lo n inb)).emb (ix3 ⟨(i 0).val - lo, h1⟩ (i 1) (i 2)) = i := (rect_emb inb _).trans e
  conv_lhs => rw [← e2]
  rw [View.write_emb_of_mem _ _ (Finset.mem_univ _)]
  exact h i h1 (mem_bnd.mp hi).1
theorem write8 (lo n : ℕ) (inb) (f g : Vec F S16x128x512 .bf16) (w : (⟨3, ![n, 128, 512]⟩ : Shape).Idx → Elt F .bf16)
    (h : ∀ (i : S16x128x512.Idx) (hi : (i 0).val - lo < n), lo ≤ (i 0).val → w (ix3 ⟨(i 0).val - lo, hi⟩ (i 1) (i 2)) = g i)
    (i : S16x128x512.Idx) (hi : i ∈ bnd lo (lo + n)) : (M8.access (runB lo n inb)).write (Elt F) f w Finset.univ i = g i := by
  obtain ⟨h1, e⟩ := run_idx i hi
  have e2 : (M8.access (runB lo n inb)).emb (ix3 ⟨(i 0).val - lo, h1⟩ (i 1) (i 2)) = i := (rect_emb inb _).trans e
  conv_lhs => rw [← e2]
  rw [View.write_emb_of_mem _ _ (Finset.mem_univ _)]
  exact h i h1 (mem_bnd.mp hi).1
theorem write9 (lo n : ℕ) (inb) (f g : Vec F S16x128x512 .bf16) (w : (⟨3, ![n, 128, 512]⟩ : Shape).Idx → Elt F .bf16)
    (h : ∀ (i : S16x128x512.Idx) (hi : (i 0).val - lo < n), lo ≤ (i 0).val → w (ix3 ⟨(i 0).val - lo, hi⟩ (i 1) (i 2)) = g i)
    (i : S16x128x512.Idx) (hi : i ∈ bnd lo (lo + n)) : (M9.access (runB lo n inb)).write (Elt F) f w Finset.univ i = g i := by
  obtain ⟨h1, e⟩ := run_idx i hi
  have e2 : (M9.access (runB lo n inb)).emb (ix3 ⟨(i 0).val - lo, h1⟩ (i 1) (i 2)) = i := (rect_emb inb _).trans e
  conv_lhs => rw [← e2]
  rw [View.write_emb_of_mem _ _ (Finset.mem_univ _)]
  exact h i h1 (mem_bnd.mp hi).1

end Wide

/-! ## The groups the sixteen slots are made of -/

section Cat
variable {α : Type} {d n0 n1 n2 : ℕ} (f0 : (⟨3, ![n0, 128, d]⟩ : Shape).Idx → α) (f1 : (⟨3, ![n1, 128, d]⟩ : Shape).Idx → α)
  (f2 : (⟨3, ![n2, 128, d]⟩ : Shape).Idx → α) (hn : 16 ≤ n0 + n1 + n2) (i : (⟨3, ![16, 128, d]⟩ : Shape).Idx)

theorem cat3_0 (h : (i 0).val - 0 < n0) : f0 (ix3 ⟨(i 0).val - 0, h⟩ (i 1) (i 2)) = cat3 f0 f1 f2 hn i := by
  have h' : (i 0).val < n0 := h
  unfold cat3; rw [dif_pos h']; rfl
theorem cat3_1 (h : (i 0).val - n0 < n1) (hl : n0 ≤ (i 0).val) : f1 (ix3 ⟨(i 0).val - n0, h⟩ (i 1) (i 2)) = cat3 f0 f1 f2 hn i := by
  unfold cat3; rw [dif_neg (by omega), dif_pos h]
theorem cat3_2 {m : ℕ} (hm : m = n0 + n1) (h : (i 0).val - m < n2) (hl : m ≤ (i 0).val) : f2 (ix3 ⟨(i 0).val - m, h⟩ (i 1) (i 2)) = cat3 f0 f1 f2 hn i := by
  subst hm
  unfold cat3; rw [dif_neg (by omega), dif_neg (by omega)]
  congr 2
  apply Fin.ext; show (i 0).val - (n0 + n1) = (i 0).val - n0 - n1; omega
end Cat

end Cert.Exchange

end
-- ==== Proof.Sched.lean ====
/-
The protocol of the exchange: the semaphores, the rounds, what each arrival hands over, what each device owes, the levels.
-/
module

public import proofs.«01_k».proof.Proof.Fold
public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's own, and the exchange's with numbered duties -/

abbrev UX : Type := URounds (GSem nD τ sig) ℕ
abbrev UA : Type := UR sig nD τ × UX

local notation "𝕄" => MT nD τ sig Unit (Elt F) ℕ UA ℕ

abbrev EPx : Emb (UR sig nD τ) (MT nD τ sig Unit (Elt F) ℕ UA ℕ) := embL
abbrev ERx : Emb UX (MT nD τ sig Unit (Elt F) ℕ UA ℕ) := embR

/-! ## The semaphores -/

abbrev barS : Sem sig := (SemArray.scalar (sig.barrier 0 rfl) : Sems sig S_).sem

/-- Completion semaphore `k` of bank `j`: bank 0 the tokens' departures, 1 their arrivals, 2 the results' departures, 3 their arrivals. -/
def dq (j k : ℕ) : DmaSem sig := ⟨(6 + 16 * j + k) % 70, Nat.mod_lt _ (Nat.succ_pos 69)⟩

theorem dq_val {j k : ℕ} (hj : j < 4) (hk : k < 16) : (dq j k).val = 6 + 16 * j + k :=
  Nat.mod_eq_of_lt (by omega)

theorem dq_inj {j k j' k' : ℕ} (hj : j < 4) (hk : k < 16) (hj' : j' < 4) (hk' : k' < 16) (h : dq j k = dq j' k') : j = j' ∧ k = k' := by
  have e := congrArg Fin.val h
  rw [dq_val hj hk, dq_val hj' hk'] at e
  omega

abbrev semL (j k : ℕ) : SemLoc sig := .dma (dq j k)
abbrev barCell (c : Dev nD) : GSem nD τ sig := ((c : Thread nD τ), .reg barS)
abbrev xCell (j k : ℕ) (c : Dev nD) : GSem nD τ sig := ((c : Thread nD τ), semL j k)

/-! ## What the slots hold, as assertions -/

abbrev p6 (c : Dev nD) (lo hi : ℕ) (f : Vec F S16x128x384 .bf16) : sProp 𝕄 := ((c : Thread nD τ).loc cc0_scratch0) ↦[bnd lo hi]{fullShare} f
abbrev p7 (c : Dev nD) (lo hi : ℕ) (f : Vec F S16x128x384 .bf16) : sProp 𝕄 := ((c : Thread nD τ).loc cc0_scratch1) ↦[bnd lo hi]{fullShare} f
abbrev p8 (c : Dev nD) (lo hi : ℕ) (f : Vec F S16x128x512 .bf16) : sProp 𝕄 := ((c : Thread nD τ).loc cc0_scratch2) ↦[bnd lo hi]{fullShare} f
abbrev p9 (c : Dev nD) (lo hi : ℕ) (f : Vec F S16x128x512 .bf16) : sProp 𝕄 := ((c : Thread nD τ).loc cc0_scratch3) ↦[bnd lo hi]{fullShare} f

/-- Landing slot `s` of device `c` for tokens, for results: at any contents. -/
abbrev land7 (c : Dev nD) (s : ℕ) : sProp 𝕄 := iprop(∃ f, p7 c s (s + 1) f)
abbrev land9 (c : Dev nD) (s : ℕ) : sProp 𝕄 := iprop(∃ f, p9 c s (s + 1) f)

/-- What the ready signal of the device `o` places on hands device `c`: the two landing slots its own copies there will write. -/
def barPay (c : Dev nD) (o : ℕ) : sProp 𝕄 := iprop(land7 (sh c o) (16 - o) ∗ land9 (sh c o) (16 - o))

variable (A : Inp F)

/-- What an arrival on bank `j`'s semaphore `k` of device `c` hands over. -/
def xPay (j k : ℕ) (c : Dev nD) : sProp 𝕄 :=
  if j = 0 then p6 c k (k + 1) (dispC A c) else if j = 1 then p7 c k (k + 1) (recvC A c)
  else if j = 2 then p8 c k (k + 1) (retC A c) else p9 c k (k + 1) (backC A c)

/-! ## The bytes of a slot -/

abbrev N1 : ℕ := (slotA M7 0 (inbA 0 (by decide))).view.dmaCredit
abbrev N2 : ℕ := (slotB M9 0 (inbB 0 (by decide))).view.dmaCredit
theorem N1_pos : 0 < N1 := View.dmaCredit_pos _ (by decide)
theorem N2_pos : 0 < N2 := View.dmaCredit_pos _ (by decide)

theorem credit6 (k : ℕ) (inb) : (slotA M6 k inb).view.dmaCredit = N1 := rfl
theorem credit7 (k : ℕ) (inb) : (slotA M7 k inb).view.dmaCredit = N1 := rfl
theorem credit8 (k : ℕ) (inb) : (slotB M8 k inb).view.dmaCredit = N2 := rfl
theorem credit9 (k : ℕ) (inb) : (slotB M9 k inb).view.dmaCredit = N2 := rfl

/-- The bytes an arrival on bank `j` counts. -/
def bankN (j : ℕ) : ℕ := if j < 2 then N1 else N2
theorem bankN_pos (j : ℕ) : 0 < bankN j := by unfold bankN; split; exact N1_pos; exact N2_pos

/-! ## The schedule -/

/-- Bank and place of a completion semaphore. -/
def bankOf (q : DmaSem sig) : ℕ := (q.val - 6) / 16
def placeOf (q : DmaSem sig) : ℕ := (q.val - 6) % 16

theorem bankOf_dq {j k : ℕ} (hj : j < 4) (hk : k < 16) : bankOf (dq j k) = j := by unfold bankOf; rw [dq_val hj hk]; omega
theorem placeOf_dq {j k : ℕ} (hj : j < 4) (hk : k < 16) : placeOf (dq j k) = k := by unfold placeOf; rw [dq_val hj hk]; omega

/-- The duties of a semaphore's one round: the ready semaphore's fifteen, one on a slot's semaphore, none on the banks' place 0. -/
def dutiesOf : SemLoc sig → Finset ℕ
  | .reg _ => Finset.Icc 1 15
  | .dma q => if placeOf q = 0 then ∅ else {0}

def exRd : Rounds.Schedule (GSem nD τ sig) ℕ 𝕄 where
  duties g r := if r = 0 ∧ g.1.2 = .tc then dutiesOf g.2 else ∅
  unitless _ := False
  amount g _ _ := match g.2 with | .reg _ => 1 | .dma q => bankN (bankOf q)
  payload g _ d := match g.2 with | .reg _ => barPay g.1.1 d | .dma q => xPay A (bankOf q) (placeOf q) g.1.1
  amount_pos g _ _ _ := by
    obtain ⟨t, l⟩ := g
    cases l with
    | reg s => exact Nat.one_pos
    | dma q => exact bankN_pos _

instance exRd_payload_storable (g : GSem nD τ sig) (r : ℕ) (d : ℕ) :
    BI.Storable (upEmb : UEmb _ 𝕄) ((exRd (F := F) A).payload g r d) := by
  obtain ⟨t, l⟩ := g
  cases l with
  | reg s => show BI.Storable upEmb (barPay t.1 d); unfold barPay; infer_instance
  | dma q =>
    show BI.Storable upEmb (xPay A (bankOf q) (placeOf q) t.1)
    unfold xPay
    (repeat' split) <;> infer_instance

section Sched
variable (c : Dev nD) {j k : ℕ}

theorem duties_bar : (exRd (F := F) A).duties (barCell c) 0 = Finset.Icc 1 15 := by
  dsimp only [exRd]; exact if_pos ⟨rfl, rfl⟩
theorem duties_x (hj : j < 4) (hk : k < 16) (hk0 : 0 < k) : (exRd (F := F) A).duties (xCell j k c) 0 = {0} := by
  dsimp only [exRd]
  refine Eq.trans (if_pos ⟨rfl, rfl⟩) ?_
  show (if placeOf (dq j k) = 0 then ∅ else {0} : Finset ℕ) = {0}
  rw [placeOf_dq hj hk, if_neg (by omega)]
theorem duties_x0 (hj : j < 4) : ∀ r, 0 ≤ r → (exRd (F := F) A).duties (xCell j 0 c) r = ∅ := by
  intro r _
  show (if r = 0 ∧ _ then (if placeOf (dq j 0) = 0 then ∅ else {0} : Finset ℕ) else ∅) = ∅
  rw [placeOf_dq hj (by decide), if_pos rfl, ite_self]
theorem duties_later (g : GSem nD τ sig) : ∀ r, 0 + 1 ≤ r → (exRd (F := F) A).duties g r = ∅ :=
  fun r hr => if_neg fun h => by omega

theorem amount_bar (d : ℕ) : (exRd (F := F) A).amount (barCell c) 0 d = 1 := rfl
theorem amount_x (hj : j < 4) (hk : k < 16) (d : ℕ) : (exRd (F := F) A).amount (xCell j k c) 0 d = bankN j := by
  show bankN (bankOf (dq j k)) = _; rw [bankOf_dq hj hk]

theorem expect_bar : (exRd (F := F) A).expect (barCell c) 0 = 15 := by
  unfold Schedule.expect Schedule.amountOf
  rw [duties_bar, Finset.sum_congr rfl fun d _ => amount_bar A c d, Finset.sum_const]
  rfl
theorem expect_x (hj : j < 4) (hk : k < 16) (hk0 : 0 < k) : (exRd (F := F) A).expect (xCell j k c) 0 = bankN j := by
  unfold Schedule.expect Schedule.amountOf
  rw [duties_x A c hj hk hk0, Finset.sum_singleton, amount_x A c hj hk]

theorem payload_bar (d : ℕ) : (exRd (F := F) A).payload (barCell c) 0 d = barPay c d := rfl
theorem payload_x (hj : j < 4) (hk : k < 16) (d : ℕ) : (exRd (F := F) A).payload (xCell j k c) 0 d = xPay A j k c := by
  show xPay A (bankOf (dq j k)) (placeOf (dq j k)) c = _; rw [bankOf_dq hj hk, placeOf_dq hj hk]

theorem rest_x (hj : j < 4) (hk : k < 16) (hk0 : 0 < k) :
    bigSep ((exRd (F := F) A).duties (xCell j k c) 0 \ ∅) (fun d => (exRd (F := F) A).payload (xCell j k c) 0 d) = xPay A j k c := by
  rw [Finset.sdiff_empty, duties_x A c hj hk hk0, bigSep_singleton, payload_x A c hj hk]

theorem rest_bar (l : List ℕ) (hn : l.Nodup) (hl : ∀ o ∈ l, o ∈ Finset.Icc 1 15) :
    bigSep ((exRd (F := F) A).duties (barCell c) 0 \ ∅) (fun d => (exRd (F := F) A).payload (barCell c) 0 d) ⊢ sepL l (barPay (F := F) c) := by
  rw [Finset.sdiff_empty, duties_bar]
  exact sepL_of_bigSep (fun d => barPay (F := F) c d) id l _ (by rw [List.map_id]; exact hn) hl

end Sched

/-! ## What a device owes; the levels -/

/-- Credits at a list of semaphores, the head the last summand. -/
def tot : List (GSem nD τ sig × ℕ) → CellTallies nD τ sig Unit
  | [] => 0
  | p :: l => tot l + tallyAt p.1 () p.2

/-- Device `c`, with signals to make at the distances `a`, tokens to send at `b`, results at `d`, owes their targets' semaphores. -/
def oweL (c : Dev nD) (a b d : List ℕ) : List (GSem nD τ sig × ℕ) :=
  a.map (fun o => (barCell (sh c o), 1)) ++ (b.map (fun o => (xCell 1 (16 - o) (sh c o), N1)) ++ d.map (fun o => (xCell 3 (16 - o) (sh c o), N2)))
def owe (c : Dev nD) (a b d : List ℕ) : CellTallies nD τ sig Unit := tot (oweL c a b d)

theorem owe_sig (c : Dev nD) (o : ℕ) (a b d : List ℕ) : owe c (o :: a) b d = owe c a b d + tallyAt (barCell (sh c o)) () 1 := rfl
theorem owe_tok (c : Dev nD) (o : ℕ) (b d : List ℕ) : owe c [] (o :: b) d = owe c [] b d + tallyAt (xCell 1 (16 - o) (sh c o)) () N1 := rfl
theorem owe_res (c : Dev nD) (o : ℕ) (d : List ℕ) : owe c [] [] (o :: d) = owe c [] [] d + tallyAt (xCell 3 (16 - o) (sh c o)) () N2 := rfl
theorem owe_none (c : Dev nD) : owe c [] [] [] = 0 := rfl

theorem tot_pos : ∀ {l : List (GSem nD τ sig × ℕ)} {g : GSem nD τ sig} {u : Unit}, 0 < tot l g u → ∃ p ∈ l, p.1 = g
  | [], g, u, h => absurd h (Nat.lt_irrefl 0)
  | p :: l, g, u, h => by
    have h' : 0 < (tot l + tallyAt p.1 () p.2) g u := h
    rw [Pi.add_apply, Finsupp.add_apply, tallyAt_apply] at h'
    by_cases hg : g = p.1
    · exact ⟨p, List.mem_cons_self, hg.symm⟩
    · rw [if_neg (fun e => hg e.1), Nat.add_zero] at h'
      obtain ⟨p', hp', e⟩ := tot_pos h'
      exact ⟨p', List.mem_cons_of_mem _ hp', e⟩

def Lx (g : GSem nD τ sig) : Finset Unit := if g.1.2 = .tc then {()} else ∅
/-- Ready signals at 1, token arrivals at 2, result arrivals at 3, everything else at 0. -/
def lvl : SemLoc sig → ℕ
  | .reg _ => 1
  | .dma q => if 22 ≤ q.val ∧ q.val < 38 then 2 else if 54 ≤ q.val then 3 else 0
def lvx (g : GSem nD τ sig) (_ : Unit) : ℕ := lvl g.2

theorem Lx_of_ne (g : GSem nD τ sig) (h : g.1.2 ≠ .tc) : Lx g = ∅ := if_neg h
theorem Lx_tc (c : Dev nD) (sm : SemLoc sig) : Lx ((c : Thread nD τ), sm) = {()} := if_pos rfl

theorem lvl_1 {k : ℕ} (hk : k < 16) : lvl (semL 1 k) = 2 := by
  show (if 22 ≤ (dq 1 k).val ∧ (dq 1 k).val < 38 then 2 else _) = 2
  rw [dq_val (by decide) hk, if_pos (by omega)]
theorem lvl_3 {k : ℕ} (hk : k < 16) : lvl (semL 3 k) = 3 := by
  show (if 22 ≤ (dq 3 k).val ∧ (dq 3 k).val < 38 then 2 else if 54 ≤ (dq 3 k).val then 3 else 0) = 3
  rw [dq_val (by decide) hk, if_neg (by omega), if_pos (by omega)]

/-- What a device owes lies at the level of a signal, of a token arrival or of a result arrival still to be made. -/
theorem owe_pos {c : Dev nD} {a b d : List ℕ} {g : GSem nD τ sig} {u : Unit} (h : 0 < owe c a b d g u) (hb : ∀ o ∈ b, 0 < o) (hd : ∀ o ∈ d, 0 < o) :
    g.1.2 = .tc ∧ ((a ≠ [] ∧ lvl g.2 = 1) ∨ (b ≠ [] ∧ lvl g.2 = 2) ∨ (d ≠ [] ∧ lvl g.2 = 3)) := by
  obtain ⟨p, hp, rfl⟩ := tot_pos h
  unfold oweL at hp
  rw [List.mem_append, List.mem_append, List.mem_map, List.mem_map, List.mem_map] at hp
  rcases hp with ⟨o, ho, rfl⟩ | ⟨o, ho, rfl⟩ | ⟨o, ho, rfl⟩
  · exact ⟨rfl, .inl ⟨List.ne_nil_of_mem ho, rfl⟩⟩
  · have := hb o ho
    exact ⟨rfl, .inr (.inl ⟨List.ne_nil_of_mem ho, lvl_1 (by omega)⟩)⟩
  · have := hd o ho
    exact ⟨rfl, .inr (.inr ⟨List.ne_nil_of_mem ho, lvl_3 (by omega)⟩)⟩

/-- A wait at a level below everything owed is allowed. -/
theorem mayWait_of (c : Dev nD) (sm : SemLoc sig) (a b d : List ℕ) (hb : ∀ o ∈ b, 0 < o) (hd : ∀ o ∈ d, 0 < o) (v : ℕ) (hv : lvl sm ≤ v)
    (ha : a ≠ [] → v < 1) (hb' : b ≠ [] → v < 2) (hd' : d ≠ [] → v < 3) :
    (levAts Lx lvx : sProp 𝕄) ⊢ MayWait (c : Thread nD τ) sm () (owe c a b d) :=
  MayOwe.of_cut (L := Lx) (lev := lvx) v (fun p hp => by rw [Finset.mem_singleton.mp hp, Lx_tc]; exact Finset.mem_singleton_self _)
    (fun g u hg => by rw [show Lx g = {()} from if_pos (owe_pos hg hb hd).1]; exact Finset.mem_singleton_self _)
    (fun p hp => by rw [Finset.mem_singleton.mp hp]; exact hv)
    (fun g u hg => by
      show v < lvl g.2
      rcases (owe_pos hg hb hd).2 with ⟨h1, h2⟩ | ⟨h1, h2⟩ | ⟨h1, h2⟩
      · rw [h2]; exact ha h1
      · rw [h2]; exact hb' h1
      · rw [h2]; exact hd' h1)

/-- The distances in the order of the program's signals and token copies, and in that of its result copies. -/
def ord1 : List ℕ := [1, 2, 3, 4, 5, 6, 7, 8, 9, 10, 11, 12, 13, 14, 15]
def ord2 : List ℕ := [8, 9, 10, 11, 12, 13, 14, 15, 1, 2, 3, 4, 5, 6, 7]

end Cert.Exchange

end
-- ==== Proof.Steps.lean ====
/-
One rule per kind of step of the kernel: a ready signal, the wait for the ready signals, the two kinds of copy, the waits for copies.
-/
module

public import proofs.«01_k».proof.Proof.Sched

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-! ## The records every device keeps: the invariants of all the semaphores, and that none has a round behind it -/

/-- The semaphores of the exchange in one row: the four banks', then the ready semaphore. -/
def csem (i : Fin 65) : SemLoc sig := if i.val < 64 then semL 0 i.val else .reg barS
def kcell (ck : Dev nD × Fin 65) : GSem nD τ sig := ((ck.1 : Thread nD τ), csem ck.2)

def ixOf (j k : ℕ) (hj : j < 4) (hk : k < 16) : Fin 65 := ⟨16 * j + k, by omega⟩
def ixBar : Fin 65 := ⟨64, by decide⟩

theorem kcell_bar (c : Dev nD) : kcell (c, ixBar) = barCell c := by
  unfold kcell csem; rw [if_neg (show ¬ (c, ixBar).2.val < 64 from (by decide : ¬ (64 : ℕ) < 64))]
theorem dq_flat (j k : ℕ) : dq 0 (16 * j + k) = dq j k := by
  apply Fin.ext; show (6 + 16 * 0 + (16 * j + k)) % 70 = (6 + 16 * j + k) % 70
  congr 1; omega
theorem kcell_x (c : Dev nD) {j k : ℕ} (hj : j < 4) (hk : k < 16) : kcell (c, ixOf j k hj hk) = xCell j k c := by
  unfold kcell csem
  have h : (ixOf j k hj hk).val < 64 := by show 16 * j + k < 64; omega
  rw [if_pos h]
  show ((c : Thread nD τ), SemLoc.dma (dq 0 (16 * j + k))) = _
  rw [dq_flat]

abbrev 𝒱x : Variants := Variants.none

variable (A : Inp F) (K : Dev nD × Fin 65 → ℕ)

def records : sProp 𝕄 :=
  iprop((bigSep Finset.univ fun ck : Dev nD × Fin 65 => cellInv ERx (exRd A) (K ck) (kcell ck))
    ∗ (bigSep Finset.univ fun ck : Dev nD × Fin 65 => reached ERx (kcell ck) 0) ∗ levAts Lx lvx)

instance records_persistent : BI.Persistent (records A K) := by unfold records; infer_instance

theorem inv_of (ck : Dev nD × Fin 65) :
    (bigSep Finset.univ fun ck : Dev nD × Fin 65 => (cellInv ERx (exRd A) (K ck) (kcell ck) : sProp 𝕄)) ⊢ cellInv ERx (exRd A) (K ck) (kcell ck) :=
  bigSep_elim (Finset.mem_univ ck)
theorem reached_of (ck : Dev nD × Fin 65) :
    (bigSep Finset.univ fun ck : Dev nD × Fin 65 => (reached ERx (kcell ck) 0 : sProp 𝕄)) ⊢ reached ERx (kcell ck) 0 :=
  bigSep_elim (Finset.mem_univ ck)

theorem rec_x (c : Dev nD) {j k : ℕ} (hj : j < 4) (hk : k < 16) :
    (records A K : sProp 𝕄) ⊢ iprop(cellInv ERx (exRd A) (K (c, ixOf j k hj hk)) (xCell j k c) ∗ reached ERx (xCell j k c) 0) := by
  unfold records
  iintro ⟨#HI, #HR, -⟩
  rw [← kcell_x c hj hk]
  isplitr
  · iapply (inv_of A K (c, ixOf j k hj hk)); iexact HI
  · iapply (reached_of (F := F) (c, ixOf j k hj hk)); iexact HR

theorem rec_bar (c : Dev nD) :
    (records A K : sProp 𝕄) ⊢ iprop(cellInv ERx (exRd A) (K (c, ixBar)) (barCell c) ∗ reached ERx (barCell c) 0) := by
  unfold records
  iintro ⟨#HI, #HR, -⟩
  rw [← kcell_bar c]
  isplitr
  · iapply (inv_of A K (c, ixBar)); iexact HI
  · iapply (reached_of (F := F) (c, ixBar)); iexact HR

theorem rec_lev : (records A K : sProp 𝕄) ⊢ levAts Lx lvx := by
  unfold records
  iintro ⟨-, -, #HL⟩; iexact HL

/-- What device `c` owes, at some set of waits behind it. -/
def ow (c : Dev nD) (a b d : List ℕ) : sProp 𝕄 := iprop(∃ W : Waits sig Unit, owes (c : Thread nD τ) (owe c a b d) W)

/-! ## The ready signals -/

/-- What signalling the device `o` places on takes: the duty's token, and the two landing slots handed over. -/
def sigRes (c : Dev nD) (o : ℕ) : sProp 𝕄 := iprop(dutyTok ERx (barCell (sh c o)) 0 (16 - o) ∗ land7 c o ∗ land9 c o)

theorem step_signal (c n : Dev nD) (o : ℕ) (h0 : 0 < o) (h16 : o < 16) (hn : n = sh c o) (a b d : List ℕ) (k' : ℕ) (hk : k' = 1)
    {α : Type} {Q : α → sProp 𝕄} {k : PUnit → Prog (TpuEff nD τ sig (Elt F) Λ₀ .tc) α} :
    iprop(records A K ∗ ow c (o :: a) b d ∗ sepL (o :: a) (sigRes (F := F) c))
      ⊢ iprop((ow c a b d ∗ sepL a (sigRes (F := F) c) -∗ wp frame (wpE (defs₀ (F := F)) 𝒱x (c : Thread nD τ) none) Set.univ (k ⟨⟩) Q)
          -∗ wp frame (wpE (defs₀ (F := F)) 𝒱x (c : Thread nD τ) none) Set.univ (.op (.semSignal (Dev.tc n : Thread nD τ) barS k') k) Q) := by
  subst hn hk
  rw [sepL_cons]
  unfold ow sigRes
  iintro ⟨#HR, ⟨%W, HO⟩, ⟨Ht, H7, H9⟩, T⟩
  iintro Hk
  ihave HB := (rec_bar A K (sh c o)) $$ HR
  icases HB with ⟨#HI, #Hr⟩
  iapply (Rounds.wp_signal 𝒱x ERx (exRd A) (c : Thread nD τ) none (dst := (sh c o : Thread nD τ)) (κ := K (sh c o, ixBar))
      (d := 16 - o) (by rw [duties_bar, Finset.mem_Icc]; omega) (amount_bar A (sh c o) (16 - o)) () (owe c a b d) (owe_sig c o a b d))
    $$ [HO Ht H7 H9]
  · isplitr; · iexact HI
    isplitl [HO]; · iexact HO
    isplitl [Ht]; · iexact Ht
    isplitl [H7 H9]
    · rw [payload_bar]; unfold barPay
      rw [sh_sh (by omega) c, show 16 - (16 - o) = o by omega]
      isplitl [H7] <;> iassumption
    · iexact Hr
  iintro HO
  iapply Hk
  isplitl [HO]
  · iexists W; iexact HO
  · iexact T

theorem step_bar (c : Dev nD) (k' : ℕ) (hk : k' = 15)
    {α : Type} {Q : α → sProp 𝕄} {k : PUnit → Prog (TpuEff nD τ sig (Elt F) Λ₀ .tc) α} :
    iprop(records A K ∗ ow c [] ord1 ord2 ∗ cred (tallyAt (barCell c) () 15) ∗ atPos ERx (barCell c) 0 ∅ 0)
      ⊢ iprop((ow c [] ord1 ord2 ∗ atPos ERx (barCell c) (0 + 1) ∅ 0 ∗ sepL ord1 (barPay (F := F) c)
            -∗ wp frame (wpE (defs₀ (F := F)) 𝒱x (c : Thread nD τ) none) Set.univ (k ⟨⟩) Q)
          -∗ wp frame (wpE (defs₀ (F := F)) 𝒱x (c : Thread nD τ) none) Set.univ (.op (.semWait barS k') k) Q) := by
  subst hk
  unfold ow
  iintro ⟨#HR, ⟨%W, HO⟩, Hc, Hat⟩
  iintro Hk
  ihave HB := (rec_bar A K c) $$ HR
  icases HB with ⟨#HI, -⟩
  ihave HL := (rec_lev A K) $$ HR
  iapply (Rounds.wp_wait_rest_token 𝒱x ERx (exRd A) (c : Thread nD τ) none (κ := K (c, ixBar))
      (wpE_semWait_eq 𝒱x (c : Thread nD τ) none Set.univ) (Set.mem_univ _) () (O := owe c [] ord1 ord2) (W := W) (R := 0) (m := 0) (T := ∅)
      (by rw [expect_bar])) $$ [Hc HO Hat HL]
  · isplitr; · iexact HI
    isplitl [Hc]; · iexact Hc
    isplitl [HO]; · iexact HO
    isplitl [HL]
    · iapply (mayWait_of c (.reg barS) [] ord1 ord2 (by decide) (by decide) 1 (Nat.le_refl 1) (fun h => absurd rfl h) (fun _ => by decide) (fun _ => by decide))
      iexact HL
    iexact Hat
  iintro ⟨HO, Hat, -, Hpay⟩
  ihave Hp := (rest_bar A c ord1 (by decide) (by decide)) $$ Hpay
  iapply Hk
  isplitl [HO]
  · iexists (insert (SemLoc.reg barS, ()) W); iexact HO
  isplitl [Hat] <;> iassumption

/-! ## The copies -/

/-- What copying to the device `o` places on takes: the two duties' tokens, the slot sent and the slot there it lands in. -/
def tokRes (c : Dev nD) (o : ℕ) : sProp 𝕄 :=
  iprop((dutyTok ERx (xCell 0 o c) 0 0 ∗ dutyTok ERx (xCell 1 (16 - o) (sh c o)) 0 0) ∗ land7 (sh c o) (16 - o))
def resRes (c : Dev nD) (o : ℕ) : sProp 𝕄 :=
  iprop((dutyTok ERx (xCell 2 o c) 0 0 ∗ dutyTok ERx (xCell 3 (16 - o) (sh c o)) 0 0) ∗ land9 (sh c o) (16 - o))

def credRes (j : ℕ) (c : Dev nD) (k : ℕ) : sProp 𝕄 := cred (tallyAt (xCell j k c) () (bankN j))

theorem land_tok (c : Dev nD) (o s : ℕ) (h0 : 0 < o) (hs : 0 < s) (hos : o + s = 16) (inbo inbs) (fd : Vec F S16x128x384 .bf16) (i : S16x128x384.Idx)
    (hi : i ∈ bnd s (s + 1)) :
    (slotA M7 s inbs).view.write (Elt F) fd ((slotA M6 o inbo).view.read (Elt F) (dispC A c)) Finset.univ i = recvC A (sh c o) i := by
  rw [copy67 o s inbo inbs fd _ i hi]
  rw [mem_bnd] at hi
  have e : (i 0).val = s := by omega
  unfold recvC
  rw [if_neg (by omega), e, sh_sh hos c, show 16 - s = o by omega]
theorem land_res (c : Dev nD) (o s : ℕ) (h0 : 0 < o) (hs : 0 < s) (hos : o + s = 16) (inbo inbs) (fd : Vec F S16x128x512 .bf16) (i : S16x128x512.Idx)
    (hi : i ∈ bnd s (s + 1)) :
    (slotB M9 s inbs).view.write (Elt F) fd ((slotB M8 o inbo).view.read (Elt F) (retC A c)) Finset.univ i = backC A (sh c o) i := by
  rw [copy89 o s inbo inbs fd _ i hi]
  rw [mem_bnd] at hi
  have e : (i 0).val = s := by omega
  unfold backC
  rw [if_neg (by omega), e, sh_sh hos c, show 16 - s = o by omega]

theorem step_tok (c n : Dev nD) (o s : ℕ) (h0 : 0 < o) (hs : 0 < s) (hos : o + s = 16) (hn : n = sh c o) (b d dn : List ℕ)
    (inbo inbs) (qS qR : DmaSem sig) (hqS : qS = dq 0 o) (hqR : qR = dq 1 s)
    {hsc : (slotA M7 s inbs : Memref sig (Dev.tc n : Thread nD τ).2.kind .vmem S128x384 .bf16).view.ref.isScScratch = false}
    {hsrc : (slotA M6 o inbo).view.WordExact} {hdst : (slotA M7 s inbs).view.WordExact}
    {hsem : DmaTarget.Typed .vmem (.dma qR) (.remote (Dev.tc n : Thread nD τ) (slotA M7 s inbs) (.dma qS) hsc)}
    {α : Type} {Q : α → sProp 𝕄} {k : PUnit → Prog (TpuEff nD τ sig (Elt F) Λ₀ .tc) α} :
    iprop(records A K ∗ ow c [] (o :: b) d ∗ sepL (o :: b) (tokRes (F := F) c) ∗ p6 c o (o + 1) (dispC A c) ∗ sepL dn (credRes (F := F) 0 c))
      ⊢ iprop((ow c [] b d ∗ sepL b (tokRes (F := F) c) ∗ sepL (o :: dn) (credRes (F := F) 0 c)
            -∗ wp frame (wpE (defs₀ (F := F)) 𝒱x (c : Thread nD τ) none) Set.univ (k ⟨⟩) Q)
          -∗ wp frame (wpE (defs₀ (F := F)) 𝒱x (c : Thread nD τ) none) Set.univ
              (.op (.enqueueDma (slotA M6 o inbo) (.remote (Dev.tc n : Thread nD τ) (slotA M7 s inbs) (.dma qS) hsc) (.dma qR) hsrc hdst hsem) k) Q) := by
  subst hn hqS hqR
  rw [sepL_cons, sepL_cons]
  unfold ow tokRes land7
  have hs' : 16 - o = s := by omega
  rw [hs']
  iintro ⟨#HR, ⟨%W, HO⟩, ⟨⟨⟨Ht1, Ht2⟩, %fd, H7⟩, T⟩, H6, D⟩
  iintro Hk
  ihave HB := (rec_x A K c (j := 0) (k := o) (by decide) (by omega)) $$ HR
  icases HB with ⟨#HI1, #Hr1⟩
  ihave HB := (rec_x A K (sh c o) (j := 1) (k := s) (by decide) (by omega)) $$ HR
  icases HB with ⟨#HI2, #Hr2⟩
  have hsnd := Rounds.wp_send_pointsTo (defs := defs₀ (F := F)) (Es := Set.univ) (Γ := .empty) 𝒱x ERx (exRd A) (c : Thread nD τ) none (c' := (Dev.tc (sh c o) : Thread nD τ)) (src := slotA M6 o inbo) (dst := slotA M7 s inbs)
    (κ₁ := K (c, ixOf 0 o (by decide) (by omega))) (κ₂ := K (sh c o, ixOf 1 s (by decide) (by omega)))
    (sS := .dma (dq 0 o)) (sem := .dma (dq 1 s)) (hsc := hsc) (hsrc := hsrc) (hdst := hdst) (hsem := hsem) (k := k) (Q := Q) (q := fullShare) (fs := dispC A c)
    (r₁ := 0) (r₂ := 0) (d₁ := 0) (d₂ := 0) (fd := fd)
    (by rw [duties_x A c (by decide) (by omega) h0]; exact Finset.mem_singleton_self _)
    (by rw [duties_x A (sh c o) (by decide) (by omega) hs]; exact Finset.mem_singleton_self _)
    () () N1 rfl (amount_x A c (by decide) (by omega) 0) (amount_x A (sh c o) (by decide) (by omega) 0)
    (owe c [] b d) ((owe_tok c o b d).trans (by rw [hs'])) (W := W)
    (by rw [payload_x A c (by decide) (by omega)]; unfold xPay; rw [if_pos rfl, set6])
    (by
      rw [payload_x A (sh c o) (by decide) (by omega)]; unfold xPay; rw [if_neg (by decide), if_pos rfl, set7]
      exact Entails.of_eq (pointsTo_congr (fun i hi => land_tok A c o s h0 hs hos inbo inbs fd i hi)))
  rw [set6, set7] at hsnd
  iapply hsnd $$ [HO Ht1 Ht2 H7 H6]
  · isplitr; · iexact HI1
    isplitr; · iexact HI2
    isplitl [H6]; · iexact H6
    isplitl [H7]; · iexact H7
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  isplitl [T]
  · iexact T
  isplitl [Hc]
  · unfold credRes; iexact Hc
  · iexact D

theorem xPay_2 (c : Dev nD) (k : ℕ) : (xPay A 2 k c : sProp 𝕄) = p8 c k (k + 1) (retC A c) := by
  unfold xPay; rw [if_neg (by decide), if_neg (by decide), if_pos rfl]
theorem xPay_3 (c : Dev nD) (k : ℕ) : (xPay A 3 k c : sProp 𝕄) = p9 c k (k + 1) (backC A c) := by
  unfold xPay; rw [if_neg (by decide), if_neg (by decide), if_neg (by decide)]
theorem xPay_0 (c : Dev nD) (k : ℕ) : (xPay A 0 k c : sProp 𝕄) = p6 c k (k + 1) (dispC A c) := by
  unfold xPay; rw [if_pos rfl]
theorem xPay_1 (c : Dev nD) (k : ℕ) : (xPay A 1 k c : sProp 𝕄) = p7 c k (k + 1) (recvC A c) := by
  unfold xPay; rw [if_neg (by decide), if_pos rfl]

theorem step_res (c n : Dev nD) (o s : ℕ) (h0 : 0 < o) (hs : 0 < s) (hos : o + s = 16) (hn : n = sh c o) (d dn : List ℕ)
    (inbo inbs) (qS qR : DmaSem sig) (hqS : qS = dq 2 o) (hqR : qR = dq 3 s)
    {hsc : (slotB M9 s inbs : Memref sig (Dev.tc n : Thread nD τ).2.kind .vmem S128x512 .bf16).view.ref.isScScratch = false}
    {hsrc : (slotB M8 o inbo).view.WordExact} {hdst : (slotB M9 s inbs).view.WordExact}
    {hsem : DmaTarget.Typed .vmem (.dma qR) (.remote (Dev.tc n : Thread nD τ) (slotB M9 s inbs) (.dma qS) hsc)}
    {α : Type} {Q : α → sProp 𝕄} {k : PUnit → Prog (TpuEff nD τ sig (Elt F) Λ₀ .tc) α} :
    iprop(records A K ∗ ow c [] [] (o :: d) ∗ sepL (o :: d) (resRes (F := F) c) ∗ p8 c o (o + 1) (retC A c) ∗ sepL dn (credRes (F := F) 2 c))
      ⊢ iprop((ow c [] [] d ∗ sepL d (resRes (F := F) c) ∗ sepL (o :: dn) (credRes (F := F) 2 c)
            -∗ wp frame (wpE (defs₀ (F := F)) 𝒱x (c : Thread nD τ) none) Set.univ (k ⟨⟩) Q)
          -∗ wp frame (wpE (defs₀ (F := F)) 𝒱x (c : Thread nD τ) none) Set.univ
              (.op (.enqueueDma (slotB M8 o inbo) (.remote (Dev.tc n : Thread nD τ) (slotB M9 s inbs) (.dma qS) hsc) (.dma qR) hsrc hdst hsem) k) Q) := by
  subst hn hqS hqR
  rw [sepL_cons, sepL_cons]
  unfold ow resRes land9
  have hs' : 16 - o = s := by omega
  rw [hs']
  iintro ⟨#HR, ⟨%W, HO⟩, ⟨⟨⟨Ht1, Ht2⟩, %fd, H7⟩, T⟩, H6, D⟩
  iintro Hk
  ihave HB := (rec_x A K c (j := 2) (k := o) (by decide) (by omega)) $$ HR
  icases HB with ⟨#HI1, #Hr1⟩
  ihave HB := (rec_x A K (sh c o) (j := 3) (k := s) (by decide) (by omega)) $$ HR
  icases HB with ⟨#HI2, #Hr2⟩
  have hsnd := Rounds.wp_send_pointsTo (defs := defs₀ (F := F)) (Es := Set.univ) (Γ := .empty) 𝒱x ERx (exRd A) (c : Thread nD τ) none (c' := (Dev.tc (sh c o) : Thread nD τ)) (src := slotB M8 o inbo) (dst := slotB M9 s inbs)
    (κ₁ := K (c, ixOf 2 o (by decide) (by omega))) (κ₂ := K (sh c o, ixOf 3 s (by decide) (by omega)))
    (sS := .dma (dq 2 o)) (sem := .dma (dq 3 s)) (hsc := hsc) (hsrc := hsrc) (hdst := hdst) (hsem := hsem) (k := k) (Q := Q) (q := fullShare) (fs := retC A c)
    (r₁ := 0) (r₂ := 0) (d₁ := 0) (d₂ := 0) (fd := fd)
    (by rw [duties_x A c (by decide) (by omega) h0]; exact Finset.mem_singleton_self _)
    (by rw [duties_x A (sh c o) (by decide) (by omega) hs]; exact Finset.mem_singleton_self _)
    () () N2 rfl (amount_x A c (by decide) (by omega) 0) (amount_x A (sh c o) (by decide) (by omega) 0)
    (owe c [] [] d) ((owe_res c o d).trans (by rw [hs'])) (W := W)
    (by rw [payload_x A c (by decide) (by omega), xPay_2, set8])
    (by
      rw [payload_x A (sh c o) (by decide) (by omega), xPay_3, set9]
      exact Entails.of_eq (pointsTo_congr (fun i hi => land_res A c o s h0 hs hos inbo inbs fd i hi)))
  rw [set8, set9] at hsnd
  iapply hsnd $$ [HO Ht1 Ht2 H7 H6]
  · isplitr; · iexact HI1
    isplitr; · iexact HI2
    isplitl [H6]; · iexact H6
    isplitl [H7]; · iexact H7
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  isplitl [T]
  · iexact T
  isplitl [Hc]
  · unfold credRes; iexact Hc
  · iexact D

/-! ## The waits for copies -/

/-- What a wait on bank `j`'s semaphore `k` takes: the credit of the arrival and the place before it. -/
def waitRes (j : ℕ) (c : Dev nD) (k : ℕ) : sProp 𝕄 := iprop(credRes (F := F) j c k ∗ atPos ERx (xCell j k c) 0 ∅ 0)
/-- What it leaves: the place behind it; -/
def doneRes (j : ℕ) (c : Dev nD) (k : ℕ) : sProp 𝕄 := atPos ERx (xCell j k c) (0 + 1) ∅ 0
/-- and what the arrival handed over. -/
def payRes (j : ℕ) (c : Dev nD) (k : ℕ) : sProp 𝕄 := xPay A j k c

theorem step_wait (j i : ℕ) (hj : j < 4) (hi : i < 16) (hi0 : 0 < i) (c : Dev nD) (d l dn pn : List ℕ) (hd : ∀ o ∈ d, 0 < o) (hl : d = [] ∨ j = 1)
    (q : DmaSem sig) (hq : q = dq j i) {sp sp' : Space} {s s' : Shape} {e e' : EltTy} {src : Memref sig .tc sp' s' e'} {dst : Memref sig .tc sp s e}
    {hsrc : src.view.WordExact} {hdst : dst.view.WordExact} (hN : dst.view.dmaCredit = bankN j)
    {α : Type} {Q : α → sProp 𝕄} {k : PUnit → Prog (TpuEff nD τ sig (Elt F) Λ₀ .tc) α} :
    iprop(records A K ∗ ow c [] [] d ∗ sepL (i :: l) (waitRes (F := F) j c) ∗ sepL dn (doneRes (F := F) j c) ∗ sepL pn (payRes A j c))
      ⊢ iprop((ow c [] [] d ∗ sepL l (waitRes (F := F) j c) ∗ sepL (i :: dn) (doneRes (F := F) j c) ∗ sepL (i :: pn) (payRes A j c)
            -∗ wp frame (wpE (defs₀ (F := F)) 𝒱x (c : Thread nD τ) none) Set.univ (k ⟨⟩) Q)
          -∗ wp frame (wpE (defs₀ (F := F)) 𝒱x (c : Thread nD τ) none) Set.univ (.op (.waitDma2 q src dst hsrc hdst) k) Q) := by
  subst hq
  rw [sepL_cons, sepL_cons, sepL_cons]
  unfold ow waitRes credRes
  iintro ⟨#HR, ⟨%W, HO⟩, ⟨⟨Hc, Hat⟩, T⟩, D, P⟩
  iintro Hk
  ihave HB := (rec_x A K c (j := j) (k := i) hj hi) $$ HR
  icases HB with ⟨#HI, -⟩
  ihave HL := (rec_lev A K) $$ HR
  iapply (Rounds.wp_wait_rest_token 𝒱x ERx (exRd A) (c : Thread nD τ) none (κ := K (c, ixOf j i hj hi))
      (wpE_waitDma2_eq 𝒱x (c : Thread nD τ) none Set.univ) (Set.mem_univ _) () (O := owe c [] [] d) (W := W) (R := 0) (m := 0) (T := ∅)
      (by rw [expect_x A c hj hi hi0, Nat.zero_add]; exact hN)) $$ [Hc HO Hat HL]
  · isplitr; · iexact HI
    isplitl [Hc]; · rw [hN]; iexact Hc
    isplitl [HO]; · iexact HO
    isplitl [HL]
    · rcases hl with rfl | rfl
      · rw [owe_none, MayWait_zero]; iempintro
      · iapply (mayWait_of c (semL 1 i) [] [] d (by decide) hd 2 (Nat.le_of_eq (lvl_1 hi)) (fun h => absurd rfl h) (fun h => absurd rfl h) (fun _ => by decide))
        iexact HL
    iexact Hat
  iintro ⟨HO, Hat, -, Hpay⟩
  ihave Hp := (Entails.of_eq (rest_x A c hj hi hi0)) $$ Hpay
  iapply Hk
  isplitl [HO]
  · iexists (insert (semL j i, ()) W); iexact HO
  isplitl [T]
  · iexact T
  isplitl [Hat D]
  · isplitl [Hat]
    · unfold doneRes; iexact Hat
    · iexact D
  isplitl [Hp]
  · unfold payRes; iexact Hp
  · iexact P

/-! ## The semaphores closed -/

theorem close_x (j : ℕ) (hj : j < 4) (c : Dev nD) : ∀ l : List ℕ, (∀ i ∈ l, i < 16) →
    iprop(records A K ∗ sepL l (doneRes (F := F) j c)) ⊢ iprop(|={Set.univ}=> sepL l (fun i => semVal (xCell j i c) 0))
  | [], _ => by
    rw [sepL_nil, sepL_nil]
    iintro ⟨-, -⟩; imodintro; iempintro
  | i :: l, h => by
    have hi := h i List.mem_cons_self
    rw [sepL_cons, sepL_cons]
    iintro ⟨#HR, Hat, T⟩
    ihave HB := (rec_x A K c (j := j) (k := i) hj hi) $$ HR
    icases HB with ⟨#HI, -⟩
    imod (close_x j hj c l (fun o ho => h o (List.mem_cons_of_mem _ ho))) $$ [T] with HT
    · isplitr; · iexact HR
      iexact T
    unfold doneRes
    imod (Rounds.cell_close ERx (exRd A) (Set.mem_univ (K (c, ixOf j i hj hi))) (fun h => h) (R := 0 + 1) (duties_later A (xCell j i c))) $$ [Hat] with Hz
    · isplitr; · iexact HI
      iexact Hat
    imodintro
    isplitl [Hz] <;> iassumption

theorem close_0 (j : ℕ) (hj : j < 4) (c : Dev nD) :
    iprop(records A K ∗ atPos ERx (xCell j 0 c) 0 ∅ 0) ⊢ iprop(|={Set.univ}=> semVal (xCell j 0 c) 0) := by
  iintro ⟨#HR, Hat⟩
  ihave HB := (rec_x A K c (j := j) (k := 0) hj (by decide)) $$ HR
  icases HB with ⟨#HI, -⟩
  imod (Rounds.cell_close ERx (exRd A) (Set.mem_univ (K (c, ixOf j 0 hj (by decide)))) (fun h => h) (R := 0) (duties_x0 A c hj)) $$ [Hat] with Hz
  · isplitr; · iexact HI
    iexact Hat
  imodintro; iexact Hz

theorem close_bar (c : Dev nD) :
    iprop(records A K ∗ atPos ERx (barCell c) (0 + 1) ∅ 0) ⊢ iprop(|={Set.univ}=> semVal (barCell c) 0) := by
  iintro ⟨#HR, Hat⟩
  ihave HB := (rec_bar A K c) $$ HR
  icases HB with ⟨#HI, -⟩
  imod (Rounds.cell_close ERx (exRd A) (Set.mem_univ (K (c, ixBar))) (fun h => h) (R := 0 + 1) (duties_later A (barCell c))) $$ [Hat] with Hz
  · isplitr; · iexact HI
    iexact Hat
  imodintro; iexact Hz

end Cert.Exchange

end
-- ==== Proof.Phases.lean ====
/-
The steps of the kernel's body as rules that keep everything else in a frame: the records, what is owed, the resources of the step, the rest.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

/-- The weakest precondition of a program of device `c`'s core. -/
abbrev wpx (c : Dev nD) {α : Type} (p : Prog (TpuEff nD τ sig (Elt F) Λ₀ .tc) α) (Q : α → sProp 𝕄) : sProp 𝕄 :=
  wp frame (wpE (defs₀ (F := F)) 𝒱x (c : Thread nD τ) none) Set.univ p Q

variable (A : Inp F) (K : Dev nD × Fin 65 → ℕ) (c : Dev nD)

/-! ## The resources of the phases -/

/-- Tokens to send at the distances `b`, of which the slots `q` are filled, the copies `dn` made. -/
def tokS (b q dn : List ℕ) : sProp 𝕄 :=
  iprop(sepL b (tokRes (F := F) c) ∗ sepL q (fun o => p6 c o (o + 1) (dispC A c)) ∗ sepL dn (credRes (F := F) 0 c))
/-- Results to send at the distances `d`, of which the slots `q` are filled, the copies `dn` made. -/
def resS (d q dn : List ℕ) : sProp 𝕄 :=
  iprop(sepL d (resRes (F := F) c) ∗ sepL q (fun o => p8 c o (o + 1) (retC A c)) ∗ sepL dn (credRes (F := F) 2 c))
/-- Arrivals on bank `j` to wait for at the slots `l`, those of `dn` waited for, of `pn` in hand. -/
def waitS (j : ℕ) (l dn pn : List ℕ) : sProp 𝕄 :=
  iprop(sepL l (waitRes (F := F) j c) ∗ sepL dn (doneRes (F := F) j c) ∗ sepL pn (payRes A j c))
/-- The five staged inputs. -/
def inpS : sProp 𝕄 :=
  iprop((((c : Thread nD τ).loc cc0_stg0_0) ↦{fullShare} A.x c) ∗ (((c : Thread nD τ).loc cc0_stg1_0) ↦{fullShare} A.rw c)
    ∗ (((c : Thread nD τ).loc cc0_stg2_0) ↦{fullShare} A.idx c) ∗ (((c : Thread nD τ).loc cc0_stg3_0) ↦{fullShare} A.ew c)
    ∗ (((c : Thread nD τ).loc cc0_stg4_0) ↦{fullShare} A.sw c))

variable {X : sProp (MT nD τ sig Unit (Elt F) ℕ UA ℕ)} {O : sProp (MT nD τ sig Unit (Elt F) ℕ UA ℕ)}
  {P : sProp (MT nD τ sig Unit (Elt F) ℕ UA ℕ)} {P' : sProp (MT nD τ sig Unit (Elt F) ℕ UA ℕ)} {G : sProp (MT nD τ sig Unit (Elt F) ℕ UA ℕ)}
  {α : Type} {Q : α → sProp (MT nD τ sig Unit (Elt F) ℕ UA ℕ)}

/-! ## Rearrangements -/

theorem rot2 (h : iprop(records A K ∗ O ∗ P' ∗ P ∗ X) ⊢ G) : iprop(records A K ∗ O ∗ P ∗ P' ∗ X) ⊢ G := by
  refine BIBase.Entails.trans ?_ h
  iintro ⟨H1, H2, H3, H4, H5⟩
  isplitl [H1]; · iexact H1
  isplitl [H2]; · iexact H2
  isplitl [H4]; · iexact H4
  isplitl [H3] <;> iassumption

theorem rot3 {P'' : sProp (MT nD τ sig Unit (Elt F) ℕ UA ℕ)} (h : iprop(records A K ∗ O ∗ P'' ∗ P ∗ P' ∗ X) ⊢ G) :
    iprop(records A K ∗ O ∗ P ∗ P' ∗ P'' ∗ X) ⊢ G := by
  refine BIBase.Entails.trans ?_ h
  iintro ⟨H1, H2, H3, H4, H5, H6⟩
  isplitl [H1]; · iexact H1
  isplitl [H2]; · iexact H2
  isplitl [H5]; · iexact H5
  isplitl [H3]; · iexact H3
  isplitl [H4] <;> iassumption

theorem rot4 {P'' P₃ : sProp (MT nD τ sig Unit (Elt F) ℕ UA ℕ)} (h : iprop(records A K ∗ O ∗ P₃ ∗ P ∗ P' ∗ P'' ∗ X) ⊢ G) :
    iprop(records A K ∗ O ∗ P ∗ P' ∗ P'' ∗ P₃ ∗ X) ⊢ G := by
  refine BIBase.Entails.trans ?_ h
  iintro ⟨H1, H2, H3, H4, H5, H6, H7⟩
  isplitl [H1]; · iexact H1
  isplitl [H2]; · iexact H2
  isplitl [H6]; · iexact H6
  isplitl [H3]; · iexact H3
  isplitl [H4]; · iexact H4
  isplitl [H5] <;> iassumption

theorem conv1 (hP : P ⊢ P') (h : iprop(records A K ∗ O ∗ P' ∗ X) ⊢ G) : iprop(records A K ∗ O ∗ P ∗ X) ⊢ G := by
  refine BIBase.Entails.trans ?_ h
  iintro ⟨H1, H2, H3, H4⟩
  isplitl [H1]; · iexact H1
  isplitl [H2]; · iexact H2
  isplitl [H3]; · iapply hP; iexact H3
  iexact H4

/-- A resource set aside into the frame; taken out of it. -/
theorem aside (h : iprop(records A K ∗ O ∗ P' ∗ P ∗ X) ⊢ G) : iprop(records A K ∗ O ∗ (P ∗ P') ∗ X) ⊢ G := by
  refine BIBase.Entails.trans ?_ h
  iintro ⟨H1, H2, ⟨H3, H4⟩, H5⟩
  isplitl [H1]; · iexact H1
  isplitl [H2]; · iexact H2
  isplitl [H4]; · iexact H4
  isplitl [H3] <;> iassumption
theorem joinup (h : iprop(records A K ∗ O ∗ (P ∗ P') ∗ X) ⊢ G) : iprop(records A K ∗ O ∗ P ∗ P' ∗ X) ⊢ G := by
  refine BIBase.Entails.trans ?_ h
  iintro ⟨H1, H2, H3, H4, H5⟩
  isplitl [H1]; · iexact H1
  isplitl [H2]; · iexact H2
  isplitl [H3 H4]
  · isplitl [H3] <;> iassumption
  · iexact H5

theorem ret_of {c : Dev nD} {r : α} (h : P ⊢ Q r) : P ⊢ wpx c (.ret r) Q := by
  unfold wpx
  rw [wp_ret]
  iintro H
  imodintro
  iapply h
  iexact H

/-! ## Signals, copies, waits -/

variable {k : PUnit → Prog (TpuEff nD τ sig (Elt F) Λ₀ .tc) α}

theorem run_sig (n : Dev nD) (o : ℕ) (h0 : 0 < o) (h16 : o < 16) (hn : n = sh c o) (a : List ℕ) (k' : ℕ) (hk : k' = 1)
    (h : iprop(records A K ∗ ow c a ord1 ord2 ∗ sepL a (sigRes (F := F) c) ∗ X) ⊢ wpx c (k ⟨⟩) Q) :
    iprop(records A K ∗ ow c (o :: a) ord1 ord2 ∗ sepL (o :: a) (sigRes (F := F) c) ∗ X)
      ⊢ wpx c (.op (.semSignal (Dev.tc n : Thread nD τ) barS k') k) Q := by
  iintro ⟨#HR, HO, HS, HX⟩
  iapply (step_signal A K c n o h0 h16 hn a ord1 ord2 k' hk) $$ [HO HS]
  · isplitr; · iexact HR
    isplitl [HO] <;> iassumption
  iintro ⟨HO, HS⟩
  iapply h
  isplitr; · iexact HR
  isplitl [HO]; · iexact HO
  isplitl [HS] <;> iassumption

theorem run_bar (k' : ℕ) (hk : k' = 15)
    (h : iprop(records A K ∗ ow c [] ord1 ord2 ∗ (atPos ERx (barCell c) (0 + 1) ∅ 0 ∗ sepL ord1 (barPay (F := F) c)) ∗ X) ⊢ wpx c (k ⟨⟩) Q) :
    iprop(records A K ∗ ow c [] ord1 ord2 ∗ (cred (tallyAt (barCell c) () 15) ∗ atPos ERx (barCell c) 0 ∅ 0) ∗ X)
      ⊢ wpx c (.op (.semWait barS k') k) Q := by
  iintro ⟨#HR, HO, ⟨H1, H2⟩, HX⟩
  iapply (step_bar A K c k' hk) $$ [HO H1 H2]
  · isplitr; · iexact HR
    isplitl [HO]; · iexact HO
    isplitl [H1] <;> iassumption
  iintro ⟨HO, H1, H2⟩
  iapply h
  isplitr; · iexact HR
  isplitl [HO]; · iexact HO
  isplitl [H1 H2]
  · isplitl [H1] <;> iassumption
  · iexact HX

theorem run_tok (n : Dev nD) (o s : ℕ) (h0 : 0 < o) (hs : 0 < s) (hos : o + s = 16) (hn : n = sh c o) (b q d dn : List ℕ)
    (inbo inbs) (qS qR : DmaSem sig) (hqS : qS = dq 0 o) (hqR : qR = dq 1 s)
    {hsc : (slotA M7 s inbs : Memref sig (Dev.tc n : Thread nD τ).2.kind .vmem S128x384 .bf16).view.ref.isScScratch = false}
    {hsrc : (slotA M6 o inbo).view.WordExact} {hdst : (slotA M7 s inbs).view.WordExact}
    {hsem : DmaTarget.Typed .vmem (.dma qR) (.remote (Dev.tc n : Thread nD τ) (slotA M7 s inbs) (.dma qS) hsc)}
    (h : iprop(records A K ∗ ow c [] b d ∗ tokS A c b q (o :: dn) ∗ X) ⊢ wpx c (k ⟨⟩) Q) :
    iprop(records A K ∗ ow c [] (o :: b) d ∗ tokS A c (o :: b) (o :: q) dn ∗ X)
      ⊢ wpx c (.op (.enqueueDma (slotA M6 o inbo) (.remote (Dev.tc n : Thread nD τ) (slotA M7 s inbs) (.dma qS) hsc) (.dma qR) hsrc hdst hsem) k) Q := by
  unfold tokS
  iintro ⟨#HR, HO, ⟨HT, H6, HD⟩, HX⟩
  ihave H6 := (Entails.of_eq (sepL_cons o q (fun o => (p6 c o (o + 1) (dispC A c) : sProp 𝕄)))) $$ H6
  icases H6 with ⟨H6, Hq⟩
  iapply (step_tok A K c n o s h0 hs hos hn b d dn inbo inbs qS qR hqS hqR) $$ [HO HT H6 HD]
  · isplitr; · iexact HR
    isplitl [HO]; · iexact HO
    isplitl [HT]; · iexact HT
    isplitl [H6] <;> iassumption
  iintro ⟨HO, HT, HD⟩
  iapply h
  unfold tokS
  isplitr; · iexact HR
  isplitl [HO]; · iexact HO
  isplitl [HT Hq HD]
  · isplitl [HT]; · iexact HT
    isplitl [Hq] <;> iassumption
  · iexact HX

theorem run_res (n : Dev nD) (o s : ℕ) (h0 : 0 < o) (hs : 0 < s) (hos : o + s = 16) (hn : n = sh c o) (d q dn : List ℕ)
    (inbo inbs) (qS qR : DmaSem sig) (hqS : qS = dq 2 o) (hqR : qR = dq 3 s)
    {hsc : (slotB M9 s inbs : Memref sig (Dev.tc n : Thread nD τ).2.kind .vmem S128x512 .bf16).view.ref.isScScratch = false}
    {hsrc : (slotB M8 o inbo).view.WordExact} {hdst : (slotB M9 s inbs).view.WordExact}
    {hsem : DmaTarget.Typed .vmem (.dma qR) (.remote (Dev.tc n : Thread nD τ) (slotB M9 s inbs) (.dma qS) hsc)}
    (h : iprop(records A K ∗ ow c [] [] d ∗ resS A c d q (o :: dn) ∗ X) ⊢ wpx c (k ⟨⟩) Q) :
    iprop(records A K ∗ ow c [] [] (o :: d) ∗ resS A c (o :: d) (o :: q) dn ∗ X)
      ⊢ wpx c (.op (.enqueueDma (slotB M8 o inbo) (.remote (Dev.tc n : Thread nD τ) (slotB M9 s inbs) (.dma qS) hsc) (.dma qR) hsrc hdst hsem) k) Q := by
  unfold resS
  iintro ⟨#HR, HO, ⟨HT, H6, HD⟩, HX⟩
  ihave H6 := (Entails.of_eq (sepL_cons o q (fun o => (p8 c o (o + 1) (retC A c) : sProp 𝕄)))) $$ H6
  icases H6 with ⟨H6, Hq⟩
  iapply (step_res A K c n o s h0 hs hos hn d dn inbo inbs qS qR hqS hqR) $$ [HO HT H6 HD]
  · isplitr; · iexact HR
    isplitl [HO]; · iexact HO
    isplitl [HT]; · iexact HT
    isplitl [H6] <;> iassumption
  iintro ⟨HO, HT, HD⟩
  iapply h
  unfold resS
  isplitr; · iexact HR
  isplitl [HO]; · iexact HO
  isplitl [HT Hq HD]
  · isplitl [HT]; · iexact HT
    isplitl [Hq] <;> iassumption
  · iexact HX

theorem run_wait (j i : ℕ) (hj : j < 4) (hi : i < 16) (hi0 : 0 < i) (d l dn pn : List ℕ) (hd : ∀ o ∈ d, 0 < o) (hl : d = [] ∨ j = 1)
    (q : DmaSem sig) (hq : q = dq j i) {sp sp' : Space} {s s' : Shape} {e e' : EltTy} {src : Memref sig .tc sp' s' e'} {dst : Memref sig .tc sp s e}
    {hsrc : src.view.WordExact} {hdst : dst.view.WordExact} (hN : dst.view.dmaCredit = bankN j)
    (h : iprop(records A K ∗ ow c [] [] d ∗ waitS A c j l (i :: dn) (i :: pn) ∗ X) ⊢ wpx c (k ⟨⟩) Q) :
    iprop(records A K ∗ ow c [] [] d ∗ waitS A c j (i :: l) dn pn ∗ X) ⊢ wpx c (.op (.waitDma2 q src dst hsrc hdst) k) Q := by
  unfold waitS
  iintro ⟨#HR, HO, ⟨HT, HD, HP⟩, HX⟩
  iapply (step_wait A K j i hj hi hi0 c d l dn pn hd hl q hq hN) $$ [HO HT HD HP]
  · isplitr; · iexact HR
    isplitl [HO]; · iexact HO
    isplitl [HT]; · iexact HT
    isplitl [HD] <;> iassumption
  iintro ⟨HO, HT, HD, HP⟩
  iapply h
  unfold waitS
  isplitr; · iexact HR
  isplitl [HO]; · iexact HO
  isplitl [HT HD HP]
  · isplitl [HT]; · iexact HT
    isplitl [HD] <;> iassumption
  · iexact HX

/-! ## Loads and stores of runs of slots -/

theorem ld6 (lo n : ℕ) (inb) (hl) (f : Vec F S16x128x384 .bf16) {kv : ((⟨3, ![n, 128, 384]⟩ : Shape).Idx → Elt F .bf16) → Prog (TpuEff nD τ sig (Elt F) Λ₀ .tc) α}
    (h : iprop(records A K ∗ O ∗ p6 c lo (lo + n) f ∗ X) ⊢ wpx c (kv (grp lo n f)) Q) :
    iprop(records A K ∗ O ∗ p6 c lo (lo + n) f ∗ X) ⊢ wpx c (.op (.load M6 (runA lo n inb).toLoadRect hl) kv) Q := by
  rw [← read6 lo n inb f] at h
  iintro ⟨HR, HO, H, HX⟩
  iapply (wp_load 𝒱x (c : Thread nD τ) none Set.univ (m := M6) (r := (runA lo n inb).toLoadRect) (S := bnd lo (lo + n)) (f := f)
    ((View.set_slice _ _).symm.trans (set6run lo n inb)).subset) $$ H
  iintro H
  iapply h
  isplitl [HR]; · iexact HR
  isplitl [HO]; · iexact HO
  isplitl [H] <;> iassumption

theorem st6 (lo n : ℕ) (inb) (hx hm) (f g : Vec F S16x128x384 .bf16) (w : (⟨3, ![n, 128, 384]⟩ : Shape).Idx → Elt F .bf16)
    (hg : ∀ (i : S16x128x384.Idx) (hi : (i 0).val - lo < n), lo ≤ (i 0).val → w (ix3 ⟨(i 0).val - lo, hi⟩ (i 1) (i 2)) = g i)
    (h : iprop(records A K ∗ O ∗ p6 c lo (lo + n) g ∗ X) ⊢ wpx c (k ⟨⟩) Q) :
    iprop(records A K ∗ O ∗ p6 c lo (lo + n) f ∗ X) ⊢ wpx c (.op (.store M6 (runA lo n inb) w Finset.univ hx hm) k) Q := by
  iintro ⟨HR, HO, H, HX⟩
  iapply (wp_store 𝒱x (c : Thread nD τ) none Set.univ (m := M6) (r := runA lo n inb) (Mk := Finset.univ) (S := bnd lo (lo + n)) (f := f)
    (set6run lo n inb).subset) $$ H
  iintro H
  iapply h
  isplitl [HR]; · iexact HR
  isplitl [HO]; · iexact HO
  isplitl [H]
  · iapply (Entails.of_eq (pointsTo_congr (fun i hi => write6 lo n inb f g w hg i hi))); iexact H
  · iexact HX

theorem ld7 (lo n : ℕ) (inb) (hl) (f : Vec F S16x128x384 .bf16) {kv : ((⟨3, ![n, 128, 384]⟩ : Shape).Idx → Elt F .bf16) → Prog (TpuEff nD τ sig (Elt F) Λ₀ .tc) α}
    (h : iprop(records A K ∗ O ∗ p7 c lo (lo + n) f ∗ X) ⊢ wpx c (kv (grp lo n f)) Q) :
    iprop(records A K ∗ O ∗ p7 c lo (lo + n) f ∗ X) ⊢ wpx c (.op (.load M7 (runA lo n inb).toLoadRect hl) kv) Q := by
  rw [← read7 lo n inb f] at h
  iintro ⟨HR, HO, H, HX⟩
  iapply (wp_load 𝒱x (c : Thread nD τ) none Set.univ (m := M7) (r := (runA lo n inb).toLoadRect) (S := bnd lo (lo + n)) (f := f)
    ((View.set_slice _ _).symm.trans (set7run lo n inb)).subset) $$ H
  iintro H
  iapply h
  isplitl [HR]; · iexact HR
  isplitl [HO]; · iexact HO
  isplitl [H] <;> iassumption

theorem st7 (lo n : ℕ) (inb) (hx hm) (f g : Vec F S16x128x384 .bf16) (w : (⟨3, ![n, 128, 384]⟩ : Shape).Idx → Elt F .bf16)
    (hg : ∀ (i : S16x128x384.Idx) (hi : (i 0).val - lo < n), lo ≤ (i 0).val → w (ix3 ⟨(i 0).val - lo, hi⟩ (i 1) (i 2)) = g i)
    (h : iprop(records A K ∗ O ∗ p7 c lo (lo + n) g ∗ X) ⊢ wpx c (k ⟨⟩) Q) :
    iprop(records A K ∗ O ∗ p7 c lo (lo + n) f ∗ X) ⊢ wpx c (.op (.store M7 (runA lo n inb) w Finset.univ hx hm) k) Q := by
  iintro ⟨HR, HO, H, HX⟩
  iapply (wp_store 𝒱x (c : Thread nD τ) none Set.univ (m := M7) (r := runA lo n inb) (Mk := Finset.univ) (S := bnd lo (lo + n)) (f := f)
    (set7run lo n inb).subset) $$ H
  iintro H
  iapply h
  isplitl [HR]; · iexact HR
  isplitl [HO]; · iexact HO
  isplitl [H]
  · iapply (Entails.of_eq (pointsTo_congr (fun i hi => write7 lo n inb f g w hg i hi))); iexact H
  · iexact HX

theorem ld8 (lo n : ℕ) (inb) (hl) (f : Vec F S16x128x512 .bf16) {kv : ((⟨3, ![n, 128, 512]⟩ : Shape).Idx → Elt F .bf16) → Prog (TpuEff nD τ sig (Elt F) Λ₀ .tc) α}
    (h : iprop(records A K ∗ O ∗ p8 c lo (lo + n) f ∗ X) ⊢ wpx c (kv (grp lo n f)) Q) :
    iprop(records A K ∗ O ∗ p8 c lo (lo + n) f ∗ X) ⊢ wpx c (.op (.load M8 (runB lo n inb).toLoadRect hl) kv) Q := by
  rw [← read8 lo n inb f] at h
  iintro ⟨HR, HO, H, HX⟩
  iapply (wp_load 𝒱x (c : Thread nD τ) none Set.univ (m := M8) (r := (runB lo n inb).toLoadRect) (S := bnd lo (lo + n)) (f := f)
    ((View.set_slice _ _).symm.trans (set8run lo n inb)).subset) $$ H
  iintro H
  iapply h
  isplitl [HR]; · iexact HR
  isplitl [HO]; · iexact HO
  isplitl [H] <;> iassumption

theorem st8 (lo n : ℕ) (inb) (hx hm) (f g : Vec F S16x128x512 .bf16) (w : (⟨3, ![n, 128, 512]⟩ : Shape).Idx → Elt F .bf16)
    (hg : ∀ (i : S16x128x512.Idx) (hi : (i 0).val - lo < n), lo ≤ (i 0).val → w (ix3 ⟨(i 0).val - lo, hi⟩ (i 1) (i 2)) = g i)
    (h : iprop(records A K ∗ O ∗ p8 c lo (lo + n) g ∗ X) ⊢ wpx c (k ⟨⟩) Q) :
    iprop(records A K ∗ O ∗ p8 c lo (lo + n) f ∗ X) ⊢ wpx c (.op (.store M8 (runB lo n inb) w Finset.univ hx hm) k) Q := by
  iintro ⟨HR, HO, H, HX⟩
  iapply (wp_store 𝒱x (c : Thread nD τ) none Set.univ (m := M8) (r := runB lo n inb) (Mk := Finset.univ) (S := bnd lo (lo + n)) (f := f)
    (set8run lo n inb).subset) $$ H
  iintro H
  iapply h
  isplitl [HR]; · iexact HR
  isplitl [HO]; · iexact HO
  isplitl [H]
  · iapply (Entails.of_eq (pointsTo_congr (fun i hi => write8 lo n inb f g w hg i hi))); iexact H
  · iexact HX

theorem ld9 (lo n : ℕ) (inb) (hl) (f : Vec F S16x128x512 .bf16) {kv : ((⟨3, ![n, 128, 512]⟩ : Shape).Idx → Elt F .bf16) → Prog (TpuEff nD τ sig (Elt F) Λ₀ .tc) α}
    (h : iprop(records A K ∗ O ∗ p9 c lo (lo + n) f ∗ X) ⊢ wpx c (kv (grp lo n f)) Q) :
    iprop(records A K ∗ O ∗ p9 c lo (lo + n) f ∗ X) ⊢ wpx c (.op (.load M9 (runB lo n inb).toLoadRect hl) kv) Q := by
  rw [← read9 lo n inb f] at h
  iintro ⟨HR, HO, H, HX⟩
  iapply (wp_load 𝒱x (c : Thread nD τ) none Set.univ (m := M9) (r := (runB lo n inb).toLoadRect) (S := bnd lo (lo + n)) (f := f)
    ((View.set_slice _ _).symm.trans (set9run lo n inb)).subset) $$ H
  iintro H
  iapply h
  isplitl [HR]; · iexact HR
  isplitl [HO]; · iexact HO
  isplitl [H] <;> iassumption

theorem st9 (lo n : ℕ) (inb) (hx hm) (f g : Vec F S16x128x512 .bf16) (w : (⟨3, ![n, 128, 512]⟩ : Shape).Idx → Elt F .bf16)
    (hg : ∀ (i : S16x128x512.Idx) (hi : (i 0).val - lo < n), lo ≤ (i 0).val → w (ix3 ⟨(i 0).val - lo, hi⟩ (i 1) (i 2)) = g i)
    (h : iprop(records A K ∗ O ∗ p9 c lo (lo + n) g ∗ X) ⊢ wpx c (k ⟨⟩) Q) :
    iprop(records A K ∗ O ∗ p9 c lo (lo + n) f ∗ X) ⊢ wpx c (.op (.store M9 (runB lo n inb) w Finset.univ hx hm) k) Q := by
  iintro ⟨HR, HO, H, HX⟩
  iapply (wp_store 𝒱x (c : Thread nD τ) none Set.univ (m := M9) (r := runB lo n inb) (Mk := Finset.univ) (S := bnd lo (lo + n)) (f := f)
    (set9run lo n inb).subset) $$ H
  iintro H
  iapply h
  isplitl [HR]; · iexact HR
  isplitl [HO]; · iexact HO
  isplitl [H]
  · iapply (Entails.of_eq (pointsTo_congr (fun i hi => write9 lo n inb f g w hg i hi))); iexact H
  · iexact HX

/-! ## Loads of the staged inputs, the store of the result -/

theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

theorem ld_x (inb) (hl) {kv : Vec F S1024x256 .bf16 → Prog (TpuEff nD τ sig (Elt F) Λ₀ .tc) α}
    (h : iprop(records A K ∗ O ∗ inpS A c ∗ X) ⊢ wpx c (kv (A.x c)) Q) :
    iprop(records A K ∗ O ∗ inpS A c ∗ X)
      ⊢ wpx c (.op (.load (Memref.whole cc0_stg0_0) (Rect.unit (s := S1024x256) ![0, 0] S1024x256.size inb).toLoadRect hl) kv) Q := by
  have e : (Memref.whole cc0_stg0_0).view.readAt (Elt F) (Rect.unit (s := S1024x256) ![0, 0] S1024x256.size inb).toLoadRect (A.x c) = A.x c :=
    Memref.readAt_unit_zero (Elt F) cc0_stg0_0 zero2 _ _
  rw [← e] at h
  iintro ⟨HR, HO, H, HX⟩
  unfold inpS
  icases H with ⟨H0, H1, H2, H3, H4⟩
  iapply (wp_load 𝒱x (c : Thread nD τ) none Set.univ (m := Memref.whole cc0_stg0_0) (Finset.subset_univ _)) $$ H0
  iintro H0
  iapply h
  unfold inpS
  isplitl [HR]; · iexact HR
  isplitl [HO]; · iexact HO
  isplitl [H0 H1 H2 H3 H4]
  · isplitl [H0]; · iexact H0
    isplitl [H1]; · iexact H1
    isplitl [H2]; · iexact H2
    isplitl [H3] <;> iassumption
  · iexact HX

theorem ld_rw (inb) (hl) {kv : Vec F S256x64 .bf16 → Prog (TpuEff nD τ sig (Elt F) Λ₀ .tc) α}
    (h : iprop(records A K ∗ O ∗ inpS A c ∗ X) ⊢ wpx c (kv (A.rw c)) Q) :
    iprop(records A K ∗ O ∗ inpS A c ∗ X)
      ⊢ wpx c (.op (.load (Memref.whole cc0_stg1_0) (Rect.unit (s := S256x64) ![0, 0] S256x64.size inb).toLoadRect hl) kv) Q := by
  have e : (Memref.whole cc0_stg1_0).view.readAt (Elt F) (Rect.unit (s := S256x64) ![0, 0] S256x64.size inb).toLoadRect (A.rw c) = A.rw c :=
    Memref.readAt_unit_zero (Elt F) cc0_stg1_0 zero2 _ _
  rw [← e] at h
  iintro ⟨HR, HO, H, HX⟩
  unfold inpS
  icases H with ⟨H0, H1, H2, H3, H4⟩
  iapply (wp_load 𝒱x (c : Thread nD τ) none Set.univ (m := Memref.whole cc0_stg1_0) (Finset.subset_univ _)) $$ H1
  iintro H1
  iapply h
  unfold inpS
  isplitl [HR]; · iexact HR
  isplitl [HO]; · iexact HO
  isplitl [H0 H1 H2 H3 H4]
  · isplitl [H0]; · iexact H0
    isplitl [H1]; · iexact H1
    isplitl [H2]; · iexact H2
    isplitl [H3] <;> iassumption
  · iexact HX

theorem ld_idx (inb) (hl) {kv : Vec F S1024x1 .i32 → Prog (TpuEff nD τ sig (Elt F) Λ₀ .tc) α}
    (h : iprop(records A K ∗ O ∗ inpS A c ∗ X) ⊢ wpx c (kv (A.idx c)) Q) :
    iprop(records A K ∗ O ∗ inpS A c ∗ X)
      ⊢ wpx c (.op (.load (Memref.whole cc0_stg2_0) (Rect.unit (s := S1024x1) ![0, 0] S1024x1.size inb).toLoadRect hl) kv) Q := by
  have e : (Memref.whole cc0_stg2_0).view.readAt (Elt F) (Rect.unit (s := S1024x1) ![0, 0] S1024x1.size inb).toLoadRect (A.idx c) = A.idx c :=
    Memref.readAt_unit_zero (Elt F) cc0_stg2_0 zero2 _ _
  rw [← e] at h
  iintro ⟨HR, HO, H, HX⟩
  unfold inpS
  icases H with ⟨H0, H1, H2, H3, H4⟩
  iapply (wp_load 𝒱x (c : Thread nD τ) none Set.univ (m := Memref.whole cc0_stg2_0) (Finset.subset_univ _)) $$ H2
  iintro H2
  iapply h
  unfold inpS
  isplitl [HR]; · iexact HR
  isplitl [HO]; · iexact HO
  isplitl [H0 H1 H2 H3 H4]
  · isplitl [H0]; · iexact H0
    isplitl [H1]; · iexact H1
    isplitl [H2]; · iexact H2
    isplitl [H3] <;> iassumption
  · iexact HX

theorem ld_ew (inb) (hl) {kv : Vec F S4x256x512 .bf16 → Prog (TpuEff nD τ sig (Elt F) Λ₀ .tc) α}
    (h : iprop(records A K ∗ O ∗ inpS A c ∗ X) ⊢ wpx c (kv (A.ew c)) Q) :
    iprop(records A K ∗ O ∗ inpS A c ∗ X)
      ⊢ wpx c (.op (.load (Memref.whole cc0_stg3_0) (Rect.unit (s := S4x256x512) ![0, 0, 0] S4x256x512.size inb).toLoadRect hl) kv) Q := by
  have e : (Memref.whole cc0_stg3_0).view.readAt (Elt F) (Rect.unit (s := S4x256x512) ![0, 0, 0] S4x256x512.size inb).toLoadRect (A.ew c) = A.ew c :=
    Memref.readAt_unit_zero (Elt F) cc0_stg3_0 zero3 _ _
  rw [← e] at h
  iintro ⟨HR, HO, H, HX⟩
  unfold inpS
  icases H with ⟨H0, H1, H2, H3, H4⟩
  iapply (wp_load 𝒱x (c : Thread nD τ) none Set.univ (m := Memref.whole cc0_stg3_0) (Finset.subset_univ _)) $$ H3
  iintro H3
  iapply h
  unfold inpS
  isplitl [HR]; · iexact HR
  isplitl [HO]; · iexact HO
  isplitl [H0 H1 H2 H3 H4]
  · isplitl [H0]; · iexact H0
    isplitl [H1]; · iexact H1
    isplitl [H2]; · iexact H2
    isplitl [H3] <;> iassumption
  · iexact HX

theorem ld_sw (inb) (hl) {kv : Vec F S256x512 .bf16 → Prog (TpuEff nD τ sig (Elt F) Λ₀ .tc) α}
    (h : iprop(records A K ∗ O ∗ inpS A c ∗ X) ⊢ wpx c (kv (A.sw c)) Q) :
    iprop(records A K ∗ O ∗ inpS A c ∗ X)
      ⊢ wpx c (.op (.load (Memref.whole cc0_stg4_0) (Rect.unit (s := S256x512) ![0, 0] S256x512.size inb).toLoadRect hl) kv) Q := by
  have e : (Memref.whole cc0_stg4_0).view.readAt (Elt F) (Rect.unit (s := S256x512) ![0, 0] S256x512.size inb).toLoadRect (A.sw c) = A.sw c :=
    Memref.readAt_unit_zero (Elt F) cc0_stg4_0 zero2 _ _
  rw [← e] at h
  iintro ⟨HR, HO, H, HX⟩
  unfold inpS
  icases H with ⟨H0, H1, H2, H3, H4⟩
  iapply (wp_load 𝒱x (c : Thread nD τ) none Set.univ (m := Memref.whole cc0_stg4_0) (Finset.subset_univ _)) $$ H4
  iintro H4
  iapply h
  unfold inpS
  isplitl [HR]; · iexact HR
  isplitl [HO]; · iexact HO
  isplitl [H0 H1 H2 H3 H4]
  · isplitl [H0]; · iexact H0
    isplitl [H1]; · iexact H1
    isplitl [H2]; · iexact H2
    isplitl [H3] <;> iassumption
  · iexact HX

theorem ld_out (inb) (hl) (f : Vec F S1024x512 .f32) {kv : Vec F S1024x512 .f32 → Prog (TpuEff nD τ sig (Elt F) Λ₀ .tc) α}
    (h : ∀ v, iprop(records A K ∗ O ∗ (((c : Thread nD τ).loc cc0_stg5_0) ↦{fullShare} f) ∗ X) ⊢ wpx c (kv v) Q) :
    iprop(records A K ∗ O ∗ (((c : Thread nD τ).loc cc0_stg5_0) ↦{fullShare} f) ∗ X)
      ⊢ wpx c (.op (.load (Memref.whole cc0_stg5_0) (Rect.unit (s := S1024x512) ![0, 0] S1024x512.size inb).toLoadRect hl) kv) Q := by
  iintro ⟨HR, HO, H, HX⟩
  iapply (wp_load 𝒱x (c : Thread nD τ) none Set.univ (m := Memref.whole cc0_stg5_0) (Finset.subset_univ _)) $$ H
  iintro H
  iapply (h _)
  isplitl [HR]; · iexact HR
  isplitl [HO]; · iexact HO
  isplitl [H] <;> iassumption

theorem st_out (inb) (hx hm) (f w : Vec F S1024x512 .f32)
    (h : iprop(records A K ∗ O ∗ (((c : Thread nD τ).loc cc0_stg5_0) ↦{fullShare} w) ∗ X) ⊢ wpx c (k ⟨⟩) Q) :
    iprop(records A K ∗ O ∗ (((c : Thread nD τ).loc cc0_stg5_0) ↦{fullShare} f) ∗ X)
      ⊢ wpx c (.op (.store (Memref.whole cc0_stg5_0) (Rect.unit (s := S1024x512) ![0, 0] S1024x512.size inb) w Finset.univ hx hm) k) Q := by
  have e : ((Memref.whole cc0_stg5_0).access (Rect.unit (s := S1024x512) ![0, 0] S1024x512.size inb) : View sig .tc _ _ _).write (Elt F) f w Finset.univ = w :=
    Memref.write_access_unit_zero_univ (Elt F) cc0_stg5_0 zero2 _ f w
  iintro ⟨HR, HO, H, HX⟩
  iapply (wp_store 𝒱x (c : Thread nD τ) none Set.univ (m := Memref.whole cc0_stg5_0) (r := Rect.unit (s := S1024x512) ![0, 0] S1024x512.size inb)
    (Mk := Finset.univ) (Finset.subset_univ _)) $$ H
  iintro H
  rw [e]
  iapply h
  isplitl [HR]; · iexact HR
  isplitl [HO]; · iexact HO
  isplitl [H] <;> iassumption

/-! ## Runs of slots taken apart and put together -/

theorem split6 (f : Vec F S16x128x384 .bf16) : ∀ (n lo : ℕ), (p6 c lo (lo + n) f : sProp 𝕄) ⊢ sepL (List.range' lo n) (fun o => p6 c o (o + 1) f)
  | 0, lo => by rw [List.range'_zero, sepL_nil]; iintro -; iempintro
  | n + 1, lo => by
    rw [List.range'_succ, sepL_cons]
    have e : bnd (d := 384) lo (lo + (n + 1)) = bnd lo (lo + 1) ∪ bnd (lo + 1) (lo + 1 + n) := by
      rw [show lo + (n + 1) = lo + 1 + n by omega]; exact bnd_union (by omega) (by omega)
    unfold p6
    rw [e]
    refine (pointsTo_union (bnd_disjoint (.inl (Nat.le_refl _)))).1.trans ?_
    exact sep_mono_right (split6 f n (lo + 1))
theorem unite6 (f : Vec F S16x128x384 .bf16) : ∀ (n lo : ℕ), sepL (List.range' lo n) (fun o => (p6 c o (o + 1) f : sProp 𝕄)) ⊢ p6 c lo (lo + n) f
  | 0, lo => by
    have e : bnd (d := 384) lo (lo + 0) = ∅ := by
      ext i; rw [mem_bnd]; simp only [Finset.notMem_empty, iff_false]; omega
    unfold p6
    rw [e, List.range'_zero, sepL_nil, pointsTo_empty]
  | n + 1, lo => by
    rw [List.range'_succ, sepL_cons]
    have e : bnd (d := 384) lo (lo + (n + 1)) = bnd lo (lo + 1) ∪ bnd (lo + 1) (lo + 1 + n) := by
      rw [show lo + (n + 1) = lo + 1 + n by omega]; exact bnd_union (by omega) (by omega)
    unfold p6
    rw [e]
    refine (sep_mono_right (unite6 f n (lo + 1))).trans ?_
    exact (pointsTo_union (bnd_disjoint (.inl (Nat.le_refl _)))).2

theorem split7 (f : Vec F S16x128x384 .bf16) : ∀ (n lo : ℕ), (p7 c lo (lo + n) f : sProp 𝕄) ⊢ sepL (List.range' lo n) (fun o => p7 c o (o + 1) f)
  | 0, lo => by rw [List.range'_zero, sepL_nil]; iintro -; iempintro
  | n + 1, lo => by
    rw [List.range'_succ, sepL_cons]
    have e : bnd (d := 384) lo (lo + (n + 1)) = bnd lo (lo + 1) ∪ bnd (lo + 1) (lo + 1 + n) := by
      rw [show lo + (n + 1) = lo + 1 + n by omega]; exact bnd_union (by omega) (by omega)
    unfold p7
    rw [e]
    refine (pointsTo_union (bnd_disjoint (.inl (Nat.le_refl _)))).1.trans ?_
    exact sep_mono_right (split7 f n (lo + 1))
theorem unite7 (f : Vec F S16x128x384 .bf16) : ∀ (n lo : ℕ), sepL (List.range' lo n) (fun o => (p7 c o (o + 1) f : sProp 𝕄)) ⊢ p7 c lo (lo + n) f
  | 0, lo => by
    have e : bnd (d := 384) lo (lo + 0) = ∅ := by
      ext i; rw [mem_bnd]; simp only [Finset.notMem_empty, iff_false]; omega
    unfold p7
    rw [e, List.range'_zero, sepL_nil, pointsTo_empty]
  | n + 1, lo => by
    rw [List.range'_succ, sepL_cons]
    have e : bnd (d := 384) lo (lo + (n + 1)) = bnd lo (lo + 1) ∪ bnd (lo + 1) (lo + 1 + n) := by
      rw [show lo + (n + 1) = lo + 1 + n by omega]; exact bnd_union (by omega) (by omega)
    unfold p7
    rw [e]
    refine (sep_mono_right (unite7 f n (lo + 1))).trans ?_
    exact (pointsTo_union (bnd_disjoint (.inl (Nat.le_refl _)))).2

theorem split8 (f : Vec F S16x128x512 .bf16) : ∀ (n lo : ℕ), (p8 c lo (lo + n) f : sProp 𝕄) ⊢ sepL (List.range' lo n) (fun o => p8 c o (o + 1) f)
  | 0, lo => by rw [List.range'_zero, sepL_nil]; iintro -; iempintro
  | n + 1, lo => by
    rw [List.range'_succ, sepL_cons]
    have e : bnd (d := 512) lo (lo + (n + 1)) = bnd lo (lo + 1) ∪ bnd (lo + 1) (lo + 1 + n) := by
      rw [show lo + (n + 1) = lo + 1 + n by omega]; exact bnd_union (by omega) (by omega)
    unfold p8
    rw [e]
    refine (pointsTo_union (bnd_disjoint (.inl (Nat.le_refl _)))).1.trans ?_
    exact sep_mono_right (split8 f n (lo + 1))
theorem unite8 (f : Vec F S16x128x512 .bf16) : ∀ (n lo : ℕ), sepL (List.range' lo n) (fun o => (p8 c o (o + 1) f : sProp 𝕄)) ⊢ p8 c lo (lo + n) f
  | 0, lo => by
    have e : bnd (d := 512) lo (lo + 0) = ∅ := by
      ext i; rw [mem_bnd]; simp only [Finset.notMem_empty, iff_false]; omega
    unfold p8
    rw [e, List.range'_zero, sepL_nil, pointsTo_empty]
  | n + 1, lo => by
    rw [List.range'_succ, sepL_cons]
    have e : bnd (d := 512) lo (lo + (n + 1)) = bnd lo (lo + 1) ∪ bnd (lo + 1) (lo + 1 + n) := by
      rw [show lo + (n + 1) = lo + 1 + n by omega]; exact bnd_union (by omega) (by omega)
    unfold p8
    rw [e]
    refine (sep_mono_right (unite8 f n (lo + 1))).trans ?_
    exact (pointsTo_union (bnd_disjoint (.inl (Nat.le_refl _)))).2

theorem split9 (f : Vec F S16x128x512 .bf16) : ∀ (n lo : ℕ), (p9 c lo (lo + n) f : sProp 𝕄) ⊢ sepL (List.range' lo n) (fun o => p9 c o (o + 1) f)
  | 0, lo => by rw [List.range'_zero, sepL_nil]; iintro -; iempintro
  | n + 1, lo => by
    rw [List.range'_succ, sepL_cons]
    have e : bnd (d := 512) lo (lo + (n + 1)) = bnd lo (lo + 1) ∪ bnd (lo + 1) (lo + 1 + n) := by
      rw [show lo + (n + 1) = lo + 1 + n by omega]; exact bnd_union (by omega) (by omega)
    unfold p9
    rw [e]
    refine (pointsTo_union (bnd_disjoint (.inl (Nat.le_refl _)))).1.trans ?_
    exact sep_mono_right (split9 f n (lo + 1))
theorem unite9 (f : Vec F S16x128x512 .bf16) : ∀ (n lo : ℕ), sepL (List.range' lo n) (fun o => (p9 c o (o + 1) f : sProp 𝕄)) ⊢ p9 c lo (lo + n) f
  | 0, lo => by
    have e : bnd (d := 512) lo (lo + 0) = ∅ := by
      ext i; rw [mem_bnd]; simp only [Finset.notMem_empty, iff_false]; omega
    unfold p9
    rw [e, List.range'_zero, sepL_nil, pointsTo_empty]
  | n + 1, lo => by
    rw [List.range'_succ, sepL_cons]
    have e : bnd (d := 512) lo (lo + (n + 1)) = bnd lo (lo + 1) ∪ bnd (lo + 1) (lo + 1 + n) := by
      rw [show lo + (n + 1) = lo + 1 + n by omega]; exact bnd_union (by omega) (by omega)
    unfold p9
    rw [e]
    refine (sep_mono_right (unite9 f n (lo + 1))).trans ?_
    exact (pointsTo_union (bnd_disjoint (.inl (Nat.le_refl _)))).2

/-! ## Filled runs into the sends' hands, landed runs out of the waits' -/

theorem fill_tok (lo n : ℕ) (b dn : List ℕ) :
    iprop(p6 c lo (lo + n) (dispC A c) ∗ tokS A c b [] dn) ⊢ tokS A c b (List.range' lo n) dn := by
  unfold tokS
  iintro ⟨H, HT, -, HD⟩
  isplitl [HT]; · iexact HT
  isplitl [H]
  · iapply (split6 c (dispC A c) n lo); iexact H
  · iexact HD
theorem fill_res (lo n : ℕ) (b dn : List ℕ) :
    iprop(p8 c lo (lo + n) (retC A c) ∗ resS A c b [] dn) ⊢ resS A c b (List.range' lo n) dn := by
  unfold resS
  iintro ⟨H, HT, -, HD⟩
  isplitl [HT]; · iexact HT
  isplitl [H]
  · iapply (split8 c (retC A c) n lo); iexact H
  · iexact HD

theorem pay_6 (lo n : ℕ) (pn : List ℕ) (hp : pn.Perm (List.range' lo n)) : sepL pn (payRes A 0 c) ⊢ p6 c lo (lo + n) (dispC A c) := by
  have e : payRes A 0 c = fun o => (p6 c o (o + 1) (dispC A c) : sProp 𝕄) := funext fun o => xPay_0 A c o
  rw [e]
  exact (sepL_perm hp).trans (unite6 c (dispC A c) n lo)
theorem pay_7 (lo n : ℕ) (pn : List ℕ) (hp : pn.Perm (List.range' lo n)) : sepL pn (payRes A 1 c) ⊢ p7 c lo (lo + n) (recvC A c) := by
  have e : payRes A 1 c = fun o => (p7 c o (o + 1) (recvC A c) : sProp 𝕄) := funext fun o => xPay_1 A c o
  rw [e]
  exact (sepL_perm hp).trans (unite7 c (recvC A c) n lo)
theorem pay_8 (lo n : ℕ) (pn : List ℕ) (hp : pn.Perm (List.range' lo n)) : sepL pn (payRes A 2 c) ⊢ p8 c lo (lo + n) (retC A c) := by
  have e : payRes A 2 c = fun o => (p8 c o (o + 1) (retC A c) : sProp 𝕄) := funext fun o => xPay_2 A c o
  rw [e]
  exact (sepL_perm hp).trans (unite8 c (retC A c) n lo)
theorem pay_9 (lo n : ℕ) (pn : List ℕ) (hp : pn.Perm (List.range' lo n)) : sepL pn (payRes A 3 c) ⊢ p9 c lo (lo + n) (backC A c) := by
  have e : payRes A 3 c = fun o => (p9 c o (o + 1) (backC A c) : sProp 𝕄) := funext fun o => xPay_3 A c o
  rw [e]
  exact (sepL_perm hp).trans (unite9 c (backC A c) n lo)

theorem take7 (lo n : ℕ) (l dn pn : List ℕ) (hp : pn.Perm (List.range' lo n)) :
    waitS A c 1 l dn pn ⊢ iprop(waitS A c 1 l dn [] ∗ p7 c lo (lo + n) (recvC A c)) := by
  unfold waitS
  iintro ⟨H1, H2, H3⟩
  ihave H3 := (pay_7 A c lo n pn hp) $$ H3
  isplitl [H1 H2]
  · isplitl [H1]; · iexact H1
    isplitl [H2]; · iexact H2
    rw [sepL_nil]; iempintro
  · iexact H3
theorem take9 (l dn pn : List ℕ) (hp : (0 :: pn).Perm (List.range' 0 16)) :
    iprop(waitS A c 3 l dn pn ∗ p9 c 0 (0 + 1) (backC A c)) ⊢ iprop(waitS A c 3 l dn [] ∗ p9 c 0 (0 + 16) (backC A c)) := by
  unfold waitS
  iintro ⟨⟨H1, H2, H3⟩, H0⟩
  ihave H3 := (pay_9 A c 0 16 (0 :: pn) hp) $$ [H3 H0]
  · rw [sepL_cons]
    isplitl [H0]
    · unfold payRes; rw [xPay_3]; iexact H0
    · iexact H3
  isplitl [H1 H2]
  · isplitl [H1]; · iexact H1
    isplitl [H2]; · iexact H2
    rw [sepL_nil]; iempintro
  · iexact H3

theorem grp_full {d : ℕ} {α : Type} (f : (⟨3, ![16, 128, d]⟩ : Shape).Idx → α) : grp 0 16 f = f := by
  funext j
  unfold grp
  exact congrArg f (at3_self j (Nat.zero_add _).symm)

end Cert.Exchange

end
-- ==== Proof.Parts1.lean ====
/-
The first parts: the entry handshake, the routing, the first eight slots written.
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem part1  {Q : _ → sProp (MT nD τ sig Unit (Elt F) ℕ UA ℕ)}
    (h : ∀ w w', iprop(records A K ∗ ow c [6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [6, 7, 8, 9, 10, 11, 12, 13, 14, 15] (sigRes (F := F) c) ∗ X) ⊢ Q ⟨c, meW c, SemArray.scalar (sig.barrier 0 rfl), w, w'⟩) :
    iprop(records A K ∗ ow c [1, 2, 3, 4, 5, 6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [1, 2, 3, 4, 5, 6, 7, 8, 9, 10, 11, 12, 13, 14, 15] (sigRes (F := F) c) ∗ X)
      ⊢ wpx c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part1_eq_skeleton]; unfold k0_part1_skel
  simp only [semSignalWord, semWaitWord, Prog.lift, Prog.bind_op, Prog.bind_ret, Prog.pure_eq_ret, wp_deviceId]
  refine run_sig A K c _ 1 (by decide) (by decide) (Fin.ext (k0_dev1_eq c)) _ _ rfl ?_
  refine run_sig A K c _ 2 (by decide) (by decide) (Fin.ext (k0_dev2_eq c)) _ _ rfl ?_
  refine run_sig A K c _ 3 (by decide) (by decide) (Fin.ext (k0_dev3_eq c)) _ _ rfl ?_
  refine run_sig A K c _ 4 (by decide) (by decide) (Fin.ext (k0_dev4_eq c)) _ _ rfl ?_
  refine run_sig A K c _ 5 (by decide) (by decide) (Fin.ext (k0_dev5_eq c)) _ _ rfl ?_
  exact ret_of (h _ _)

theorem part2 (v2 v24 w : BitVec 32) {Q : _ → sProp (MT nD τ sig Unit (Elt F) ℕ UA ℕ)}
    (h : ∀ r, iprop(records A K ∗ ow c [12, 13, 14, 15] [1, 2, 3, 4, 5, 6, 7, 8, 9, 10, 11, 12, 13, 14, 15] [8, 9, 10, 11, 12, 13, 14, 15, 1, 2, 3, 4, 5, 6, 7] ∗ sepL [12, 13, 14, 15] (sigRes (F := F) c) ∗ X) ⊢ Q r) :
    iprop(records A K ∗ ow c [6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [6, 7, 8, 9, 10, 11, 12, 13, 14, 15] (sigRes (F := F) c) ∗ X)
      ⊢ wpx c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl)) v24 w) Q := by
  simp only [k0_part2_eq_skeleton]; unfold k0_part2_skel
  simp only [semSignalWord, semWaitWord, Prog.lift, Prog.bind_op, Prog.bind_ret, Prog.pure_eq_ret, wp_deviceId]
  refine run_sig A K c _ 6 (by decide) (by decide) (Fin.ext (k0_dev6_eq c)) _ _ rfl ?_
  refine run_sig A K c _ 7 (by decide) (by decide) (Fin.ext (k0_dev7_eq c)) _ _ rfl ?_
  refine run_sig A K c _ 8 (by decide) (by decide) (Fin.ext (k0_dev8_eq c)) _ _ rfl ?_
  refine run_sig A K c _ 9 (by decide) (by decide) (Fin.ext (k0_dev9_eq c)) _ _ rfl ?_
  refine run_sig A K c _ 10 (by decide) (by decide) (Fin.ext (k0_dev10_eq c)) _ _ rfl ?_
  refine run_sig A K c _ 11 (by decide) (by decide) (Fin.ext (k0_dev11_eq c)) _ _ rfl ?_
  exact ret_of (h _)

theorem part3 (v2 v48 w : BitVec 32) {Q : _ → sProp (MT nD τ sig Unit (Elt F) ℕ UA ℕ)}
    (h : iprop(records A K ∗ ow c [] [1, 2, 3, 4, 5, 6, 7, 8, 9, 10, 11, 12, 13, 14, 15] [8, 9, 10, 11, 12, 13, 14, 15, 1, 2, 3, 4, 5, 6, 7] ∗ inpS A c ∗ (atPos ERx (barCell c) (0 + 1) ∅ 0 ∗ sepL ord1 (fun k => barPay (F := F) c k)) ∗ sepL [] (sigRes (F := F) c) ∗ X) ⊢ Q ⟨xC A c, idxC A c, scoreC A c⟩) :
    iprop(records A K ∗ ow c [12, 13, 14, 15] [1, 2, 3, 4, 5, 6, 7, 8, 9, 10, 11, 12, 13, 14, 15] [8, 9, 10, 11, 12, 13, 14, 15, 1, 2, 3, 4, 5, 6, 7] ∗ sepL [12, 13, 14, 15] (sigRes (F := F) c) ∗ (cred (tallyAt (barCell c) () 15) ∗ atPos ERx (barCell c) 0 ∅ 0) ∗ inpS A c ∗ X)
      ⊢ wpx c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl)) v48 w) Q := by
  simp only [k0_part3_eq_skeleton]; unfold k0_part3_skel
  simp only [semSignalWord, semWaitWord, Prog.lift, Prog.bind_op, Prog.bind_ret, Prog.pure_eq_ret, wp_deviceId]
  refine run_sig A K c _ 12 (by decide) (by decide) (Fin.ext (k0_dev12_eq c)) _ _ rfl ?_
  refine run_sig A K c _ 13 (by decide) (by decide) (Fin.ext (k0_dev13_eq c)) _ _ rfl ?_
  refine run_sig A K c _ 14 (by decide) (by decide) (Fin.ext (k0_dev14_eq c)) _ _ rfl ?_
  refine run_sig A K c _ 15 (by decide) (by decide) (Fin.ext (k0_dev15_eq c)) _ _ rfl ?_
  refine rot2 A K ?_
  refine run_bar A K c _ rfl ?_
  refine rot3 A K ?_
  refine ld_x A K c _ _ ?_
  refine ld_idx A K c _ _ ?_
  refine ld_rw A K c _ _ ?_
  exact ret_of (h)

theorem part4 {Q : _ → sProp (MT nD τ sig Unit (Elt F) ℕ UA ℕ)}
    (h : X ⊢ Q ⟨probC A c, localC A c, qC A c, hotC A c⟩) :
    X ⊢ wpx c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (meW c) (idxC A c) (scoreC A c)) Q := by
  simp only [k0_part4_eq_skeleton]; unfold k0_part4_skel
  simp only [semSignalWord, semWaitWord, Prog.lift, Prog.bind_op, Prog.bind_ret, Prog.pure_eq_ret, wp_deviceId]
  exact ret_of h

theorem part5 (f : Vec F S16x128x384 .bf16) {Q : _ → sProp (MT nD τ sig Unit (Elt F) ℕ UA ℕ)}
    (h : ∀ w, iprop(records A K ∗ O ∗ p6 c 1 (1 + 8) (dispC A c) ∗ X) ⊢ Q ⟨pC A c, augC A c, w⟩) :
    iprop(records A K ∗ O ∗ p6 c 1 (1 + 8) (f) ∗ X)
      ⊢ wpx c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (meW c) (xC A c) (localC A c) (qC A c) (hotC A c)) Q := by
  simp only [k0_part5_eq_skeleton]; unfold k0_part5_skel
  simp only [semSignalWord, semWaitWord, Prog.lift, Prog.bind_op, Prog.bind_ret, Prog.pure_eq_ret, wp_deviceId]
  refine ld6 A K c 1 8 _ _ _ ?_
  refine st6 A K c 1 8 _ _ _ _ (dispC A c) _ (fun i hi hl => cat3_1 _ _ _ _ i hi hl) ?_
  exact ret_of (h _)

end Cert.Exchange

end
-- ==== Proof.Parts2.lean ====
/-
The parts that send the sixteen slots.
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem own_recv (i : S16x128x384.Idx) (hi : (i 0).val - 0 < 1) :
    k0_pay13 (grp 0 1 (dispC A c)) (ix3 ⟨(i 0).val - 0, hi⟩ (i 1) (i 2)) = recvC A c i := by
  unfold recvC
  rw [if_pos (show (i 0).val = 0 by omega)]
  exact congrArg (fun z : Fin 1 => k0_pay13 (grp 0 1 (dispC A c)) (ix3 z (i 1) (i 2))) (Fin.ext (show (i 0).val - 0 = 0 by omega))
theorem own_back (i : S16x128x512.Idx) (hi : (i 0).val - 0 < 1) :
    k0_pay21 (grp 0 1 (retC A c)) (ix3 ⟨(i 0).val - 0, hi⟩ (i 1) (i 2)) = backC A c i := by
  unfold backC
  rw [if_pos (show (i 0).val = 0 by omega)]
  exact congrArg (fun z : Fin 1 => k0_pay21 (grp 0 1 (retC A c)) (ix3 z (i 1) (i 2))) (Fin.ext (show (i 0).val - 0 = 0 by omega))

theorem part6 (v2 : BitVec 32) {Q : _ → sProp (MT nD τ sig Unit (Elt F) ℕ UA ℕ)}
    (h : ∀ r, iprop(records A K ∗ ow c [] [3, 4, 5, 6, 7, 8, 9, 10, 11, 12, 13, 14, 15] [8, 9, 10, 11, 12, 13, 14, 15, 1, 2, 3, 4, 5, 6, 7] ∗ tokS A c [3, 4, 5, 6, 7, 8, 9, 10, 11, 12, 13, 14, 15] [3, 4, 5, 6, 7, 8] [2, 1] ∗ X) ⊢ Q r) :
    iprop(records A K ∗ ow c [] [1, 2, 3, 4, 5, 6, 7, 8, 9, 10, 11, 12, 13, 14, 15] [8, 9, 10, 11, 12, 13, 14, 15, 1, 2, 3, 4, 5, 6, 7] ∗ tokS A c [1, 2, 3, 4, 5, 6, 7, 8, 9, 10, 11, 12, 13, 14, 15] [1, 2, 3, 4, 5, 6, 7, 8] [] ∗ X)
      ⊢ wpx c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q := by
  simp only [k0_part6_eq_skeleton]; unfold k0_part6_skel
  simp only [semSignalWord, semWaitWord, Prog.lift, Prog.bind_op, Prog.bind_ret, Prog.pure_eq_ret, wp_deviceId]
  refine run_tok A K c _ 1 15 (by decide) (by decide) rfl (Fin.ext (k0_dev16_eq c)) _ _ _ _ _ _ _ _ rfl rfl ?_
  refine run_tok A K c _ 2 14 (by decide) (by decide) rfl (Fin.ext (k0_dev17_eq c)) _ _ _ _ _ _ _ _ rfl rfl ?_
  exact ret_of (h _)

theorem part7 (v2 : BitVec 32) {Q : _ → sProp (MT nD τ sig Unit (Elt F) ℕ UA ℕ)}
    (h : ∀ r, iprop(records A K ∗ ow c [] [6, 7, 8, 9, 10, 11, 12, 13, 14, 15] [8, 9, 10, 11, 12, 13, 14, 15, 1, 2, 3, 4, 5, 6, 7] ∗ tokS A c [6, 7, 8, 9, 10, 11, 12, 13, 14, 15] [6, 7, 8] [5, 4, 3, 2, 1] ∗ X) ⊢ Q r) :
    iprop(records A K ∗ ow c [] [3, 4, 5, 6, 7, 8, 9, 10, 11, 12, 13, 14, 15] [8, 9, 10, 11, 12, 13, 14, 15, 1, 2, 3, 4, 5, 6, 7] ∗ tokS A c [3, 4, 5, 6, 7, 8, 9, 10, 11, 12, 13, 14, 15] [3, 4, 5, 6, 7, 8] [2, 1] ∗ X)
      ⊢ wpx c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q := by
  simp only [k0_part7_eq_skeleton]; unfold k0_part7_skel
  simp only [semSignalWord, semWaitWord, Prog.lift, Prog.bind_op, Prog.bind_ret, Prog.pure_eq_ret, wp_deviceId]
  refine run_tok A K c _ 3 13 (by decide) (by decide) rfl (Fin.ext (k0_dev18_eq c)) _ _ _ _ _ _ _ _ rfl rfl ?_
  refine run_tok A K c _ 4 12 (by decide) (by decide) rfl (Fin.ext (k0_dev19_eq c)) _ _ _ _ _ _ _ _ rfl rfl ?_
  refine run_tok A K c _ 5 11 (by decide) (by decide) rfl (Fin.ext (k0_dev20_eq c)) _ _ _ _ _ _ _ _ rfl rfl ?_
  exact ret_of (h _)

theorem part8 (v2 w : BitVec 32) {Q : _ → sProp (MT nD τ sig Unit (Elt F) ℕ UA ℕ)}
    (h : ∀ r, iprop(records A K ∗ ow c [] [8, 9, 10, 11, 12, 13, 14, 15] [8, 9, 10, 11, 12, 13, 14, 15, 1, 2, 3, 4, 5, 6, 7] ∗ tokS A c [8, 9, 10, 11, 12, 13, 14, 15] [8] [7, 6, 5, 4, 3, 2, 1] ∗ X) ⊢ Q r) :
    iprop(records A K ∗ ow c [] [6, 7, 8, 9, 10, 11, 12, 13, 14, 15] [8, 9, 10, 11, 12, 13, 14, 15, 1, 2, 3, 4, 5, 6, 7] ∗ tokS A c [6, 7, 8, 9, 10, 11, 12, 13, 14, 15] [6, 7, 8] [5, 4, 3, 2, 1] ∗ X)
      ⊢ wpx c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 w) Q := by
  simp only [k0_part8_eq_skeleton]; unfold k0_part8_skel
  simp only [semSignalWord, semWaitWord, Prog.lift, Prog.bind_op, Prog.bind_ret, Prog.pure_eq_ret, wp_deviceId]
  refine run_tok A K c _ 6 10 (by decide) (by decide) rfl (Fin.ext (k0_dev21_eq c)) _ _ _ _ _ _ _ _ rfl rfl ?_
  refine run_tok A K c _ 7 9 (by decide) (by decide) rfl (Fin.ext (k0_dev22_eq c)) _ _ _ _ _ _ _ _ rfl rfl ?_
  exact ret_of (h _)

theorem part9 (v2 : BitVec 32) (f : Vec F S16x128x384 .bf16) {Q : _ → sProp (MT nD τ sig Unit (Elt F) ℕ UA ℕ)}
    (h : ∀ r, iprop(records A K ∗ ow c [] [10, 11, 12, 13, 14, 15] [8, 9, 10, 11, 12, 13, 14, 15, 1, 2, 3, 4, 5, 6, 7] ∗ tokS A c [10, 11, 12, 13, 14, 15] [10, 11, 12, 13, 14, 15] [9, 8, 7, 6, 5, 4, 3, 2, 1] ∗ X) ⊢ Q r) :
    iprop(records A K ∗ ow c [] [8, 9, 10, 11, 12, 13, 14, 15] [8, 9, 10, 11, 12, 13, 14, 15, 1, 2, 3, 4, 5, 6, 7] ∗ tokS A c [8, 9, 10, 11, 12, 13, 14, 15] [8] [7, 6, 5, 4, 3, 2, 1] ∗ p6 c 9 (9 + 7) (f) ∗ X)
      ⊢ wpx c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (pC A c) (augC A c)) Q := by
  simp only [k0_part9_eq_skeleton]; unfold k0_part9_skel
  simp only [semSignalWord, semWaitWord, Prog.lift, Prog.bind_op, Prog.bind_ret, Prog.pure_eq_ret, wp_deviceId]
  refine run_tok A K c _ 8 8 (by decide) (by decide) rfl (Fin.ext (k0_dev23_eq c)) _ _ _ _ _ _ _ _ rfl rfl ?_
  refine rot2 A K ?_
  refine ld6 A K c 9 7 _ _ _ ?_
  refine st6 A K c 9 7 _ _ _ _ (dispC A c) _ (fun i hi hl => cat3_2 (m := 9) _ _ _ _ i rfl hi hl) ?_
  refine joinup A K ?_
  refine conv1 A K (fill_tok A c 9 7 _ _) ?_
  refine run_tok A K c _ 9 7 (by decide) (by decide) rfl (Fin.ext (k0_dev24_eq c)) _ _ _ _ _ _ _ _ rfl rfl ?_
  exact ret_of (h _)

theorem part10 (v2 : BitVec 32) {Q : _ → sProp (MT nD τ sig Unit (Elt F) ℕ UA ℕ)}
    (h : ∀ r, iprop(records A K ∗ ow c [] [13, 14, 15] [8, 9, 10, 11, 12, 13, 14, 15, 1, 2, 3, 4, 5, 6, 7] ∗ tokS A c [13, 14, 15] [13, 14, 15] [12, 11, 10, 9, 8, 7, 6, 5, 4, 3, 2, 1] ∗ X) ⊢ Q r) :
    iprop(records A K ∗ ow c [] [10, 11, 12, 13, 14, 15] [8, 9, 10, 11, 12, 13, 14, 15, 1, 2, 3, 4, 5, 6, 7] ∗ tokS A c [10, 11, 12, 13, 14, 15] [10, 11, 12, 13, 14, 15] [9, 8, 7, 6, 5, 4, 3, 2, 1] ∗ X)
      ⊢ wpx c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q := by
  simp only [k0_part10_eq_skeleton]; unfold k0_part10_skel
  simp only [semSignalWord, semWaitWord, Prog.lift, Prog.bind_op, Prog.bind_ret, Prog.pure_eq_ret, wp_deviceId]
  refine run_tok A K c _ 10 6 (by decide) (by decide) rfl (Fin.ext (k0_dev25_eq c)) _ _ _ _ _ _ _ _ rfl rfl ?_
  refine run_tok A K c _ 11 5 (by decide) (by decide) rfl (Fin.ext (k0_dev26_eq c)) _ _ _ _ _ _ _ _ rfl rfl ?_
  refine run_tok A K c _ 12 4 (by decide) (by decide) rfl (Fin.ext (k0_dev27_eq c)) _ _ _ _ _ _ _ _ rfl rfl ?_
  exact ret_of (h _)

theorem part11 (v2 : BitVec 32) {Q : _ → sProp (MT nD τ sig Unit (Elt F) ℕ UA ℕ)}
    (h : ∀ r, iprop(records A K ∗ ow c [] [15] [8, 9, 10, 11, 12, 13, 14, 15, 1, 2, 3, 4, 5, 6, 7] ∗ tokS A c [15] [15] [14, 13, 12, 11, 10, 9, 8, 7, 6, 5, 4, 3, 2, 1] ∗ X) ⊢ Q r) :
    iprop(records A K ∗ ow c [] [13, 14, 15] [8, 9, 10, 11, 12, 13, 14, 15, 1, 2, 3, 4, 5, 6, 7] ∗ tokS A c [13, 14, 15] [13, 14, 15] [12, 11, 10, 9, 8, 7, 6, 5, 4, 3, 2, 1] ∗ X)
      ⊢ wpx c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q := by
  simp only [k0_part11_eq_skeleton]; unfold k0_part11_skel
  simp only [semSignalWord, semWaitWord, Prog.lift, Prog.bind_op, Prog.bind_ret, Prog.pure_eq_ret, wp_deviceId]
  refine run_tok A K c _ 13 3 (by decide) (by decide) rfl (Fin.ext (k0_dev28_eq c)) _ _ _ _ _ _ _ _ rfl rfl ?_
  refine run_tok A K c _ 14 2 (by decide) (by decide) rfl (Fin.ext (k0_dev29_eq c)) _ _ _ _ _ _ _ _ rfl rfl ?_
  exact ret_of (h _)

theorem part12 (w : BitVec 32) (f f' : Vec F S16x128x384 .bf16) {Q : _ → sProp (MT nD τ sig Unit (Elt F) ℕ UA ℕ)}
    (h : iprop(records A K ∗ ow c [] [] [8, 9, 10, 11, 12, 13, 14, 15, 1, 2, 3, 4, 5, 6, 7] ∗ p7 c 0 (0 + 1) (recvC A c) ∗ inpS A c ∗ p6 c 0 (0 + 1) (dispC A c) ∗ tokS A c [] [] [15, 14, 13, 12, 11, 10, 9, 8, 7, 6, 5, 4, 3, 2, 1] ∗ X) ⊢ Q ⟨sharedC A c, ewC A c, k0_pay17 (rows0 A c), k0_pay18 (rows0 A c), k0_pay19⟩) :
    iprop(records A K ∗ ow c [] [15] [8, 9, 10, 11, 12, 13, 14, 15, 1, 2, 3, 4, 5, 6, 7] ∗ tokS A c [15] [15] [14, 13, 12, 11, 10, 9, 8, 7, 6, 5, 4, 3, 2, 1] ∗ p6 c 0 (0 + 1) (f) ∗ p7 c 0 (0 + 1) (f') ∗ inpS A c ∗ X)
      ⊢ wpx c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (xC A c) (pC A c) (augC A c) w) Q := by
  simp only [k0_part12_eq_skeleton]; unfold k0_part12_skel
  simp only [semSignalWord, semWaitWord, Prog.lift, Prog.bind_op, Prog.bind_ret, Prog.pure_eq_ret, wp_deviceId]
  refine run_tok A K c _ 15 1 (by decide) (by decide) rfl (Fin.ext (k0_dev30_eq c)) _ _ _ _ _ _ _ _ rfl rfl ?_
  refine rot2 A K ?_
  refine ld6 A K c 0 1 _ _ _ ?_
  refine st6 A K c 0 1 _ _ _ _ (dispC A c) _ (fun i hi hl => cat3_0 _ _ _ _ i hi) ?_
  refine ld6 A K c 0 1 _ _ _ ?_
  refine rot3 A K ?_
  refine ld7 A K c 0 1 _ _ _ ?_
  refine st7 A K c 0 1 _ _ _ _ (recvC A c) _ (fun i hi _ => own_recv A c i hi) ?_
  refine rot4 A K ?_
  refine ld_sw A K c _ _ ?_
  refine ld_ew A K c _ _ ?_
  refine rot2 A K ?_
  refine ld7 A K c 0 1 _ _ _ ?_
  exact ret_of (h)

theorem part13 (w : BitVec 32) (f f' : Vec F S16x128x512 .bf16) {Q : _ → sProp (MT nD τ sig Unit (Elt F) ℕ UA ℕ)}
    (h : ∀ r, iprop(records A K ∗ O ∗ p9 c 0 (0 + 1) (backC A c) ∗ p8 c 0 (0 + 1) (retC A c) ∗ X) ⊢ Q r) :
    iprop(records A K ∗ O ∗ p8 c 0 (0 + 1) (f) ∗ p9 c 0 (0 + 1) (f') ∗ X)
      ⊢ wpx c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w (ewC A c) (k0_pay17 (rows0 A c)) (k0_pay18 (rows0 A c)) k0_pay19) Q := by
  simp only [k0_part13_eq_skeleton]; unfold k0_part13_skel
  simp only [semSignalWord, semWaitWord, Prog.lift, Prog.bind_op, Prog.bind_ret, Prog.pure_eq_ret, wp_deviceId]
  refine ld8 A K c 0 1 _ _ _ ?_
  refine st8 A K c 0 1 _ _ _ _ (retC A c) _ (fun i hi hl => cat3_0 _ _ _ _ i hi) ?_
  refine ld8 A K c 0 1 _ _ _ ?_
  refine rot2 A K ?_
  refine ld9 A K c 0 1 _ _ _ ?_
  refine st9 A K c 0 1 _ _ _ _ (backC A c) _ (fun i hi _ => own_back A c i hi) ?_
  exact ret_of (h _)

end Cert.Exchange

end
-- ==== Proof.Parts3.lean ====
/-
The parts that take in the slots and work out the first results.
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem part14 (w0 w1 w2 w3 w4 : BitVec 32) {Q : _ → sProp (MT nD τ sig Unit (Elt F) ℕ UA ℕ)}
    (h : ∀ r, iprop(records A K ∗ ow c [] [] [8, 9, 10, 11, 12, 13, 14, 15, 1, 2, 3, 4, 5, 6, 7] ∗ waitS A c 1 [12, 11, 10, 9, 8, 7, 6, 5, 4, 3, 2, 1] [13, 14, 15] [13, 14, 15] ∗ X) ⊢ Q r) :
    iprop(records A K ∗ ow c [] [] [8, 9, 10, 11, 12, 13, 14, 15, 1, 2, 3, 4, 5, 6, 7] ∗ waitS A c 1 [15, 14, 13, 12, 11, 10, 9, 8, 7, 6, 5, 4, 3, 2, 1] [] [] ∗ X)
      ⊢ wpx c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2 w3 w4) Q := by
  simp only [k0_part14_eq_skeleton]; unfold k0_part14_skel
  simp only [semSignalWord, semWaitWord, Prog.lift, Prog.bind_op, Prog.bind_ret, Prog.pure_eq_ret, wp_deviceId]
  refine run_wait A K c 1 15 (by decide) (by decide) (by decide) _ _ _ _ (by decide) (by decide) _ rfl rfl ?_
  refine run_wait A K c 1 14 (by decide) (by decide) (by decide) _ _ _ _ (by decide) (by decide) _ rfl rfl ?_
  refine run_wait A K c 1 13 (by decide) (by decide) (by decide) _ _ _ _ (by decide) (by decide) _ rfl rfl ?_
  exact ret_of (h _)

theorem part15 (w0 w1 w2 : BitVec 32) {Q : _ → sProp (MT nD τ sig Unit (Elt F) ℕ UA ℕ)}
    (h : ∀ r, iprop(records A K ∗ ow c [] [] [8, 9, 10, 11, 12, 13, 14, 15, 1, 2, 3, 4, 5, 6, 7] ∗ waitS A c 1 [9, 8, 7, 6, 5, 4, 3, 2, 1] [10, 11, 12, 13, 14, 15] [10, 11, 12, 13, 14, 15] ∗ X) ⊢ Q r) :
    iprop(records A K ∗ ow c [] [] [8, 9, 10, 11, 12, 13, 14, 15, 1, 2, 3, 4, 5, 6, 7] ∗ waitS A c 1 [12, 11, 10, 9, 8, 7, 6, 5, 4, 3, 2, 1] [13, 14, 15] [13, 14, 15] ∗ X)
      ⊢ wpx c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2) Q := by
  simp only [k0_part15_eq_skeleton]; unfold k0_part15_skel
  simp only [semSignalWord, semWaitWord, Prog.lift, Prog.bind_op, Prog.bind_ret, Prog.pure_eq_ret, wp_deviceId]
  refine run_wait A K c 1 12 (by decide) (by decide) (by decide) _ _ _ _ (by decide) (by decide) _ rfl rfl ?_
  refine run_wait A K c 1 11 (by decide) (by decide) (by decide) _ _ _ _ (by decide) (by decide) _ rfl rfl ?_
  refine run_wait A K c 1 10 (by decide) (by decide) (by decide) _ _ _ _ (by decide) (by decide) _ rfl rfl ?_
  exact ret_of (h _)

theorem part16 (w0 : BitVec 32) {Q : _ → sProp (MT nD τ sig Unit (Elt F) ℕ UA ℕ)}
    (h : iprop(records A K ∗ ow c [] [] [8, 9, 10, 11, 12, 13, 14, 15, 1, 2, 3, 4, 5, 6, 7] ∗ p7 c 8 (8 + 8) (recvC A c) ∗ waitS A c 1 [7, 6, 5, 4, 3, 2, 1] [8, 9, 10, 11, 12, 13, 14, 15] [] ∗ X) ⊢ Q ⟨k0_pay23 (rows8 A c), k0_pay24 (rows8 A c), k0_pay25 (ewC A c) (rows8 A c), k0_pay26 (ewC A c)⟩) :
    iprop(records A K ∗ ow c [] [] [8, 9, 10, 11, 12, 13, 14, 15, 1, 2, 3, 4, 5, 6, 7] ∗ waitS A c 1 [9, 8, 7, 6, 5, 4, 3, 2, 1] [10, 11, 12, 13, 14, 15] [10, 11, 12, 13, 14, 15] ∗ X)
      ⊢ wpx c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 (ewC A c)) Q := by
  simp only [k0_part16_eq_skeleton]; unfold k0_part16_skel
  simp only [semSignalWord, semWaitWord, Prog.lift, Prog.bind_op, Prog.bind_ret, Prog.pure_eq_ret, wp_deviceId]
  refine run_wait A K c 1 9 (by decide) (by decide) (by decide) _ _ _ _ (by decide) (by decide) _ rfl rfl ?_
  refine run_wait A K c 1 8 (by decide) (by decide) (by decide) _ _ _ _ (by decide) (by decide) _ rfl rfl ?_
  refine conv1 A K (take7 A c 8 8 _ _ _ (by decide)) ?_
  refine aside A K ?_
  refine ld7 A K c 8 8 _ _ _ ?_
  exact ret_of (h)

theorem part17 (w0 : BitVec 32) (f : Vec F S16x128x512 .bf16) {Q : _ → sProp (MT nD τ sig Unit (Elt F) ℕ UA ℕ)}
    (h : ∀ r, iprop(records A K ∗ ow c [] [] [9, 10, 11, 12, 13, 14, 15, 1, 2, 3, 4, 5, 6, 7] ∗ resS A c [9, 10, 11, 12, 13, 14, 15, 1, 2, 3, 4, 5, 6, 7] [9, 10, 11, 12, 13, 14, 15] [8] ∗ X) ⊢ Q r) :
    iprop(records A K ∗ ow c [] [] [8, 9, 10, 11, 12, 13, 14, 15, 1, 2, 3, 4, 5, 6, 7] ∗ p8 c 8 (8 + 8) (f) ∗ resS A c [8, 9, 10, 11, 12, 13, 14, 15, 1, 2, 3, 4, 5, 6, 7] [] [] ∗ X)
      ⊢ wpx c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0 (k0_pay23 (rows8 A c)) (k0_pay24 (rows8 A c)) (k0_pay25 (ewC A c) (rows8 A c)) (k0_pay26 (ewC A c))) Q := by
  simp only [k0_part17_eq_skeleton]; unfold k0_part17_skel
  simp only [semSignalWord, semWaitWord, Prog.lift, Prog.bind_op, Prog.bind_ret, Prog.pure_eq_ret, wp_deviceId]
  refine ld8 A K c 8 8 _ _ _ ?_
  refine st8 A K c 8 8 _ _ _ _ (retC A c) _ (fun i hi hl => cat3_2 (m := 8) _ _ _ _ i rfl hi hl) ?_
  refine joinup A K ?_
  refine conv1 A K (fill_res A c 8 8 _ _) ?_
  refine run_res A K c _ 8 8 (by decide) (by decide) rfl (Fin.ext (k0_dev31_eq c)) _ _ _ _ _ _ _ rfl rfl ?_
  exact ret_of (h _)

theorem part18 (w0 : BitVec 32) {Q : _ → sProp (MT nD τ sig Unit (Elt F) ℕ UA ℕ)}
    (h : ∀ r, iprop(records A K ∗ ow c [] [] [12, 13, 14, 15, 1, 2, 3, 4, 5, 6, 7] ∗ resS A c [12, 13, 14, 15, 1, 2, 3, 4, 5, 6, 7] [12, 13, 14, 15] [11, 10, 9, 8] ∗ X) ⊢ Q r) :
    iprop(records A K ∗ ow c [] [] [9, 10, 11, 12, 13, 14, 15, 1, 2, 3, 4, 5, 6, 7] ∗ resS A c [9, 10, 11, 12, 13, 14, 15, 1, 2, 3, 4, 5, 6, 7] [9, 10, 11, 12, 13, 14, 15] [8] ∗ X)
      ⊢ wpx c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0) Q := by
  simp only [k0_part18_eq_skeleton]; unfold k0_part18_skel
  simp only [semSignalWord, semWaitWord, Prog.lift, Prog.bind_op, Prog.bind_ret, Prog.pure_eq_ret, wp_deviceId]
  refine run_res A K c _ 9 7 (by decide) (by decide) rfl (Fin.ext (k0_dev32_eq c)) _ _ _ _ _ _ _ rfl rfl ?_
  refine run_res A K c _ 10 6 (by decide) (by decide) rfl (Fin.ext (k0_dev33_eq c)) _ _ _ _ _ _ _ rfl rfl ?_
  refine run_res A K c _ 11 5 (by decide) (by decide) rfl (Fin.ext (k0_dev34_eq c)) _ _ _ _ _ _ _ rfl rfl ?_
  exact ret_of (h _)

theorem part19 (w0 w1 : BitVec 32) {Q : _ → sProp (MT nD τ sig Unit (Elt F) ℕ UA ℕ)}
    (h : ∀ r, iprop(records A K ∗ ow c [] [] [14, 15, 1, 2, 3, 4, 5, 6, 7] ∗ resS A c [14, 15, 1, 2, 3, 4, 5, 6, 7] [14, 15] [13, 12, 11, 10, 9, 8] ∗ X) ⊢ Q r) :
    iprop(records A K ∗ ow c [] [] [12, 13, 14, 15, 1, 2, 3, 4, 5, 6, 7] ∗ resS A c [12, 13, 14, 15, 1, 2, 3, 4, 5, 6, 7] [12, 13, 14, 15] [11, 10, 9, 8] ∗ X)
      ⊢ wpx c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0 w1) Q := by
  simp only [k0_part19_eq_skeleton]; unfold k0_part19_skel
  simp only [semSignalWord, semWaitWord, Prog.lift, Prog.bind_op, Prog.bind_ret, Prog.pure_eq_ret, wp_deviceId]
  refine run_res A K c _ 12 4 (by decide) (by decide) rfl (Fin.ext (k0_dev35_eq c)) _ _ _ _ _ _ _ rfl rfl ?_
  refine run_res A K c _ 13 3 (by decide) (by decide) rfl (Fin.ext (k0_dev36_eq c)) _ _ _ _ _ _ _ rfl rfl ?_
  exact ret_of (h _)

theorem part20 (w0 w1 : BitVec 32) {Q : _ → sProp (MT nD τ sig Unit (Elt F) ℕ UA ℕ)}
    (h : ∀ r, iprop(records A K ∗ ow c [] [] [1, 2, 3, 4, 5, 6, 7] ∗ waitS A c 1 [6, 5, 4, 3, 2, 1] [7, 8, 9, 10, 11, 12, 13, 14, 15] [7] ∗ resS A c [1, 2, 3, 4, 5, 6, 7] [] [15, 14, 13, 12, 11, 10, 9, 8] ∗ X) ⊢ Q r) :
    iprop(records A K ∗ ow c [] [] [14, 15, 1, 2, 3, 4, 5, 6, 7] ∗ resS A c [14, 15, 1, 2, 3, 4, 5, 6, 7] [14, 15] [13, 12, 11, 10, 9, 8] ∗ waitS A c 1 [7, 6, 5, 4, 3, 2, 1] [8, 9, 10, 11, 12, 13, 14, 15] [] ∗ X)
      ⊢ wpx c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0 w1) Q := by
  simp only [k0_part20_eq_skeleton]; unfold k0_part20_skel
  simp only [semSignalWord, semWaitWord, Prog.lift, Prog.bind_op, Prog.bind_ret, Prog.pure_eq_ret, wp_deviceId]
  refine run_res A K c _ 14 2 (by decide) (by decide) rfl (Fin.ext (k0_dev37_eq c)) _ _ _ _ _ _ _ rfl rfl ?_
  refine run_res A K c _ 15 1 (by decide) (by decide) rfl (Fin.ext (k0_dev38_eq c)) _ _ _ _ _ _ _ rfl rfl ?_
  refine rot2 A K ?_
  refine run_wait A K c 1 7 (by decide) (by decide) (by decide) _ _ _ _ (by decide) (by decide) _ rfl rfl ?_
  exact ret_of (h _)

theorem part21 (w0 w1 w2 w3 w4 : BitVec 32) {Q : _ → sProp (MT nD τ sig Unit (Elt F) ℕ UA ℕ)}
    (h : ∀ r, iprop(records A K ∗ ow c [] [] [1, 2, 3, 4, 5, 6, 7] ∗ waitS A c 1 [3, 2, 1] [4, 5, 6, 7, 8, 9, 10, 11, 12, 13, 14, 15] [4, 5, 6, 7] ∗ X) ⊢ Q r) :
    iprop(records A K ∗ ow c [] [] [1, 2, 3, 4, 5, 6, 7] ∗ waitS A c 1 [6, 5, 4, 3, 2, 1] [7, 8, 9, 10, 11, 12, 13, 14, 15] [7] ∗ X)
      ⊢ wpx c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2 w3 w4) Q := by
  simp only [k0_part21_eq_skeleton]; unfold k0_part21_skel
  simp only [semSignalWord, semWaitWord, Prog.lift, Prog.bind_op, Prog.bind_ret, Prog.pure_eq_ret, wp_deviceId]
  refine run_wait A K c 1 6 (by decide) (by decide) (by decide) _ _ _ _ (by decide) (by decide) _ rfl rfl ?_
  refine run_wait A K c 1 5 (by decide) (by decide) (by decide) _ _ _ _ (by decide) (by decide) _ rfl rfl ?_
  refine run_wait A K c 1 4 (by decide) (by decide) (by decide) _ _ _ _ (by decide) (by decide) _ rfl rfl ?_
  exact ret_of (h _)

theorem part22 (w0 w1 : BitVec 32) {Q : _ → sProp (MT nD τ sig Unit (Elt F) ℕ UA ℕ)}
    (h : iprop(records A K ∗ ow c [] [] [1, 2, 3, 4, 5, 6, 7] ∗ p7 c 1 (1 + 7) (recvC A c) ∗ waitS A c 1 [] [1, 2, 3, 4, 5, 6, 7, 8, 9, 10, 11, 12, 13, 14, 15] [] ∗ X) ⊢ Q ⟨k0_pay29 (rows1 A c), k0_pay30 (rows1 A c), k0_pay31, k0_pay32 (ewC A c)⟩) :
    iprop(records A K ∗ ow c [] [] [1, 2, 3, 4, 5, 6, 7] ∗ waitS A c 1 [3, 2, 1] [4, 5, 6, 7, 8, 9, 10, 11, 12, 13, 14, 15] [4, 5, 6, 7] ∗ X)
      ⊢ wpx c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 (ewC A c)) Q := by
  simp only [k0_part22_eq_skeleton]; unfold k0_part22_skel
  simp only [semSignalWord, semWaitWord, Prog.lift, Prog.bind_op, Prog.bind_ret, Prog.pure_eq_ret, wp_deviceId]
  refine run_wait A K c 1 3 (by decide) (by decide) (by decide) _ _ _ _ (by decide) (by decide) _ rfl rfl ?_
  refine run_wait A K c 1 2 (by decide) (by decide) (by decide) _ _ _ _ (by decide) (by decide) _ rfl rfl ?_
  refine run_wait A K c 1 1 (by decide) (by decide) (by decide) _ _ _ _ (by decide) (by decide) _ rfl rfl ?_
  refine conv1 A K (take7 A c 1 7 _ _ _ (by decide)) ?_
  refine aside A K ?_
  refine ld7 A K c 1 7 _ _ _ ?_
  exact ret_of (h)

theorem part23 (w0 : BitVec 32) (f : Vec F S16x128x512 .bf16) {Q : _ → sProp (MT nD τ sig Unit (Elt F) ℕ UA ℕ)}
    (h : ∀ r, iprop(records A K ∗ O ∗ resS A c [1, 2, 3, 4, 5, 6, 7] [1, 2, 3, 4, 5, 6, 7] [15, 14, 13, 12, 11, 10, 9, 8] ∗ X) ⊢ Q r) :
    iprop(records A K ∗ O ∗ p8 c 1 (1 + 7) (f) ∗ resS A c [1, 2, 3, 4, 5, 6, 7] [] [15, 14, 13, 12, 11, 10, 9, 8] ∗ X)
      ⊢ wpx c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 (ewC A c) (k0_pay29 (rows1 A c)) (k0_pay30 (rows1 A c)) k0_pay31 (k0_pay32 (ewC A c))) Q := by
  simp only [k0_part23_eq_skeleton]; unfold k0_part23_skel
  simp only [semSignalWord, semWaitWord, Prog.lift, Prog.bind_op, Prog.bind_ret, Prog.pure_eq_ret, wp_deviceId]
  refine ld8 A K c 1 7 _ _ _ ?_
  refine st8 A K c 1 7 _ _ _ _ (retC A c) _ (fun i hi hl => cat3_1 _ _ _ _ i hi hl) ?_
  refine joinup A K ?_
  refine conv1 A K (fill_res A c 1 7 _ _) ?_
  exact ret_of (h _)

end Cert.Exchange

end
-- ==== Proof.Parts4.lean ====
/-
The parts that send the results back and gather them.
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem out_conv : ((((c : Thread nD τ).loc cc0_stg5_0) ↦{fullShare} k0_pay34 (probC A c) (pC A c) (sharedC A c) (grp 0 16 (backC A c)) : sProp 𝕄))
    ⊢ (((c : Thread nD τ).loc cc0_stg5_0) ↦{fullShare} outC A c) := by
  rw [show grp 0 16 (backC A c) = backC A c from grp_full _]
  exact BIBase.Entails.rfl

theorem part24 (w0 : BitVec 32) {Q : _ → sProp (MT nD τ sig Unit (Elt F) ℕ UA ℕ)}
    (h : ∀ r, iprop(records A K ∗ ow c [] [] [4, 5, 6, 7] ∗ resS A c [4, 5, 6, 7] [4, 5, 6, 7] [3, 2, 1, 15, 14, 13, 12, 11, 10, 9, 8] ∗ X) ⊢ Q r) :
    iprop(records A K ∗ ow c [] [] [1, 2, 3, 4, 5, 6, 7] ∗ resS A c [1, 2, 3, 4, 5, 6, 7] [1, 2, 3, 4, 5, 6, 7] [15, 14, 13, 12, 11, 10, 9, 8] ∗ X)
      ⊢ wpx c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0) Q := by
  simp only [k0_part24_eq_skeleton]; unfold k0_part24_skel
  simp only [semSignalWord, semWaitWord, Prog.lift, Prog.bind_op, Prog.bind_ret, Prog.pure_eq_ret, wp_deviceId]
  refine run_res A K c _ 1 15 (by decide) (by decide) rfl (Fin.ext (k0_dev39_eq c)) _ _ _ _ _ _ _ rfl rfl ?_
  refine run_res A K c _ 2 14 (by decide) (by decide) rfl (Fin.ext (k0_dev40_eq c)) _ _ _ _ _ _ _ rfl rfl ?_
  refine run_res A K c _ 3 13 (by decide) (by decide) rfl (Fin.ext (k0_dev41_eq c)) _ _ _ _ _ _ _ rfl rfl ?_
  exact ret_of (h _)

theorem part25 (w0 w1 : BitVec 32) {Q : _ → sProp (MT nD τ sig Unit (Elt F) ℕ UA ℕ)}
    (h : ∀ r, iprop(records A K ∗ ow c [] [] [6, 7] ∗ resS A c [6, 7] [6, 7] [5, 4, 3, 2, 1, 15, 14, 13, 12, 11, 10, 9, 8] ∗ X) ⊢ Q r) :
    iprop(records A K ∗ ow c [] [] [4, 5, 6, 7] ∗ resS A c [4, 5, 6, 7] [4, 5, 6, 7] [3, 2, 1, 15, 14, 13, 12, 11, 10, 9, 8] ∗ X)
      ⊢ wpx c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0 w1) Q := by
  simp only [k0_part25_eq_skeleton]; unfold k0_part25_skel
  simp only [semSignalWord, semWaitWord, Prog.lift, Prog.bind_op, Prog.bind_ret, Prog.pure_eq_ret, wp_deviceId]
  refine run_res A K c _ 4 12 (by decide) (by decide) rfl (Fin.ext (k0_dev42_eq c)) _ _ _ _ _ _ _ rfl rfl ?_
  refine run_res A K c _ 5 11 (by decide) (by decide) rfl (Fin.ext (k0_dev43_eq c)) _ _ _ _ _ _ _ rfl rfl ?_
  exact ret_of (h _)

theorem part26 (w0 w1 w2 : BitVec 32) {Q : _ → sProp (MT nD τ sig Unit (Elt F) ℕ UA ℕ)}
    (h : ∀ r, iprop(records A K ∗ ow c [] [] [] ∗ waitS A c 3 [7, 6, 5, 4, 3, 2, 1, 15, 14, 13, 12, 11, 10, 9] [8] [8] ∗ resS A c [] [] [7, 6, 5, 4, 3, 2, 1, 15, 14, 13, 12, 11, 10, 9, 8] ∗ X) ⊢ Q r) :
    iprop(records A K ∗ ow c [] [] [6, 7] ∗ resS A c [6, 7] [6, 7] [5, 4, 3, 2, 1, 15, 14, 13, 12, 11, 10, 9, 8] ∗ waitS A c 3 [8, 7, 6, 5, 4, 3, 2, 1, 15, 14, 13, 12, 11, 10, 9] [] [] ∗ X)
      ⊢ wpx c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w0 w1 w2) Q := by
  simp only [k0_part26_eq_skeleton]; unfold k0_part26_skel
  simp only [semSignalWord, semWaitWord, Prog.lift, Prog.bind_op, Prog.bind_ret, Prog.pure_eq_ret, wp_deviceId]
  refine run_res A K c _ 6 10 (by decide) (by decide) rfl (Fin.ext (k0_dev44_eq c)) _ _ _ _ _ _ _ rfl rfl ?_
  refine run_res A K c _ 7 9 (by decide) (by decide) rfl (Fin.ext (k0_dev45_eq c)) _ _ _ _ _ _ _ rfl rfl ?_
  refine rot2 A K ?_
  refine run_wait A K c 3 8 (by decide) (by decide) (by decide) _ _ _ _ (by decide) (by decide) _ rfl rfl ?_
  exact ret_of (h _)

theorem part27 (w0 w1 w2 w3 : BitVec 32) {Q : _ → sProp (MT nD τ sig Unit (Elt F) ℕ UA ℕ)}
    (h : ∀ r, iprop(records A K ∗ ow c [] [] [] ∗ waitS A c 3 [4, 3, 2, 1, 15, 14, 13, 12, 11, 10, 9] [5, 6, 7, 8] [5, 6, 7, 8] ∗ X) ⊢ Q r) :
    iprop(records A K ∗ ow c [] [] [] ∗ waitS A c 3 [7, 6, 5, 4, 3, 2, 1, 15, 14, 13, 12, 11, 10, 9] [8] [8] ∗ X)
      ⊢ wpx c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2 w3) Q := by
  simp only [k0_part27_eq_skeleton]; unfold k0_part27_skel
  simp only [semSignalWord, semWaitWord, Prog.lift, Prog.bind_op, Prog.bind_ret, Prog.pure_eq_ret, wp_deviceId]
  refine run_wait A K c 3 7 (by decide) (by decide) (by decide) _ _ _ _ (by decide) (by decide) _ rfl rfl ?_
  refine run_wait A K c 3 6 (by decide) (by decide) (by decide) _ _ _ _ (by decide) (by decide) _ rfl rfl ?_
  refine run_wait A K c 3 5 (by decide) (by decide) (by decide) _ _ _ _ (by decide) (by decide) _ rfl rfl ?_
  exact ret_of (h _)

theorem part28 (w0 w1 w2 : BitVec 32) {Q : _ → sProp (MT nD τ sig Unit (Elt F) ℕ UA ℕ)}
    (h : ∀ r, iprop(records A K ∗ ow c [] [] [] ∗ waitS A c 3 [1, 15, 14, 13, 12, 11, 10, 9] [2, 3, 4, 5, 6, 7, 8] [2, 3, 4, 5, 6, 7, 8] ∗ X) ⊢ Q r) :
    iprop(records A K ∗ ow c [] [] [] ∗ waitS A c 3 [4, 3, 2, 1, 15, 14, 13, 12, 11, 10, 9] [5, 6, 7, 8] [5, 6, 7, 8] ∗ X)
      ⊢ wpx c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2) Q := by
  simp only [k0_part28_eq_skeleton]; unfold k0_part28_skel
  simp only [semSignalWord, semWaitWord, Prog.lift, Prog.bind_op, Prog.bind_ret, Prog.pure_eq_ret, wp_deviceId]
  refine run_wait A K c 3 4 (by decide) (by decide) (by decide) _ _ _ _ (by decide) (by decide) _ rfl rfl ?_
  refine run_wait A K c 3 3 (by decide) (by decide) (by decide) _ _ _ _ (by decide) (by decide) _ rfl rfl ?_
  refine run_wait A K c 3 2 (by decide) (by decide) (by decide) _ _ _ _ (by decide) (by decide) _ rfl rfl ?_
  exact ret_of (h _)

theorem part29 (w0 w1 w2 : BitVec 32) {Q : _ → sProp (MT nD τ sig Unit (Elt F) ℕ UA ℕ)}
    (h : ∀ r, iprop(records A K ∗ ow c [] [] [] ∗ waitS A c 3 [13, 12, 11, 10, 9] [14, 15, 1, 2, 3, 4, 5, 6, 7, 8] [14, 15, 1, 2, 3, 4, 5, 6, 7, 8] ∗ X) ⊢ Q r) :
    iprop(records A K ∗ ow c [] [] [] ∗ waitS A c 3 [1, 15, 14, 13, 12, 11, 10, 9] [2, 3, 4, 5, 6, 7, 8] [2, 3, 4, 5, 6, 7, 8] ∗ X)
      ⊢ wpx c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2) Q := by
  simp only [k0_part29_eq_skeleton]; unfold k0_part29_skel
  simp only [semSignalWord, semWaitWord, Prog.lift, Prog.bind_op, Prog.bind_ret, Prog.pure_eq_ret, wp_deviceId]
  refine run_wait A K c 3 1 (by decide) (by decide) (by decide) _ _ _ _ (by decide) (by decide) _ rfl rfl ?_
  refine run_wait A K c 3 15 (by decide) (by decide) (by decide) _ _ _ _ (by decide) (by decide) _ rfl rfl ?_
  refine run_wait A K c 3 14 (by decide) (by decide) (by decide) _ _ _ _ (by decide) (by decide) _ rfl rfl ?_
  exact ret_of (h _)

theorem part30 (w0 w1 w2 : BitVec 32) {Q : _ → sProp (MT nD τ sig Unit (Elt F) ℕ UA ℕ)}
    (h : ∀ r, iprop(records A K ∗ ow c [] [] [] ∗ waitS A c 3 [10, 9] [11, 12, 13, 14, 15, 1, 2, 3, 4, 5, 6, 7, 8] [11, 12, 13, 14, 15, 1, 2, 3, 4, 5, 6, 7, 8] ∗ X) ⊢ Q r) :
    iprop(records A K ∗ ow c [] [] [] ∗ waitS A c 3 [13, 12, 11, 10, 9] [14, 15, 1, 2, 3, 4, 5, 6, 7, 8] [14, 15, 1, 2, 3, 4, 5, 6, 7, 8] ∗ X)
      ⊢ wpx c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w0 w1 w2) Q := by
  simp only [k0_part30_eq_skeleton]; unfold k0_part30_skel
  simp only [semSignalWord, semWaitWord, Prog.lift, Prog.bind_op, Prog.bind_ret, Prog.pure_eq_ret, wp_deviceId]
  refine run_wait A K c 3 13 (by decide) (by decide) (by decide) _ _ _ _ (by decide) (by decide) _ rfl rfl ?_
  refine run_wait A K c 3 12 (by decide) (by decide) (by decide) _ _ _ _ (by decide) (by decide) _ rfl rfl ?_
  refine run_wait A K c 3 11 (by decide) (by decide) (by decide) _ _ _ _ (by decide) (by decide) _ rfl rfl ?_
  exact ret_of (h _)

theorem part31 (w0 : BitVec 32) (f : Vec F S1024x512 .f32) {Q : _ → sProp (MT nD τ sig Unit (Elt F) ℕ UA ℕ)}
    (h : ∀ r, iprop(records A K ∗ ow c [] [] [] ∗ waitS A c 0 [2, 3, 4, 5, 6, 7, 8, 9, 10, 11, 12, 13, 14, 15] [1] [1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ X) ⊢ Q r) :
    iprop(records A K ∗ ow c [] [] [] ∗ waitS A c 3 [10, 9] [11, 12, 13, 14, 15, 1, 2, 3, 4, 5, 6, 7, 8] [11, 12, 13, 14, 15, 1, 2, 3, 4, 5, 6, 7, 8] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ X)
      ⊢ wpx c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (probC A c) (pC A c) (sharedC A c) w0) Q := by
  simp only [k0_part31_eq_skeleton]; unfold k0_part31_skel
  simp only [semSignalWord, semWaitWord, Prog.lift, Prog.bind_op, Prog.bind_ret, Prog.pure_eq_ret, wp_deviceId]
  refine run_wait A K c 3 10 (by decide) (by decide) (by decide) _ _ _ _ (by decide) (by decide) _ rfl rfl ?_
  refine run_wait A K c 3 9 (by decide) (by decide) (by decide) _ _ _ _ (by decide) (by decide) _ rfl rfl ?_
  refine joinup A K ?_
  refine conv1 A K (take9 A c _ _ _ (by decide)) ?_
  refine aside A K ?_
  refine ld9 A K c 0 16 _ _ _ ?_
  refine rot3 A K ?_
  refine ld_out A K c _ _ _ (fun _ => ?_)
  refine st_out A K c _ _ _ _ (k0_pay34 (probC A c) (pC A c) (sharedC A c) (grp 0 16 (backC A c))) ?_
  refine conv1 A K (out_conv A c) ?_
  refine rot4 A K ?_
  refine run_wait A K c 0 1 (by decide) (by decide) (by decide) _ _ _ _ (by decide) (by decide) _ rfl rfl ?_
  exact ret_of (h _)

theorem part32  {Q : _ → sProp (MT nD τ sig Unit (Elt F) ℕ UA ℕ)}
    (h : ∀ r, iprop(records A K ∗ ow c [] [] [] ∗ waitS A c 0 [6, 7, 8, 9, 10, 11, 12, 13, 14, 15] [5, 4, 3, 2, 1] [5, 4, 3, 2, 1] ∗ X) ⊢ Q r) :
    iprop(records A K ∗ ow c [] [] [] ∗ waitS A c 0 [2, 3, 4, 5, 6, 7, 8, 9, 10, 11, 12, 13, 14, 15] [1] [1] ∗ X)
      ⊢ wpx c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part32_eq_skeleton]; unfold k0_part32_skel
  simp only [semSignalWord, semWaitWord, Prog.lift, Prog.bind_op, Prog.bind_ret, Prog.pure_eq_ret, wp_deviceId]
  refine run_wait A K c 0 2 (by decide) (by decide) (by decide) _ _ _ _ (by decide) (by decide) _ rfl rfl ?_
  refine run_wait A K c 0 3 (by decide) (by decide) (by decide) _ _ _ _ (by decide) (by decide) _ rfl rfl ?_
  refine run_wait A K c 0 4 (by decide) (by decide) (by decide) _ _ _ _ (by decide) (by decide) _ rfl rfl ?_
  refine run_wait A K c 0 5 (by decide) (by decide) (by decide) _ _ _ _ (by decide) (by decide) _ rfl rfl ?_
  exact ret_of (h _)

theorem part33  {Q : _ → sProp (MT nD τ sig Unit (Elt F) ℕ UA ℕ)}
    (h : ∀ r, iprop(records A K ∗ ow c [] [] [] ∗ waitS A c 0 [10, 11, 12, 13, 14, 15] [9, 8, 7, 6, 5, 4, 3, 2, 1] [9, 8, 7, 6, 5, 4, 3, 2, 1] ∗ X) ⊢ Q r) :
    iprop(records A K ∗ ow c [] [] [] ∗ waitS A c 0 [6, 7, 8, 9, 10, 11, 12, 13, 14, 15] [5, 4, 3, 2, 1] [5, 4, 3, 2, 1] ∗ X)
      ⊢ wpx c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part33_eq_skeleton]; unfold k0_part33_skel
  simp only [semSignalWord, semWaitWord, Prog.lift, Prog.bind_op, Prog.bind_ret, Prog.pure_eq_ret, wp_deviceId]
  refine run_wait A K c 0 6 (by decide) (by decide) (by decide) _ _ _ _ (by decide) (by decide) _ rfl rfl ?_
  refine run_wait A K c 0 7 (by decide) (by decide) (by decide) _ _ _ _ (by decide) (by decide) _ rfl rfl ?_
  refine run_wait A K c 0 8 (by decide) (by decide) (by decide) _ _ _ _ (by decide) (by decide) _ rfl rfl ?_
  refine run_wait A K c 0 9 (by decide) (by decide) (by decide) _ _ _ _ (by decide) (by decide) _ rfl rfl ?_
  exact ret_of (h _)

theorem part34  {Q : _ → sProp (MT nD τ sig Unit (Elt F) ℕ UA ℕ)}
    (h : ∀ r, iprop(records A K ∗ ow c [] [] [] ∗ waitS A c 0 [13, 14, 15] [12, 11, 10, 9, 8, 7, 6, 5, 4, 3, 2, 1] [12, 11, 10, 9, 8, 7, 6, 5, 4, 3, 2, 1] ∗ X) ⊢ Q r) :
    iprop(records A K ∗ ow c [] [] [] ∗ waitS A c 0 [10, 11, 12, 13, 14, 15] [9, 8, 7, 6, 5, 4, 3, 2, 1] [9, 8, 7, 6, 5, 4, 3, 2, 1] ∗ X)
      ⊢ wpx c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part34_eq_skeleton]; unfold k0_part34_skel
  simp only [semSignalWord, semWaitWord, Prog.lift, Prog.bind_op, Prog.bind_ret, Prog.pure_eq_ret, wp_deviceId]
  refine run_wait A K c 0 10 (by decide) (by decide) (by decide) _ _ _ _ (by decide) (by decide) _ rfl rfl ?_
  refine run_wait A K c 0 11 (by decide) (by decide) (by decide) _ _ _ _ (by decide) (by decide) _ rfl rfl ?_
  refine run_wait A K c 0 12 (by decide) (by decide) (by decide) _ _ _ _ (by decide) (by decide) _ rfl rfl ?_
  exact ret_of (h _)

theorem part35  {Q : _ → sProp (MT nD τ sig Unit (Elt F) ℕ UA ℕ)}
    (h : ∀ r, iprop(records A K ∗ ow c [] [] [] ∗ waitS A c 2 [9, 10, 11, 12, 13, 14, 15, 1, 2, 3, 4, 5, 6, 7] [8] [8] ∗ waitS A c 0 [] [15, 14, 13, 12, 11, 10, 9, 8, 7, 6, 5, 4, 3, 2, 1] [15, 14, 13, 12, 11, 10, 9, 8, 7, 6, 5, 4, 3, 2, 1] ∗ X) ⊢ Q r) :
    iprop(records A K ∗ ow c [] [] [] ∗ waitS A c 0 [13, 14, 15] [12, 11, 10, 9, 8, 7, 6, 5, 4, 3, 2, 1] [12, 11, 10, 9, 8, 7, 6, 5, 4, 3, 2, 1] ∗ waitS A c 2 [8, 9, 10, 11, 12, 13, 14, 15, 1, 2, 3, 4, 5, 6, 7] [] [] ∗ X)
      ⊢ wpx c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part35_eq_skeleton]; unfold k0_part35_skel
  simp only [semSignalWord, semWaitWord, Prog.lift, Prog.bind_op, Prog.bind_ret, Prog.pure_eq_ret, wp_deviceId]
  refine run_wait A K c 0 13 (by decide) (by decide) (by decide) _ _ _ _ (by decide) (by decide) _ rfl rfl ?_
  refine run_wait A K c 0 14 (by decide) (by decide) (by decide) _ _ _ _ (by decide) (by decide) _ rfl rfl ?_
  refine run_wait A K c 0 15 (by decide) (by decide) (by decide) _ _ _ _ (by decide) (by decide) _ rfl rfl ?_
  refine rot2 A K ?_
  refine run_wait A K c 2 8 (by decide) (by decide) (by decide) _ _ _ _ (by decide) (by decide) _ rfl rfl ?_
  exact ret_of (h _)

theorem part36  {Q : _ → sProp (MT nD τ sig Unit (Elt F) ℕ UA ℕ)}
    (h : ∀ r, iprop(records A K ∗ ow c [] [] [] ∗ waitS A c 2 [13, 14, 15, 1, 2, 3, 4, 5, 6, 7] [12, 11, 10, 9, 8] [12, 11, 10, 9, 8] ∗ X) ⊢ Q r) :
    iprop(records A K ∗ ow c [] [] [] ∗ waitS A c 2 [9, 10, 11, 12, 13, 14, 15, 1, 2, 3, 4, 5, 6, 7] [8] [8] ∗ X)
      ⊢ wpx c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part36_eq_skeleton]; unfold k0_part36_skel
  simp only [semSignalWord, semWaitWord, Prog.lift, Prog.bind_op, Prog.bind_ret, Prog.pure_eq_ret, wp_deviceId]
  refine run_wait A K c 2 9 (by decide) (by decide) (by decide) _ _ _ _ (by decide) (by decide) _ rfl rfl ?_
  refine run_wait A K c 2 10 (by decide) (by decide) (by decide) _ _ _ _ (by decide) (by decide) _ rfl rfl ?_
  refine run_wait A K c 2 11 (by decide) (by decide) (by decide) _ _ _ _ (by decide) (by decide) _ rfl rfl ?_
  refine run_wait A K c 2 12 (by decide) (by decide) (by decide) _ _ _ _ (by decide) (by decide) _ rfl rfl ?_
  exact ret_of (h _)

theorem part37  {Q : _ → sProp (MT nD τ sig Unit (Elt F) ℕ UA ℕ)}
    (h : ∀ r, iprop(records A K ∗ ow c [] [] [] ∗ waitS A c 2 [2, 3, 4, 5, 6, 7] [1, 15, 14, 13, 12, 11, 10, 9, 8] [1, 15, 14, 13, 12, 11, 10, 9, 8] ∗ X) ⊢ Q r) :
    iprop(records A K ∗ ow c [] [] [] ∗ waitS A c 2 [13, 14, 15, 1, 2, 3, 4, 5, 6, 7] [12, 11, 10, 9, 8] [12, 11, 10, 9, 8] ∗ X)
      ⊢ wpx c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part37_eq_skeleton]; unfold k0_part37_skel
  simp only [semSignalWord, semWaitWord, Prog.lift, Prog.bind_op, Prog.bind_ret, Prog.pure_eq_ret, wp_deviceId]
  refine run_wait A K c 2 13 (by decide) (by decide) (by decide) _ _ _ _ (by decide) (by decide) _ rfl rfl ?_
  refine run_wait A K c 2 14 (by decide) (by decide) (by decide) _ _ _ _ (by decide) (by decide) _ rfl rfl ?_
  refine run_wait A K c 2 15 (by decide) (by decide) (by decide) _ _ _ _ (by decide) (by decide) _ rfl rfl ?_
  refine run_wait A K c 2 1 (by decide) (by decide) (by decide) _ _ _ _ (by decide) (by decide) _ rfl rfl ?_
  exact ret_of (h _)

theorem part38  {Q : _ → sProp (MT nD τ sig Unit (Elt F) ℕ UA ℕ)}
    (h : ∀ r, iprop(records A K ∗ ow c [] [] [] ∗ waitS A c 2 [5, 6, 7] [4, 3, 2, 1, 15, 14, 13, 12, 11, 10, 9, 8] [4, 3, 2, 1, 15, 14, 13, 12, 11, 10, 9, 8] ∗ X) ⊢ Q r) :
    iprop(records A K ∗ ow c [] [] [] ∗ waitS A c 2 [2, 3, 4, 5, 6, 7] [1, 15, 14, 13, 12, 11, 10, 9, 8] [1, 15, 14, 13, 12, 11, 10, 9, 8] ∗ X)
      ⊢ wpx c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q := by
  simp only [k0_part38_eq_skeleton]; unfold k0_part38_skel
  simp only [semSignalWord, semWaitWord, Prog.lift, Prog.bind_op, Prog.bind_ret, Prog.pure_eq_ret, wp_deviceId]
  refine run_wait A K c 2 2 (by decide) (by decide) (by decide) _ _ _ _ (by decide) (by decide) _ rfl rfl ?_
  refine run_wait A K c 2 3 (by decide) (by decide) (by decide) _ _ _ _ (by decide) (by decide) _ rfl rfl ?_
  refine run_wait A K c 2 4 (by decide) (by decide) (by decide) _ _ _ _ (by decide) (by decide) _ rfl rfl ?_
  exact ret_of (h _)

end Cert.Exchange

end
-- ==== Proof.Regroup.lean ====
/-
The whole body: the parts in order, what each device starts from and what it ends with.
-/
module

public import proofs.«01_k».proof.Proof.Parts1
public import proofs.«01_k».proof.Proof.Parts2
public import proofs.«01_k».proof.Proof.Parts3
public import proofs.«01_k».proof.Proof.Parts4

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem bind_of {α β : Type} {P : sProp (MT nD τ sig Unit (Elt F) ℕ UA ℕ)} {p : Prog (TpuEff nD τ sig (Elt F) Λ₀ .tc) α}
    {k : α → Prog (TpuEff nD τ sig (Elt F) Λ₀ .tc) β} {Q : β → sProp (MT nD τ sig Unit (Elt F) ℕ UA ℕ)}
    (h : P ⊢ wpx c p (fun a => wpx c (k a) Q)) : P ⊢ wpx c (p >>= k) Q := by
  unfold wpx at *
  rw [wp_bind]
  exact h

/-! ## Resources named, and regrouped -/

/-- The place before the arrival at bank `j`'s semaphore `k`. -/
def posRes (j : ℕ) (c : Dev nD) (k : ℕ) : sProp 𝕄 := atPos ERx (xCell j k c) 0 ∅ 0
/-- The tokens of the duties that copying to the device `o` places on discharges. -/
def dtok (c : Dev nD) (o : ℕ) : sProp 𝕄 := iprop(dutyTok ERx (xCell 0 o c) 0 0 ∗ dutyTok ERx (xCell 1 (16 - o) (sh c o)) 0 0)
def dres (c : Dev nD) (o : ℕ) : sProp 𝕄 := iprop(dutyTok ERx (xCell 2 o c) 0 0 ∗ dutyTok ERx (xCell 3 (16 - o) (sh c o)) 0 0)

theorem deal_in : iprop(sepL ord1 (fun k => barPay (F := F) c k) ∗ sepL ord1 (dtok (F := F) c) ∗ sepL ord2 (dres (F := F) c))
    ⊢ iprop(sepL ord1 (tokRes (F := F) c) ∗ sepL ord2 (resRes (F := F) c)) := by
  have e : sepL ord1 (fun k => barPay (F := F) c k) = iprop(sepL ord1 (fun o => land7 (F := F) (sh c o) (16 - o)) ∗ sepL ord1 (fun o => land9 (F := F) (sh c o) (16 - o))) :=
    sepL_sep_eq _ _ _
  have e1 : sepL ord1 (tokRes (F := F) c) = iprop(sepL ord1 (dtok (F := F) c) ∗ sepL ord1 (fun o => land7 (F := F) (sh c o) (16 - o))) := sepL_sep_eq _ _ _
  have e2 : sepL ord2 (resRes (F := F) c) = iprop(sepL ord2 (dres (F := F) c) ∗ sepL ord2 (fun o => land9 (F := F) (sh c o) (16 - o))) := sepL_sep_eq _ _ _
  rw [e, e1, e2]
  iintro ⟨⟨H7, H9⟩, HT, HR⟩
  isplitl [H7 HT]
  · isplitl [HT] <;> iassumption
  isplitl [HR]; · iexact HR
  iapply (sepL_perm (show ord1.Perm ord2 by decide)); iexact H9

theorem wait_in (j : ℕ) (l dn : List ℕ) (hp : dn.Perm l) : iprop(sepL dn (credRes (F := F) j c) ∗ sepL l (posRes (F := F) j c)) ⊢ waitS A c j l [] [] := by
  have e : sepL l (waitRes (F := F) j c) = iprop(sepL l (credRes (F := F) j c) ∗ sepL l (posRes (F := F) j c)) := sepL_sep_eq _ _ _
  unfold waitS
  rw [e, sepL_nil, sepL_nil]
  iintro ⟨H1, H2⟩
  isplitl
  · isplitl [H1]
    · iapply (sepL_perm hp); iexact H1
    · iexact H2
  isplitl <;> iempintro

theorem tok_in (b q : List ℕ) : iprop(sepL b (tokRes (F := F) c) ∗ sepL q (fun o => (p6 c o (o + 1) (dispC A c) : sProp 𝕄))) ⊢ tokS A c b q [] := by
  unfold tokS
  rw [sepL_nil]
  iintro ⟨H1, H2⟩
  isplitl [H1]; · iexact H1
  isplitl [H2]; · iexact H2
  iempintro
theorem res_in (b : List ℕ) : sepL b (resRes (F := F) c) ⊢ resS A c b [] [] := by
  unfold resS
  rw [sepL_nil, sepL_nil]
  iintro H1
  isplitl [H1]; · iexact H1
  isplitl <;> iempintro
theorem tok_out (b q dn : List ℕ) : tokS A c b q dn ⊢ sepL dn (credRes (F := F) 0 c) := by
  unfold tokS
  iintro ⟨-, -, H⟩; iexact H
theorem res_out (b q dn : List ℕ) : resS A c b q dn ⊢ sepL dn (credRes (F := F) 2 c) := by
  unfold resS
  iintro ⟨-, -, H⟩; iexact H
theorem run_cut (a b e : ℕ) (h1 : a ≤ b) (h2 : b ≤ e) (f : Vec F S16x128x384 .bf16) :
    (p6 c a e f : sProp 𝕄) ⊢ iprop(p6 c a b f ∗ p6 c b e f) := by
  unfold p6
  rw [bnd_union h1 h2]
  exact (pointsTo_union (bnd_disjoint (.inl (Nat.le_refl _)))).1
theorem run_cut' (a b e : ℕ) (h1 : a ≤ b) (h2 : b ≤ e) (f : Vec F S16x128x512 .bf16) :
    (p8 c a e f : sProp 𝕄) ⊢ iprop(p8 c a b f ∗ p8 c b e f) := by
  unfold p8
  rw [bnd_union h1 h2]
  exact (pointsTo_union (bnd_disjoint (.inl (Nat.le_refl _)))).1

theorem regroup1 (f6 f7 : Vec F S16x128x384 .bf16) (f8 f9 : Vec F S16x128x512 .bf16) (f : Vec F S1024x512 .f32) :
    iprop(records A K ∗ ow c [] [1, 2, 3, 4, 5, 6, 7, 8, 9, 10, 11, 12, 13, 14, 15] [8, 9, 10, 11, 12, 13, 14, 15, 1, 2, 3, 4, 5, 6, 7] ∗ inpS A c ∗ (atPos ERx (barCell c) (0 + 1) ∅ 0 ∗ sepL ord1 (fun k => barPay (F := F) c k)) ∗ sepL [] (sigRes (F := F) c) ∗ sepL ord1 (dtok (F := F) c) ∗ sepL ord2 (dres (F := F) c) ∗ p6 c 0 (0 + 1) (f6) ∗ p6 c 1 (1 + 8) (f6) ∗ p6 c 9 (9 + 7) (f6) ∗ p7 c 0 (0 + 1) (f7) ∗ p8 c 0 (0 + 1) (f8) ∗ p8 c 1 (1 + 7) (f8) ∗ p8 c 8 (8 + 8) (f8) ∗ p9 c 0 (0 + 1) (f9) ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ waitS A c 1 [15, 14, 13, 12, 11, 10, 9, 8, 7, 6, 5, 4, 3, 2, 1] [] [] ∗ waitS A c 3 [8, 7, 6, 5, 4, 3, 2, 1, 15, 14, 13, 12, 11, 10, 9] [] [])
      ⊢ iprop(records A K ∗ ow c [] [1, 2, 3, 4, 5, 6, 7, 8, 9, 10, 11, 12, 13, 14, 15] [8, 9, 10, 11, 12, 13, 14, 15, 1, 2, 3, 4, 5, 6, 7] ∗ p6 c 1 (1 + 8) (f6) ∗ sepL [1, 2, 3, 4, 5, 6, 7, 8, 9, 10, 11, 12, 13, 14, 15] (tokRes (F := F) c) ∗ resS A c [8, 9, 10, 11, 12, 13, 14, 15, 1, 2, 3, 4, 5, 6, 7] [] [] ∗ atPos ERx (barCell c) (0 + 1) ∅ 0 ∗ p6 c 9 (9 + 7) (f6) ∗ p6 c 0 (0 + 1) (f6) ∗ p7 c 0 (0 + 1) (f7) ∗ inpS A c ∗ p8 c 0 (0 + 1) (f8) ∗ p9 c 0 (0 + 1) (f9) ∗ waitS A c 1 [15, 14, 13, 12, 11, 10, 9, 8, 7, 6, 5, 4, 3, 2, 1] [] [] ∗ p8 c 8 (8 + 8) (f8) ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c)) := by
  iintro ⟨#HR, HO, HI, HB, HS, HDT, HDR, H60, H61, H69, H70, H80, H81, H88, H90, HOUT, HP0, HP2, HW1, HW3⟩
  ihave HN := (BIBase.Entails.rfl) $$ HB
  icases HN with ⟨HBP, HBB⟩
  ihave HN := (deal_in c) $$ [HBB HDT HDR]
  · isplitl [HBB]; · iexact HBB
    isplitl [HDT] <;> iassumption
  icases HN with ⟨HT, HRS⟩
  ihave HN := (res_in A c _) $$ HRS
  icases HN with HRS
  isplitr; · iexact HR
  isplitl [HO]; · iexact HO
  isplitl [H61]; · iexact H61
  isplitl [HT]; · iexact HT
  isplitl [HRS]; · iexact HRS
  isplitl [HBP]; · iexact HBP
  isplitl [H69]; · iexact H69
  isplitl [H60]; · iexact H60
  isplitl [H70]; · iexact H70
  isplitl [HI]; · iexact HI
  isplitl [H80]; · iexact H80
  isplitl [H90]; · iexact H90
  isplitl [HW1]; · iexact HW1
  isplitl [H88]; · iexact H88
  isplitl [H81]; · iexact H81
  isplitl [HW3]; · iexact HW3
  isplitl [HOUT]; · iexact HOUT
  isplitl [HP0]; · iexact HP0
  iexact HP2

theorem regroup2 (f6 f7 : Vec F S16x128x384 .bf16) (f8 f9 : Vec F S16x128x512 .bf16) (f : Vec F S1024x512 .f32) :
    iprop(records A K ∗ ow c [] [1, 2, 3, 4, 5, 6, 7, 8, 9, 10, 11, 12, 13, 14, 15] [8, 9, 10, 11, 12, 13, 14, 15, 1, 2, 3, 4, 5, 6, 7] ∗ p6 c 1 (1 + 8) (dispC A c) ∗ sepL [1, 2, 3, 4, 5, 6, 7, 8, 9, 10, 11, 12, 13, 14, 15] (tokRes (F := F) c) ∗ resS A c [8, 9, 10, 11, 12, 13, 14, 15, 1, 2, 3, 4, 5, 6, 7] [] [] ∗ atPos ERx (barCell c) (0 + 1) ∅ 0 ∗ p6 c 9 (9 + 7) (f6) ∗ p6 c 0 (0 + 1) (f6) ∗ p7 c 0 (0 + 1) (f7) ∗ inpS A c ∗ p8 c 0 (0 + 1) (f8) ∗ p9 c 0 (0 + 1) (f9) ∗ waitS A c 1 [15, 14, 13, 12, 11, 10, 9, 8, 7, 6, 5, 4, 3, 2, 1] [] [] ∗ p8 c 8 (8 + 8) (f8) ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c))
      ⊢ iprop(records A K ∗ ow c [] [1, 2, 3, 4, 5, 6, 7, 8, 9, 10, 11, 12, 13, 14, 15] [8, 9, 10, 11, 12, 13, 14, 15, 1, 2, 3, 4, 5, 6, 7] ∗ tokS A c [1, 2, 3, 4, 5, 6, 7, 8, 9, 10, 11, 12, 13, 14, 15] [1, 2, 3, 4, 5, 6, 7, 8] [] ∗ p6 c 9 (9 + 7) (f6) ∗ p6 c 0 (0 + 1) (f6) ∗ p7 c 0 (0 + 1) (f7) ∗ inpS A c ∗ p8 c 0 (0 + 1) (f8) ∗ p9 c 0 (0 + 1) (f9) ∗ waitS A c 1 [15, 14, 13, 12, 11, 10, 9, 8, 7, 6, 5, 4, 3, 2, 1] [] [] ∗ resS A c [8, 9, 10, 11, 12, 13, 14, 15, 1, 2, 3, 4, 5, 6, 7] [] [] ∗ p8 c 8 (8 + 8) (f8) ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ atPos ERx (barCell c) (0 + 1) ∅ 0) := by
  iintro ⟨#HR, HO, H61, HT, HRS, HBP, H69, H60, H70, HI, H80, H90, HW1, H88, H81, HW3, HOUT, HP0, HP2⟩
  ihave HN := (split6 c (dispC A c) 8 1) $$ H61
  icases HN with H61
  ihave HN := (tok_in A c _ _) $$ [HT H61]
  · isplitl [HT] <;> iassumption
  icases HN with HT
  isplitr; · iexact HR
  isplitl [HO]; · iexact HO
  isplitl [HT]; · iexact HT
  isplitl [H69]; · iexact H69
  isplitl [H60]; · iexact H60
  isplitl [H70]; · iexact H70
  isplitl [HI]; · iexact HI
  isplitl [H80]; · iexact H80
  isplitl [H90]; · iexact H90
  isplitl [HW1]; · iexact HW1
  isplitl [HRS]; · iexact HRS
  isplitl [H88]; · iexact H88
  isplitl [H81]; · iexact H81
  isplitl [HW3]; · iexact HW3
  isplitl [HOUT]; · iexact HOUT
  isplitl [HP0]; · iexact HP0
  isplitl [HP2]; · iexact HP2
  iexact HBP

theorem regroup3 (f6 f7 : Vec F S16x128x384 .bf16) (f8 f9 : Vec F S16x128x512 .bf16) (f : Vec F S1024x512 .f32) :
    iprop(records A K ∗ ow c [] [] [8, 9, 10, 11, 12, 13, 14, 15, 1, 2, 3, 4, 5, 6, 7] ∗ p7 c 0 (0 + 1) (recvC A c) ∗ inpS A c ∗ p6 c 0 (0 + 1) (dispC A c) ∗ tokS A c [] [] [15, 14, 13, 12, 11, 10, 9, 8, 7, 6, 5, 4, 3, 2, 1] ∗ p8 c 0 (0 + 1) (f8) ∗ p9 c 0 (0 + 1) (f9) ∗ waitS A c 1 [15, 14, 13, 12, 11, 10, 9, 8, 7, 6, 5, 4, 3, 2, 1] [] [] ∗ resS A c [8, 9, 10, 11, 12, 13, 14, 15, 1, 2, 3, 4, 5, 6, 7] [] [] ∗ p8 c 8 (8 + 8) (f8) ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ atPos ERx (barCell c) (0 + 1) ∅ 0)
      ⊢ iprop(records A K ∗ ow c [] [] [8, 9, 10, 11, 12, 13, 14, 15, 1, 2, 3, 4, 5, 6, 7] ∗ p8 c 0 (0 + 1) (f8) ∗ p9 c 0 (0 + 1) (f9) ∗ waitS A c 1 [15, 14, 13, 12, 11, 10, 9, 8, 7, 6, 5, 4, 3, 2, 1] [] [] ∗ p8 c 8 (8 + 8) (f8) ∗ resS A c [8, 9, 10, 11, 12, 13, 14, 15, 1, 2, 3, 4, 5, 6, 7] [] [] ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c)) := by
  iintro ⟨#HR, HO, H70, HI, H60, HT, H80, H90, HW1, HRS, H88, H81, HW3, HOUT, HP0, HP2, HBP⟩
  ihave HN := (tok_out A c _ _ _) $$ HT
  icases HN with HT
  ihave HN := (wait_in A c 0 [1, 2, 3, 4, 5, 6, 7, 8, 9, 10, 11, 12, 13, 14, 15] [15, 14, 13, 12, 11, 10, 9, 8, 7, 6, 5, 4, 3, 2, 1] (by decide)) $$ [HT HP0]
  · isplitl [HT] <;> iassumption
  icases HN with HW0
  isplitr; · iexact HR
  isplitl [HO]; · iexact HO
  isplitl [H80]; · iexact H80
  isplitl [H90]; · iexact H90
  isplitl [HW1]; · iexact HW1
  isplitl [H88]; · iexact H88
  isplitl [HRS]; · iexact HRS
  isplitl [H81]; · iexact H81
  isplitl [HW3]; · iexact HW3
  isplitl [HOUT]; · iexact HOUT
  isplitl [HW0]; · iexact HW0
  isplitl [HP2]; · iexact HP2
  isplitl [HBP]; · iexact HBP
  isplitl [H70]; · iexact H70
  isplitl [HI]; · iexact HI
  iexact H60

theorem regroup4 (f6 f7 : Vec F S16x128x384 .bf16) (f8 f9 : Vec F S16x128x512 .bf16) (f : Vec F S1024x512 .f32) :
    iprop(records A K ∗ ow c [] [] [8, 9, 10, 11, 12, 13, 14, 15, 1, 2, 3, 4, 5, 6, 7] ∗ p9 c 0 (0 + 1) (backC A c) ∗ p8 c 0 (0 + 1) (retC A c) ∗ waitS A c 1 [15, 14, 13, 12, 11, 10, 9, 8, 7, 6, 5, 4, 3, 2, 1] [] [] ∗ p8 c 8 (8 + 8) (f8) ∗ resS A c [8, 9, 10, 11, 12, 13, 14, 15, 1, 2, 3, 4, 5, 6, 7] [] [] ∗ p8 c 1 (1 + 7) (f8) ∗ waitS A c 3 [8, 7, 6, 5, 4, 3, 2, 1, 15, 14, 13, 12, 11, 10, 9] [] [] ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c))
      ⊢ iprop(records A K ∗ ow c [] [] [8, 9, 10, 11, 12, 13, 14, 15, 1, 2, 3, 4, 5, 6, 7] ∗ waitS A c 1 [15, 14, 13, 12, 11, 10, 9, 8, 7, 6, 5, 4, 3, 2, 1] [] [] ∗ p8 c 8 (8 + 8) (f8) ∗ resS A c [8, 9, 10, 11, 12, 13, 14, 15, 1, 2, 3, 4, 5, 6, 7] [] [] ∗ p8 c 1 (1 + 7) (f8) ∗ waitS A c 3 [8, 7, 6, 5, 4, 3, 2, 1, 15, 14, 13, 12, 11, 10, 9] [] [] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c)) := by
  iintro ⟨#HR, HO, H90, H80, HW1, H88, HRS, H81, HW3, HOUT, HW0, HP2, HBP, H70, HI, H60⟩
  isplitr; · iexact HR
  isplitl [HO]; · iexact HO
  isplitl [HW1]; · iexact HW1
  isplitl [H88]; · iexact H88
  isplitl [HRS]; · iexact HRS
  isplitl [H81]; · iexact H81
  isplitl [HW3]; · iexact HW3
  isplitl [H90]; · iexact H90
  isplitl [HOUT]; · iexact HOUT
  isplitl [HW0]; · iexact HW0
  isplitl [HP2]; · iexact HP2
  isplitl [HBP]; · iexact HBP
  isplitl [H70]; · iexact H70
  isplitl [HI]; · iexact HI
  isplitl [H60]; · iexact H60
  iexact H80

theorem regroup5 (f6 f7 : Vec F S16x128x384 .bf16) (f8 f9 : Vec F S16x128x512 .bf16) (f : Vec F S1024x512 .f32) :
    iprop(records A K ∗ ow c [] [] [8, 9, 10, 11, 12, 13, 14, 15, 1, 2, 3, 4, 5, 6, 7] ∗ p7 c 8 (8 + 8) (recvC A c) ∗ waitS A c 1 [7, 6, 5, 4, 3, 2, 1] [8, 9, 10, 11, 12, 13, 14, 15] [] ∗ p8 c 8 (8 + 8) (f8) ∗ resS A c [8, 9, 10, 11, 12, 13, 14, 15, 1, 2, 3, 4, 5, 6, 7] [] [] ∗ p8 c 1 (1 + 7) (f8) ∗ waitS A c 3 [8, 7, 6, 5, 4, 3, 2, 1, 15, 14, 13, 12, 11, 10, 9] [] [] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c))
      ⊢ iprop(records A K ∗ ow c [] [] [8, 9, 10, 11, 12, 13, 14, 15, 1, 2, 3, 4, 5, 6, 7] ∗ p8 c 8 (8 + 8) (f8) ∗ resS A c [8, 9, 10, 11, 12, 13, 14, 15, 1, 2, 3, 4, 5, 6, 7] [] [] ∗ waitS A c 1 [7, 6, 5, 4, 3, 2, 1] [8, 9, 10, 11, 12, 13, 14, 15] [] ∗ p8 c 1 (1 + 7) (f8) ∗ waitS A c 3 [8, 7, 6, 5, 4, 3, 2, 1, 15, 14, 13, 12, 11, 10, 9] [] [] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c)) := by
  iintro ⟨#HR, HO, H78, HW1, H88, HRS, H81, HW3, H90, HOUT, HW0, HP2, HBP, H70, HI, H60, H80⟩
  isplitr; · iexact HR
  isplitl [HO]; · iexact HO
  isplitl [H88]; · iexact H88
  isplitl [HRS]; · iexact HRS
  isplitl [HW1]; · iexact HW1
  isplitl [H81]; · iexact H81
  isplitl [HW3]; · iexact HW3
  isplitl [H90]; · iexact H90
  isplitl [HOUT]; · iexact HOUT
  isplitl [HW0]; · iexact HW0
  isplitl [HP2]; · iexact HP2
  isplitl [HBP]; · iexact HBP
  isplitl [H70]; · iexact H70
  isplitl [HI]; · iexact HI
  isplitl [H60]; · iexact H60
  isplitl [H80]; · iexact H80
  iexact H78

theorem regroup6 (f6 f7 : Vec F S16x128x384 .bf16) (f8 f9 : Vec F S16x128x512 .bf16) (f : Vec F S1024x512 .f32) :
    iprop(records A K ∗ ow c [] [] [1, 2, 3, 4, 5, 6, 7] ∗ p7 c 1 (1 + 7) (recvC A c) ∗ waitS A c 1 [] [1, 2, 3, 4, 5, 6, 7, 8, 9, 10, 11, 12, 13, 14, 15] [] ∗ resS A c [1, 2, 3, 4, 5, 6, 7] [] [15, 14, 13, 12, 11, 10, 9, 8] ∗ p8 c 1 (1 + 7) (f8) ∗ waitS A c 3 [8, 7, 6, 5, 4, 3, 2, 1, 15, 14, 13, 12, 11, 10, 9] [] [] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c))
      ⊢ iprop(records A K ∗ ow c [] [] [1, 2, 3, 4, 5, 6, 7] ∗ p8 c 1 (1 + 7) (f8) ∗ resS A c [1, 2, 3, 4, 5, 6, 7] [] [15, 14, 13, 12, 11, 10, 9, 8] ∗ waitS A c 3 [8, 7, 6, 5, 4, 3, 2, 1, 15, 14, 13, 12, 11, 10, 9] [] [] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) := by
  iintro ⟨#HR, HO, H71, HW1, HRS, H81, HW3, H90, HOUT, HW0, HP2, HBP, H70, HI, H60, H80, H78⟩
  isplitr; · iexact HR
  isplitl [HO]; · iexact HO
  isplitl [H81]; · iexact H81
  isplitl [HRS]; · iexact HRS
  isplitl [HW3]; · iexact HW3
  isplitl [H90]; · iexact H90
  isplitl [HOUT]; · iexact HOUT
  isplitl [HW0]; · iexact HW0
  isplitl [HP2]; · iexact HP2
  isplitl [HBP]; · iexact HBP
  isplitl [H70]; · iexact H70
  isplitl [HI]; · iexact HI
  isplitl [H60]; · iexact H60
  isplitl [H80]; · iexact H80
  isplitl [H78]; · iexact H78
  isplitl [H71]; · iexact H71
  iexact HW1

theorem regroup7 (f6 f7 : Vec F S16x128x384 .bf16) (f8 f9 : Vec F S16x128x512 .bf16) (f : Vec F S1024x512 .f32) :
    iprop(records A K ∗ ow c [] [] [] ∗ waitS A c 3 [10, 9] [11, 12, 13, 14, 15, 1, 2, 3, 4, 5, 6, 7, 8] [11, 12, 13, 14, 15, 1, 2, 3, 4, 5, 6, 7, 8] ∗ resS A c [] [] [7, 6, 5, 4, 3, 2, 1, 15, 14, 13, 12, 11, 10, 9, 8] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ sepL [8, 9, 10, 11, 12, 13, 14, 15, 1, 2, 3, 4, 5, 6, 7] (posRes (F := F) 2 c) ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] [])
      ⊢ iprop(records A K ∗ ow c [] [] [] ∗ waitS A c 3 [10, 9] [11, 12, 13, 14, 15, 1, 2, 3, 4, 5, 6, 7, 8] [11, 12, 13, 14, 15, 1, 2, 3, 4, 5, 6, 7, 8] ∗ p9 c 0 (0 + 1) (backC A c) ∗ (((c : Thread nD τ).loc cc0_stg5_0) ↦{fullShare} f) ∗ waitS A c 0 [1, 2, 3, 4, 5, 6, 7, 8, 9, 10, 11, 12, 13, 14, 15] [] [] ∗ waitS A c 2 [8, 9, 10, 11, 12, 13, 14, 15, 1, 2, 3, 4, 5, 6, 7] [] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) := by
  iintro ⟨#HR, HO, HW3, HRS, H90, HOUT, HW0, HP2, HBP, H70, HI, H60, H80, H78, H71, HW1⟩
  ihave HN := (res_out A c _ _ _) $$ HRS
  icases HN with HRS
  ihave HN := (wait_in A c 2 [8, 9, 10, 11, 12, 13, 14, 15, 1, 2, 3, 4, 5, 6, 7] [7, 6, 5, 4, 3, 2, 1, 15, 14, 13, 12, 11, 10, 9, 8] (by decide)) $$ [HRS HP2]
  · isplitl [HRS] <;> iassumption
  icases HN with HW2
  isplitr; · iexact HR
  isplitl [HO]; · iexact HO
  isplitl [HW3]; · iexact HW3
  isplitl [H90]; · iexact H90
  isplitl [HOUT]; · iexact HOUT
  isplitl [HW0]; · iexact HW0
  isplitl [HW2]; · iexact HW2
  isplitl [HBP]; · iexact HBP
  isplitl [H70]; · iexact H70
  isplitl [HI]; · iexact HI
  isplitl [H60]; · iexact H60
  isplitl [H80]; · iexact H80
  isplitl [H78]; · iexact H78
  isplitl [H71]; · iexact H71
  iexact HW1

theorem regroup8 (f6 f7 : Vec F S16x128x384 .bf16) (f8 f9 : Vec F S16x128x512 .bf16) (f : Vec F S1024x512 .f32) :
    iprop(records A K ∗ ow c [] [] [] ∗ waitS A c 0 [2, 3, 4, 5, 6, 7, 8, 9, 10, 11, 12, 13, 14, 15] [1] [1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ waitS A c 2 [8, 9, 10, 11, 12, 13, 14, 15, 1, 2, 3, 4, 5, 6, 7] [] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] [])
      ⊢ iprop(records A K ∗ ow c [] [] [] ∗ waitS A c 0 [2, 3, 4, 5, 6, 7, 8, 9, 10, 11, 12, 13, 14, 15] [1] [1] ∗ waitS A c 2 [8, 9, 10, 11, 12, 13, 14, 15, 1, 2, 3, 4, 5, 6, 7] [] [] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) := by
  iintro ⟨#HR, HO, HW0, HOUT, H90, HW3, HW2, HBP, H70, HI, H60, H80, H78, H71, HW1⟩
  isplitr; · iexact HR
  isplitl [HO]; · iexact HO
  isplitl [HW0]; · iexact HW0
  isplitl [HW2]; · iexact HW2
  isplitl [HOUT]; · iexact HOUT
  isplitl [H90]; · iexact H90
  isplitl [HW3]; · iexact HW3
  isplitl [HBP]; · iexact HBP
  isplitl [H70]; · iexact H70
  isplitl [HI]; · iexact HI
  isplitl [H60]; · iexact H60
  isplitl [H80]; · iexact H80
  isplitl [H78]; · iexact H78
  isplitl [H71]; · iexact H71
  iexact HW1

end Cert.Exchange

end
-- ==== Proof.Whole.lean ====
/-
The parts run in order.
-/
module

public import proofs.«01_k».proof.Proof.Regroup

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

theorem part39 (f6 f7 : Vec F S16x128x384 .bf16) (f8 f9 : Vec F S16x128x512 .bf16) (f : Vec F S1024x512 .f32) {Q : PUnit → sProp (MT nD τ sig Unit (Elt F) ℕ UA ℕ)}
    (h : iprop(records A K ∗ ow c [] [] [] ∗ waitS A c 2 [7] [6, 5, 4, 3, 2, 1, 15, 14, 13, 12, 11, 10, 9, 8] [6, 5, 4, 3, 2, 1, 15, 14, 13, 12, 11, 10, 9, 8] ∗ waitS A c 0 [] [15, 14, 13, 12, 11, 10, 9, 8, 7, 6, 5, 4, 3, 2, 1] [15, 14, 13, 12, 11, 10, 9, 8, 7, 6, 5, 4, 3, 2, 1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) ⊢ Q ⟨⟩) :
    iprop(records A K ∗ ow c [1, 2, 3, 4, 5, 6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [1, 2, 3, 4, 5, 6, 7, 8, 9, 10, 11, 12, 13, 14, 15] (sigRes (F := F) c) ∗ (cred (tallyAt (barCell c) () 15) ∗ atPos ERx (barCell c) 0 ∅ 0) ∗ inpS A c ∗ sepL ord1 (dtok (F := F) c) ∗ sepL ord2 (dres (F := F) c) ∗ p6 c 0 (0 + 1) (f6) ∗ p6 c 1 (1 + 8) (f6) ∗ p6 c 9 (9 + 7) (f6) ∗ p7 c 0 (0 + 1) (f7) ∗ p8 c 0 (0 + 1) (f8) ∗ p8 c 1 (1 + 7) (f8) ∗ p8 c 8 (8 + 8) (f8) ∗ p9 c 0 (0 + 1) (f9) ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ waitS A c 1 [15, 14, 13, 12, 11, 10, 9, 8, 7, 6, 5, 4, 3, 2, 1] [] [] ∗ waitS A c 3 [8, 7, 6, 5, 4, 3, 2, 1, 15, 14, 13, 12, 11, 10, 9] [] [])
      ⊢ wpx c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  simp only [k0_part39_eq_skeleton]; unfold k0_part39_skel
  refine bind_of c (part1 A K c  (fun w1 w2 => ?_))
  refine bind_of c (part2 A K c _ _ _ (fun ⟨w1, w2⟩ => ?_))
  refine bind_of c (part3 A K c _ _ _ ?_)
  refine BIBase.Entails.trans (regroup1 A K c f6 f7 f8 f9 f) ?_
  refine bind_of c (part4 A c ?_)
  refine bind_of c (part5 A K c _ (fun w1 => ?_))
  refine BIBase.Entails.trans (regroup2 A K c f6 f7 f8 f9 f) ?_
  refine bind_of c (part6 A K c _ (fun ⟨w1, w2⟩ => ?_))
  refine bind_of c (part7 A K c _ (fun ⟨w1, w2, w3⟩ => ?_))
  refine bind_of c (part8 A K c _ _ (fun ⟨w1, w2⟩ => ?_))
  refine bind_of c (part9 A K c _ _ (fun ⟨w1, w2⟩ => ?_))
  refine bind_of c (part10 A K c _ (fun ⟨w1, w2⟩ => ?_))
  refine bind_of c (part11 A K c _ (fun ⟨w1, w2, w3, w4⟩ => ?_))
  refine bind_of c (part12 A K c _ _ _ ?_)
  refine BIBase.Entails.trans (regroup3 A K c f6 f7 f8 f9 f) ?_
  refine bind_of c (part13 A K c _ _ _ (fun ⟨w1, w2⟩ => ?_))
  refine BIBase.Entails.trans (regroup4 A K c f6 f7 f8 f9 f) ?_
  refine bind_of c (part14 A K c _ _ _ _ _ (fun r => ?_))
  refine bind_of c (part15 A K c _ _ _ (fun r => ?_))
  refine bind_of c (part16 A K c _ ?_)
  refine BIBase.Entails.trans (regroup5 A K c f6 f7 f8 f9 f) ?_
  refine bind_of c (part17 A K c _ _ (fun ⟨w1, w2⟩ => ?_))
  refine bind_of c (part18 A K c _ (fun ⟨w1, w2, w3⟩ => ?_))
  refine bind_of c (part19 A K c _ _ (fun ⟨w1, w2⟩ => ?_))
  refine bind_of c (part20 A K c _ _ (fun ⟨w1, w2⟩ => ?_))
  refine bind_of c (part21 A K c _ _ _ _ _ (fun r => ?_))
  refine bind_of c (part22 A K c _ _ ?_)
  refine BIBase.Entails.trans (regroup6 A K c f6 f7 f8 f9 f) ?_
  refine bind_of c (part23 A K c _ _ (fun r => ?_))
  refine bind_of c (part24 A K c _ (fun ⟨w1, w2, w3⟩ => ?_))
  refine bind_of c (part25 A K c _ _ (fun ⟨w1, w2⟩ => ?_))
  refine bind_of c (part26 A K c _ _ _ (fun ⟨w1, w2⟩ => ?_))
  refine bind_of c (part27 A K c _ _ _ _ (fun r => ?_))
  refine bind_of c (part28 A K c _ _ _ (fun r => ?_))
  refine bind_of c (part29 A K c _ _ _ (fun r => ?_))
  refine bind_of c (part30 A K c _ _ _ (fun r => ?_))
  refine BIBase.Entails.trans (regroup7 A K c f6 f7 f8 f9 f) ?_
  refine bind_of c (part31 A K c _ _ (fun r => ?_))
  refine BIBase.Entails.trans (regroup8 A K c f6 f7 f8 f9 f) ?_
  refine bind_of c (part32 A K c  (fun r => ?_))
  refine bind_of c (part33 A K c  (fun r => ?_))
  refine bind_of c (part34 A K c  (fun r => ?_))
  refine bind_of c (part35 A K c  (fun r => ?_))
  refine bind_of c (part36 A K c  (fun r => ?_))
  refine bind_of c (part37 A K c  (fun r => ?_))
  refine bind_of c (part38 A K c  (fun r => ?_))
  simp only [semSignalWord, semWaitWord, Prog.lift, Prog.bind_op, Prog.bind_ret, Prog.pure_eq_ret]
  refine run_wait A K c 2 5 (by decide) (by decide) (by decide) _ _ _ _ (by decide) (by decide) _ rfl rfl ?_
  refine run_wait A K c 2 6 (by decide) (by decide) (by decide) _ _ _ _ (by decide) (by decide) _ rfl rfl ?_
  exact ret_of h

theorem whole_body (f6 f7 : Vec F S16x128x384 .bf16) (f8 f9 : Vec F S16x128x512 .bf16) (f : Vec F S1024x512 .f32) {Q : PUnit → sProp (MT nD τ sig Unit (Elt F) ℕ UA ℕ)}
    (h : iprop(records A K ∗ ow c [] [] [] ∗ waitS A c 2 [] [7, 6, 5, 4, 3, 2, 1, 15, 14, 13, 12, 11, 10, 9, 8] [7, 6, 5, 4, 3, 2, 1, 15, 14, 13, 12, 11, 10, 9, 8] ∗ waitS A c 0 [] [15, 14, 13, 12, 11, 10, 9, 8, 7, 6, 5, 4, 3, 2, 1] [15, 14, 13, 12, 11, 10, 9, 8, 7, 6, 5, 4, 3, 2, 1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) ⊢ Q ⟨⟩) :
    iprop(records A K ∗ ow c [1, 2, 3, 4, 5, 6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [1, 2, 3, 4, 5, 6, 7, 8, 9, 10, 11, 12, 13, 14, 15] (sigRes (F := F) c) ∗ (cred (tallyAt (barCell c) () 15) ∗ atPos ERx (barCell c) 0 ∅ 0) ∗ inpS A c ∗ sepL ord1 (dtok (F := F) c) ∗ sepL ord2 (dres (F := F) c) ∗ p6 c 0 (0 + 1) (f6) ∗ p6 c 1 (1 + 8) (f6) ∗ p6 c 9 (9 + 7) (f6) ∗ p7 c 0 (0 + 1) (f7) ∗ p8 c 0 (0 + 1) (f8) ∗ p8 c 1 (1 + 7) (f8) ∗ p8 c 8 (8 + 8) (f8) ∗ p9 c 0 (0 + 1) (f9) ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ waitS A c 1 [15, 14, 13, 12, 11, 10, 9, 8, 7, 6, 5, 4, 3, 2, 1] [] [] ∗ waitS A c 3 [8, 7, 6, 5, 4, 3, 2, 1, 15, 14, 13, 12, 11, 10, 9] [] [])
      ⊢ wpx c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  simp only [cc0_body_eq_skeleton]; unfold cc0_body_skel
  refine bind_of c (part39 A K c f6 f7 f8 f9 f ?_)
  simp only [semSignalWord, semWaitWord, Prog.lift, Prog.bind_op, Prog.bind_ret, Prog.pure_eq_ret]
  refine run_wait A K c 2 7 (by decide) (by decide) (by decide) _ _ _ _ (by decide) (by decide) _ rfl rfl ?_
  exact ret_of h

end Cert.Exchange

end
-- ==== Proof.Device.lean ====
/-
What the whole kernel does on one device: from whole buffers to whole buffers, every semaphore back at zero.
-/
module

public import proofs.«01_k».proof.Proof.Whole

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

/-! ## Runs cut and joined -/

theorem cut6 (f : Vec F S16x128x384 .bf16) : (p6 c 0 16 f : sProp 𝕄) ⊢ iprop(p6 c 0 (0 + 1) f ∗ p6 c 1 (1 + 8) f ∗ p6 c 9 (9 + 7) f) := by
  iintro H
  ihave H := (run_cut c 0 1 16 (by decide) (by decide) f) $$ H
  icases H with ⟨H0, H⟩
  ihave H := (run_cut c 1 9 16 (by decide) (by decide) f) $$ H
  icases H with ⟨H1, H2⟩
  isplitl [H0]; · iexact H0
  isplitl [H1]; · iexact H1
  iexact H2
theorem cut8 (f : Vec F S16x128x512 .bf16) : (p8 c 0 16 f : sProp 𝕄) ⊢ iprop(p8 c 0 (0 + 1) f ∗ p8 c 1 (1 + 7) f ∗ p8 c 8 (8 + 8) f) := by
  iintro H
  ihave H := (run_cut' c 0 1 16 (by decide) (by decide) f) $$ H
  icases H with ⟨H0, H⟩
  ihave H := (run_cut' c 1 8 16 (by decide) (by decide) f) $$ H
  icases H with ⟨H1, H2⟩
  isplitl [H0]; · iexact H0
  isplitl [H1]; · iexact H1
  iexact H2
/-- The landing slots of the other fifteen, and the device's own. -/
theorem cut7 (f : Vec F S16x128x384 .bf16) : (p7 c 0 16 f : sProp 𝕄) ⊢ iprop(p7 c 0 (0 + 1) f ∗ sepL ord1 (land7 (F := F) c)) := by
  iintro H
  ihave H := (split7 c f 16 0) $$ H
  ihave H := (sepL_perm (Φ := fun o => (p7 c o (o + 1) f : sProp 𝕄)) (show (List.range' 0 16).Perm (0 :: ord1) by decide)) $$ H
  ihave H := (Entails.of_eq (sepL_cons 0 ord1 (fun o => (p7 c o (o + 1) f : sProp 𝕄)))) $$ H
  icases H with ⟨H0, H⟩
  isplitl [H0]; · iexact H0
  iapply (sepL_mono (Φ := fun o => (p7 c o (o + 1) f : sProp 𝕄)) (Ψ := land7 (F := F) c) (fun o _ => by unfold land7; iintro H; iexists f; iexact H))
  iexact H
theorem cut9 (f : Vec F S16x128x512 .bf16) : (p9 c 0 16 f : sProp 𝕄) ⊢ iprop(p9 c 0 (0 + 1) f ∗ sepL ord1 (land9 (F := F) c)) := by
  iintro H
  ihave H := (split9 c f 16 0) $$ H
  ihave H := (sepL_perm (Φ := fun o => (p9 c o (o + 1) f : sProp 𝕄)) (show (List.range' 0 16).Perm (0 :: ord1) by decide)) $$ H
  ihave H := (Entails.of_eq (sepL_cons 0 ord1 (fun o => (p9 c o (o + 1) f : sProp 𝕄)))) $$ H
  icases H with ⟨H0, H⟩
  isplitl [H0]; · iexact H0
  iapply (sepL_mono (Φ := fun o => (p9 c o (o + 1) f : sProp 𝕄)) (Ψ := land9 (F := F) c) (fun o _ => by unfold land9; iintro H; iexists f; iexact H))
  iexact H

theorem run_join6 (a b e : ℕ) (h1 : a ≤ b) (h2 : b ≤ e) (f : Vec F S16x128x384 .bf16) :
    iprop(p6 c a b f ∗ p6 c b e f) ⊢ (p6 c a e f : sProp 𝕄) := by
  unfold p6
  rw [bnd_union h1 h2]
  exact (pointsTo_union (bnd_disjoint (.inl (Nat.le_refl _)))).2
theorem run_join7 (a b e : ℕ) (h1 : a ≤ b) (h2 : b ≤ e) (f : Vec F S16x128x384 .bf16) :
    iprop(p7 c a b f ∗ p7 c b e f) ⊢ (p7 c a e f : sProp 𝕄) := by
  unfold p7
  rw [bnd_union h1 h2]
  exact (pointsTo_union (bnd_disjoint (.inl (Nat.le_refl _)))).2
theorem run_join8 (a b e : ℕ) (h1 : a ≤ b) (h2 : b ≤ e) (f : Vec F S16x128x512 .bf16) :
    iprop(p8 c a b f ∗ p8 c b e f) ⊢ (p8 c a e f : sProp 𝕄) := by
  unfold p8
  rw [bnd_union h1 h2]
  exact (pointsTo_union (bnd_disjoint (.inl (Nat.le_refl _)))).2

theorem join6 : iprop(p6 c 0 (0 + 1) (dispC A c) ∗ sepL [15, 14, 13, 12, 11, 10, 9, 8, 7, 6, 5, 4, 3, 2, 1] (payRes A 0 c)) ⊢ (p6 c 0 16 (dispC A c) : sProp 𝕄) := by
  iintro ⟨H0, H⟩
  ihave H := (pay_6 A c 1 15 [15, 14, 13, 12, 11, 10, 9, 8, 7, 6, 5, 4, 3, 2, 1] (by decide)) $$ H
  iapply (run_join6 c 0 1 16 (by decide) (by decide) (dispC A c))
  isplitl [H0]; · iexact H0
  iexact H
theorem join8 : iprop(p8 c 0 (0 + 1) (retC A c) ∗ sepL [7, 6, 5, 4, 3, 2, 1, 15, 14, 13, 12, 11, 10, 9, 8] (payRes A 2 c)) ⊢ (p8 c 0 16 (retC A c) : sProp 𝕄) := by
  iintro ⟨H0, H⟩
  ihave H := (pay_8 A c 1 15 [7, 6, 5, 4, 3, 2, 1, 15, 14, 13, 12, 11, 10, 9, 8] (by decide)) $$ H
  iapply (run_join8 c 0 1 16 (by decide) (by decide) (retC A c))
  isplitl [H0]; · iexact H0
  iexact H
theorem join7 : iprop(p7 c 0 (0 + 1) (recvC A c) ∗ p7 c 1 (1 + 7) (recvC A c) ∗ p7 c 8 (8 + 8) (recvC A c)) ⊢ (p7 c 0 16 (recvC A c) : sProp 𝕄) := by
  iintro ⟨H0, H1, H8⟩
  iapply (run_join7 c 0 1 16 (by decide) (by decide) (recvC A c))
  isplitl [H0]; · iexact H0
  iapply (run_join7 c 1 8 16 (by decide) (by decide) (recvC A c))
  isplitl [H1]; · iexact H1
  iexact H8

/-! ## Every semaphore back at zero -/

/-- Bank `j` closed: all sixteen at zero. -/
theorem close_bank (j : ℕ) (hj : j < 4) (dn : List ℕ) (hp : (0 :: dn).Perm (List.range 16)) (h16 : ∀ i ∈ dn, i < 16) :
    iprop(records A K ∗ posRes (F := F) j c 0 ∗ sepL dn (doneRes (F := F) j c)) ⊢ iprop(|={Set.univ}=> sepL (List.range 16) (fun i => (semVal (xCell j i c) 0 : sProp 𝕄))) := by
  unfold posRes
  iintro ⟨#HR, H0, HD⟩
  imod (close_0 A K j hj c) $$ [H0] with H0
  · isplitr; · iexact HR
    iexact H0
  imod (close_x A K j hj c dn h16) $$ [HD] with HD
  · isplitr; · iexact HR
    iexact HD
  imodintro
  iapply (sepL_perm hp)
  rw [sepL_cons]
  isplitl [H0]; · iexact H0
  iexact HD

/-- The four banks and the ready semaphore at zero. -/
def zeroed (c : Dev nD) : sProp 𝕄 :=
  iprop(sepL (List.range 16) (fun i => semVal (xCell 0 i c) 0) ∗ sepL (List.range 16) (fun i => semVal (xCell 1 i c) 0)
    ∗ sepL (List.range 16) (fun i => semVal (xCell 2 i c) 0) ∗ sepL (List.range 16) (fun i => semVal (xCell 3 i c) 0) ∗ semVal (barCell c) 0)

/-! ## What a device's kernel starts from -/

/-- The tokens, credits and places of device `c`, and the records. -/
def kit : sProp 𝕄 :=
  iprop(records A K ∗ sepL ord1 (fun o => dutyTok ERx (barCell (sh c o)) 0 (16 - o)) ∗ sepL ord1 (dtok (F := F) c) ∗ sepL ord1 (dres (F := F) c)
    ∗ cred (tallyAt (barCell c) () 15) ∗ sepL ord1 (credRes (F := F) 1 c) ∗ sepL ord1 (credRes (F := F) 3 c)
    ∗ atPos ERx (barCell c) 0 ∅ 0 ∗ sepL (0 :: ord1) (posRes (F := F) 0 c) ∗ sepL (0 :: ord1) (posRes (F := F) 1 c)
    ∗ sepL (0 :: ord1) (posRes (F := F) 2 c) ∗ sepL (0 :: ord1) (posRes (F := F) 3 c))

/-- The four working buffers whole, at given contents. -/
def bufs (f6 f7 : Vec F S16x128x384 .bf16) (f8 f9 : Vec F S16x128x512 .bf16) : sProp 𝕄 :=
  iprop(p6 c 0 16 f6 ∗ p7 c 0 16 f7 ∗ p8 c 0 16 f8 ∗ p9 c 0 16 f9)

/-- What is left of `kit` while the program runs: the places before the banks' semaphores 0, never waited on. -/
def aside0 : sProp 𝕄 := iprop(records A K ∗ posRes (F := F) 0 c 0 ∗ posRes (F := F) 1 c 0 ∗ posRes (F := F) 2 c 0 ∗ posRes (F := F) 3 c 0)

theorem kit_open (f6 f7 : Vec F S16x128x384 .bf16) (f8 f9 : Vec F S16x128x512 .bf16) (f : Vec F S1024x512 .f32) :
    iprop(kit A K c ∗ ow c ord1 ord1 ord2 ∗ bufs c f6 f7 f8 f9 ∗ inpS A c ∗ (((c : Thread nD τ).loc cc0_stg5_0) ↦{fullShare} f))
      ⊢ iprop(iprop(records A K ∗ ow c [1, 2, 3, 4, 5, 6, 7, 8, 9, 10, 11, 12, 13, 14, 15] [1, 2, 3, 4, 5, 6, 7, 8, 9, 10, 11, 12, 13, 14, 15] [8, 9, 10, 11, 12, 13, 14, 15, 1, 2, 3, 4, 5, 6, 7] ∗ sepL [1, 2, 3, 4, 5, 6, 7, 8, 9, 10, 11, 12, 13, 14, 15] (sigRes (F := F) c) ∗ (cred (tallyAt (barCell c) () 15) ∗ atPos ERx (barCell c) 0 ∅ 0) ∗ inpS A c ∗ sepL ord1 (dtok (F := F) c) ∗ sepL ord2 (dres (F := F) c) ∗ p6 c 0 (0 + 1) (f6) ∗ p6 c 1 (1 + 8) (f6) ∗ p6 c 9 (9 + 7) (f6) ∗ p7 c 0 (0 + 1) (f7) ∗ p8 c 0 (0 + 1) (f8) ∗ p8 c 1 (1 + 7) (f8) ∗ p8 c 8 (8 + 8) (f8) ∗ p9 c 0 (0 + 1) (f9) ∗ (((c : Thread nD τ).loc cc0_stg5_0) ↦{fullShare} f) ∗ sepL [1, 2, 3, 4, 5, 6, 7, 8, 9, 10, 11, 12, 13, 14, 15] (posRes (F := F) 0 c) ∗ sepL [8, 9, 10, 11, 12, 13, 14, 15, 1, 2, 3, 4, 5, 6, 7] (posRes (F := F) 2 c) ∗ waitS A c 1 [15, 14, 13, 12, 11, 10, 9, 8, 7, 6, 5, 4, 3, 2, 1] [] [] ∗ waitS A c 3 [8, 7, 6, 5, 4, 3, 2, 1, 15, 14, 13, 12, 11, 10, 9] [] []) ∗ aside0 A K c) := by
  have e : sepL ord1 (sigRes (F := F) c) = iprop(sepL ord1 (fun o => (dutyTok ERx (barCell (sh c o)) 0 (16 - o) : sProp 𝕄)) ∗ sepL ord1 (land7 (F := F) c) ∗ sepL ord1 (land9 (F := F) c)) :=
    (sepL_sep_eq _ _ ord1).trans (congrArg (fun x => iprop(sepL ord1 (fun o => (dutyTok ERx (barCell (sh c o)) 0 (16 - o) : sProp 𝕄)) ∗ x)) (sepL_sep_eq _ _ ord1))
  rw [show sepL [1, 2, 3, 4, 5, 6, 7, 8, 9, 10, 11, 12, 13, 14, 15] (sigRes (F := F) c) = sepL ord1 (sigRes (F := F) c) from rfl, e]
  unfold kit bufs aside0
  rw [sepL_cons, sepL_cons, sepL_cons, sepL_cons]
  iintro ⟨⟨#HR, HT, HD, HDR, HB, HC1, HC3, HA, ⟨HZ0, HP0⟩, ⟨HZ1, HP1⟩, ⟨HZ2, HP2⟩, ⟨HZ3, HP3⟩⟩, HO, ⟨H6, H7, H8, H9⟩, HI, HOUT⟩
  ihave H6 := (cut6 c f6) $$ H6
  icases H6 with ⟨H60, H61, H69⟩
  ihave H7 := (cut7 c f7) $$ H7
  icases H7 with ⟨H70, HL7⟩
  ihave H8 := (cut8 c f8) $$ H8
  icases H8 with ⟨H80, H81, H88⟩
  ihave H9 := (cut9 c f9) $$ H9
  icases H9 with ⟨H90, HL9⟩
  ihave HW1 := (wait_in A c 1 [15, 14, 13, 12, 11, 10, 9, 8, 7, 6, 5, 4, 3, 2, 1] ord1 (by decide)) $$ [HC1 HP1]
  · isplitl [HC1]; · iexact HC1
    iapply (sepL_perm (show ord1.Perm [15, 14, 13, 12, 11, 10, 9, 8, 7, 6, 5, 4, 3, 2, 1] by decide)); iexact HP1
  ihave HW3 := (wait_in A c 3 [8, 7, 6, 5, 4, 3, 2, 1, 15, 14, 13, 12, 11, 10, 9] ord1 (by decide)) $$ [HC3 HP3]
  · isplitl [HC3]; · iexact HC3
    iapply (sepL_perm (show ord1.Perm [8, 7, 6, 5, 4, 3, 2, 1, 15, 14, 13, 12, 11, 10, 9] by decide)); iexact HP3
  ihave HP2 := (sepL_perm (Φ := posRes (F := F) 2 c) (show ord1.Perm ord2 by decide)) $$ HP2
  ihave HDR := (sepL_perm (Φ := dres (F := F) c) (show ord1.Perm ord2 by decide)) $$ HDR
  isplitr [HZ0 HZ1 HZ2 HZ3]
  · isplitr; · iexact HR
    isplitl [HO]; · iexact HO
    isplitl [HT HL7 HL9]
    · isplitl [HT]; · iexact HT
      isplitl [HL7] <;> iassumption
    isplitl [HB HA]
    · isplitl [HB] <;> iassumption
    isplitl [HI]; · iexact HI
    isplitl [HD]; · iexact HD
    isplitl [HDR]; · iexact HDR
    isplitl [H60]; · iexact H60
    isplitl [H61]; · iexact H61
    isplitl [H69]; · iexact H69
    isplitl [H70]; · iexact H70
    isplitl [H80]; · iexact H80
    isplitl [H81]; · iexact H81
    isplitl [H88]; · iexact H88
    isplitl [H90]; · iexact H90
    isplitl [HOUT]; · iexact HOUT
    isplitl [HP0]; · iexact HP0
    isplitl [HP2]; · iexact HP2
    isplitl [HW1]; · iexact HW1
    iexact HW3
  · isplitr; · iexact HR
    isplitl [HZ0]; · iexact HZ0
    isplitl [HZ1]; · iexact HZ1
    isplitl [HZ2]; · iexact HZ2
    iexact HZ3

/-- What it ends with. -/
def finish : sProp 𝕄 :=
  iprop(ow (F := F) c [] [] [] ∗ bufs c (dispC A c) (recvC A c) (retC A c) (backC A c) ∗ inpS A c
    ∗ (((c : Thread nD τ).loc cc0_stg5_0) ↦{fullShare} outC A c) ∗ zeroed (F := F) c)

theorem finish_close : iprop(iprop(records A K ∗ ow c [] [] [] ∗ waitS A c 2 [] [7, 6, 5, 4, 3, 2, 1, 15, 14, 13, 12, 11, 10, 9, 8] [7, 6, 5, 4, 3, 2, 1, 15, 14, 13, 12, 11, 10, 9, 8] ∗ waitS A c 0 [] [15, 14, 13, 12, 11, 10, 9, 8, 7, 6, 5, 4, 3, 2, 1] [15, 14, 13, 12, 11, 10, 9, 8, 7, 6, 5, 4, 3, 2, 1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] []) ∗ aside0 A K c) ⊢ iprop(|={Set.univ}=> finish A c) := by
  unfold aside0 waitS
  iintro ⟨⟨-, HO, ⟨-, HD2, HY2⟩, ⟨-, HD0, HY0⟩, HOUT, H9, ⟨-, HD3, -⟩, HB, H70, HI, H60, H80, H78, H71, ⟨-, HD1, -⟩⟩, #HR, HZ0, HZ1, HZ2, HZ3⟩
  imod (close_bank A K c 0 (by decide) [15, 14, 13, 12, 11, 10, 9, 8, 7, 6, 5, 4, 3, 2, 1] (by decide) (by decide)) $$ [HZ0 HD0] with HV0
  · isplitr; · iexact HR
    isplitl [HZ0] <;> iassumption
  imod (close_bank A K c 1 (by decide) [1, 2, 3, 4, 5, 6, 7, 8, 9, 10, 11, 12, 13, 14, 15] (by decide) (by decide)) $$ [HZ1 HD1] with HV1
  · isplitr; · iexact HR
    isplitl [HZ1] <;> iassumption
  imod (close_bank A K c 2 (by decide) [7, 6, 5, 4, 3, 2, 1, 15, 14, 13, 12, 11, 10, 9, 8] (by decide) (by decide)) $$ [HZ2 HD2] with HV2
  · isplitr; · iexact HR
    isplitl [HZ2] <;> iassumption
  imod (close_bank A K c 3 (by decide) [9, 10, 11, 12, 13, 14, 15, 1, 2, 3, 4, 5, 6, 7, 8] (by decide) (by decide)) $$ [HZ3 HD3] with HV3
  · isplitr; · iexact HR
    isplitl [HZ3] <;> iassumption
  imod (close_bar A K c) $$ [HB] with HVB
  · isplitr; · iexact HR
    iexact HB
  imodintro
  unfold finish bufs zeroed
  isplitl [HO]; · iexact HO
  isplitl [H60 HY0 H70 H71 H78 H80 HY2 H9]
  · isplitl [H60 HY0]
    · iapply (join6 A c)
      isplitl [H60] <;> iassumption
    isplitl [H70 H71 H78]
    · iapply (join7 A c)
      isplitl [H70]; · iexact H70
      isplitl [H71] <;> iassumption
    isplitl [H80 HY2]
    · iapply (join8 A c)
      isplitl [H80] <;> iassumption
    iexact H9
  isplitl [HI]; · iexact HI
  isplitl [HOUT]; · iexact HOUT
  isplitl [HV0]; · iexact HV0
  isplitl [HV1]; · iexact HV1
  isplitl [HV2]; · iexact HV2
  isplitl [HV3]; · iexact HV3
  iexact HVB

/-- The kernel on one device. -/
theorem device_run (f6 f7 : Vec F S16x128x384 .bf16) (f8 f9 : Vec F S16x128x512 .bf16) (f : Vec F S1024x512 .f32) :
    iprop(kit A K c ∗ ow c ord1 ord1 ord2 ∗ bufs c f6 f7 f8 f9 ∗ inpS A c ∗ (((c : Thread nD τ).loc cc0_stg5_0) ↦{fullShare} f))
      ⊢ wpx c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => finish A c) := by
  refine BIBase.Entails.trans (kit_open A K c f6 f7 f8 f9 f) ?_
  refine BIBase.Entails.trans (sep_mono_left (whole_body A K c f6 f7 f8 f9 f (Q := fun _ => iprop(records A K ∗ ow c [] [] [] ∗ waitS A c 2 [] [7, 6, 5, 4, 3, 2, 1, 15, 14, 13, 12, 11, 10, 9, 8] [7, 6, 5, 4, 3, 2, 1, 15, 14, 13, 12, 11, 10, 9, 8] ∗ waitS A c 0 [] [15, 14, 13, 12, 11, 10, 9, 8, 7, 6, 5, 4, 3, 2, 1] [15, 14, 13, 12, 11, 10, 9, 8, 7, 6, 5, 4, 3, 2, 1] ∗ (((c : Thread nD τ).loc cc0_stg5_0) ↦{fullShare} (outC A c)) ∗ p9 c 0 (0 + 16) (backC A c) ∗ waitS A c 3 [] [9, 10, 11, 12, 13, 14, 15, 1, 2, 3, 4, 5, 6, 7, 8] [] ∗ atPos ERx (barCell c) (0 + 1) ∅ 0 ∗ p7 c 0 (0 + 1) (recvC A c) ∗ inpS A c ∗ p6 c 0 (0 + 1) (dispC A c) ∗ p8 c 0 (0 + 1) (retC A c) ∗ p7 c 8 (8 + 8) (recvC A c) ∗ p7 c 1 (1 + 7) (recvC A c) ∗ waitS A c 1 [] [1, 2, 3, 4, 5, 6, 7, 8, 9, 10, 11, 12, 13, 14, 15] [])) BIBase.Entails.rfl)) ?_
  unfold wpx
  refine BIBase.Entails.trans (wp_frame_r frame (wpE (defs₀ (F := F)) 𝒱x (c : Thread nD τ) none) Set.univ) ?_
  refine BIBase.Entails.trans (wp_mono frame (wpE (defs₀ (F := F)) 𝒱x (c : Thread nD τ) none) Set.univ (fun _ => finish_close A K c)) ?_
  exact wp_fupd frame (wpE (defs₀ (F := F)) 𝒱x (c : Thread nD τ) none) Set.univ _ _

end Cert.Exchange

end
-- ==== Proof.Body.lean ====
/-
The body as the launch asks for it: the staged inputs, the working buffers, what is owed before and after.
-/
module

public import proofs.«01_k».proof.Proof.Device
public import proofs.«01_k».proof.Proof.Gen.KernelIdeal.Points

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (m : (ℓ : Loc nD τ sig) → Buf (Elt F) ℓ) (ρ : Dev nD → PrngReg)

/-- The memory the program is started in. -/
def mem₀ : MemSt nD τ sig (Elt F) := ⟨m, fun _ => 0, ρ⟩

/-- The inputs of all devices, as staged from that memory. -/
def inpOf : Inp F where
  x c := (win0_0.blk (0 : Fin 1)).view.read (Elt F) ((mem₀ m ρ).mem ((c : Thread nD τ).loc main_arg0))
  rw c := (win0_1.blk (0 : Fin 1)).view.read (Elt F) ((mem₀ m ρ).mem ((c : Thread nD τ).loc main_arg1))
  idx c := (win0_2.blk (0 : Fin 1)).view.read (Elt F) ((mem₀ m ρ).mem ((c : Thread nD τ).loc main_arg2))
  ew c := (win0_3.blk (0 : Fin 1)).view.read (Elt F) ((mem₀ m ρ).mem ((c : Thread nD τ).loc main_arg3))
  sw c := (win0_4.blk (0 : Fin 1)).view.read (Elt F) ((mem₀ m ρ).mem ((c : Thread nD τ).loc main_arg4))

/-- A device's share at the start: its kit, at the names the semaphores' records were given. -/
def begin (c : Dev nD) : sProp 𝕄 := iprop(∃ K, kit (inpOf m ρ) K c)

/-- The four working buffers at any contents. -/
def scratch (c : Dev nD) : sProp 𝕄 :=
  iprop((∃ f, p6 c 0 16 f) ∗ (∃ f, p7 c 0 16 f) ∗ (∃ f, p8 c 0 16 f) ∗ (∃ f, p9 c 0 16 f))

def before₀ (c : Dev nD) : sProp 𝕄 := iprop(begin m ρ c ∗ scratch (F := F) c)
def after₀ (c : Dev nD) : sProp 𝕄 := iprop(zeroed (F := F) c ∗ scratch (F := F) c)

/-- The launch's data: the arrays, what the body leaves staged, what it starts from and ends with, what is owed. -/
def dats (_ : Fin 1) (c : Dev nD) : Dat τ (Elt F) Unit ℕ UA ℕ cfg0 c where
  A w := (mem₀ m ρ).mem ((cfg0.win w).arr.view.loc (c : Thread nD τ))
  after w _ := match w with
    | ⟨0, _⟩ => (inpOf m ρ).x c
    | ⟨1, _⟩ => (inpOf m ρ).rw c
    | ⟨2, _⟩ => (inpOf m ρ).idx c
    | ⟨3, _⟩ => (inpOf m ρ).ew c
    | ⟨4, _⟩ => (inpOf m ρ).sw c
    | ⟨5, _⟩ => outC (inpOf m ρ) c
  Φ t := match t with
    | ⟨0, _⟩ => before₀ m ρ c
    | ⟨_ + 1, _⟩ => after₀ (F := F) c
  q _ := fullShare
  owed t := match t with
    | ⟨0, _⟩ => owe c ord1 ord1 ord2
    | ⟨_ + 1, _⟩ => 0

theorem whole_owns (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgd (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def given (c : Dev nD) : sProp 𝕄 :=
  iprop(before₀ m ρ c ∗ (dats m ρ 0 c).owesAt () t0_0.castSucc
    ∗ (∃ d, stgd c cc0_stg0_0 ((dats m ρ 0 c).before (0 : Fin 6) t0_0 d))
    ∗ (∃ d, stgd c cc0_stg1_0 ((dats m ρ 0 c).before (1 : Fin 6) t0_0 d))
    ∗ (∃ d, stgd c cc0_stg2_0 ((dats m ρ 0 c).before (2 : Fin 6) t0_0 d))
    ∗ (∃ d, stgd c cc0_stg3_0 ((dats m ρ 0 c).before (3 : Fin 6) t0_0 d))
    ∗ (∃ d, stgd c cc0_stg4_0 ((dats m ρ 0 c).before (4 : Fin 6) t0_0 d))
    ∗ (∃ d, stgd c cc0_stg5_0 ((dats m ρ 0 c).before (5 : Fin 6) t0_0 d)))

def kept (c : Dev nD) : sProp 𝕄 :=
  iprop(after₀ (F := F) c ∗ (dats m ρ 0 c).owesAt () t0_0.succ
    ∗ stgd c cc0_stg0_0 ((inpOf m ρ).x c) ∗ stgd c cc0_stg1_0 ((inpOf m ρ).rw c) ∗ stgd c cc0_stg2_0 ((inpOf m ρ).idx c)
    ∗ stgd c cc0_stg3_0 ((inpOf m ρ).ew c) ∗ stgd c cc0_stg4_0 ((inpOf m ρ).sw c) ∗ stgd c cc0_stg5_0 (outC (inpOf m ρ) c))

theorem staged0 (c : Dev nD) (d) : (dats m ρ 0 c).before (0 : Fin 6) t0_0 d = (inpOf m ρ).x c := by
  unfold Dat.before; rw [if_pos (fetch0_0 t0_0)]; rfl
theorem staged1 (c : Dev nD) (d) : (dats m ρ 0 c).before (1 : Fin 6) t0_0 d = (inpOf m ρ).rw c := by
  unfold Dat.before; rw [if_pos (fetch0_1 t0_0)]; rfl
theorem staged2 (c : Dev nD) (d) : (dats m ρ 0 c).before (2 : Fin 6) t0_0 d = (inpOf m ρ).idx c := by
  unfold Dat.before; rw [if_pos (fetch0_2 t0_0)]; rfl
theorem staged3 (c : Dev nD) (d) : (dats m ρ 0 c).before (3 : Fin 6) t0_0 d = (inpOf m ρ).ew c := by
  unfold Dat.before; rw [if_pos (fetch0_3 t0_0)]; rfl
theorem staged4 (c : Dev nD) (d) : (dats m ρ 0 c).before (4 : Fin 6) t0_0 d = (inpOf m ρ).sw c := by
  unfold Dat.before; rw [if_pos (fetch0_4 t0_0)]; rfl

theorem body_given (c : Dev nD) : given m ρ c ⊢ wp frame (wpE (defs₀ (F := F)) 𝒱x (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => kept m ρ c) := by
  unfold given before₀ begin scratch
  iintro ⟨⟨⟨%K, HK⟩, ⟨%f6, H6⟩, ⟨%f7, H7⟩, ⟨%f8, H8⟩, ⟨%f9, H9⟩⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  rw [staged0] at e0
  rw [staged1] at e1
  rw [staged2] at e2
  rw [staged3] at e3
  rw [staged4] at e4
  subst e0 e1 e2 e3 e4
  unfold Dat.owesAt Pipeline.owesWithin
  icases Ho with ⟨%W, %hW, HO⟩
  rw [show (dats m ρ 0 c).owed t0_0.castSucc = owe c ord1 ord1 ord2 from rfl]
  ihave HW := (device_run (inpOf m ρ) K c f6 f7 f8 f9 g5) $$ [HK H6 H7 H8 H9 HO H0 H1 H2 H3 H4 H5]
  · isplitl [HK]; · iexact HK
    isplitl [HO]; · unfold ow; iexists W; iexact HO
    isplitl [H6 H7 H8 H9]
    · unfold bufs
      isplitl [H6]; · iexact H6
      isplitl [H7]; · iexact H7
      isplitl [H8] <;> iassumption
    isplitl [H0 H1 H2 H3 H4]
    · unfold inpS
      isplitl [H0]; · iexact H0
      isplitl [H1]; · iexact H1
      isplitl [H2]; · iexact H2
      isplitl [H3] <;> iassumption
    iexact H5
  unfold wpx
  iapply (wp_mono frame (wpE (defs₀ (F := F)) 𝒱x (c : Thread nD τ) none) Set.univ (fun _ => ?_)) $$ HW
  unfold finish kept after₀ scratch bufs inpS ow
  iintro ⟨⟨%W', HO⟩, ⟨H6, H7, H8, H9⟩, ⟨H0, H1, H2, H3, H4⟩, H5, HZ⟩
  isplitl [H6 H7 H8 H9 HZ]
  · isplitl [HZ]; · iexact HZ
    isplitl [H6]; · iexists _; iexact H6
    isplitl [H7]; · iexists _; iexact H7
    isplitl [H8]; · iexists _; iexact H8
    iexists _; iexact H9
  isplitl [HO]
  · unfold Dat.owesAt Pipeline.owesWithin
    rw [show (dats m ρ 0 c).owed t0_0.succ = 0 from rfl]
    iexists W'
    isplitr
    · ipureintro; exact fun _ _ => Or.inl trivial
    · iexact HO
  isplitl [H0]
  · iexists _
    isplitr
    · ipureintro; rfl
    · iexact H0
  isplitl [H1]
  · iexists _
    isplitr
    · ipureintro; rfl
    · iexact H1
  isplitl [H2]
  · iexists _
    isplitr
    · ipureintro; rfl
    · iexact H2
  isplitl [H3]
  · iexists _
    isplitr
    · ipureintro; rfl
    · iexact H3
  isplitl [H4]
  · iexists _
    isplitr
    · ipureintro; rfl
    · iexact H4
  iexists _
  isplitr
  · ipureintro; rfl
  · iexact H5

theorem body_obl (c : Dev nD) : BodyObligation (dats (F := F) m ρ 0 c) (defs₀ (F := F)) 𝒱x () Set.univ := fun t => by
  rw [fin_N0 t]
  rw [bigSep_W0, bigSep_W0]
  simp only [whole_owns]
  exact body_given m ρ c

end Cert.Exchange

end
-- ==== Proof.Deal.lean ====
/-
How the launch deals out semaphores, tokens and credits: sums over all of them read as lists.
-/
module

public import proofs.«01_k».proof.Proof.Body

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

/-! ## The row of sixty-five semaphores as four banks and one -/

def ixN (n : ℕ) : Fin 65 := ⟨n % 65, Nat.mod_lt _ (Nat.succ_pos 64)⟩
def bankIx (j : ℕ) : List ℕ := (List.range 16).map (fun k => 16 * j + k)
def rowIx : List ℕ := bankIx 0 ++ (bankIx 1 ++ (bankIx 2 ++ (bankIx 3 ++ [64])))

theorem rowIx_nodup : (rowIx.map ixN).Nodup := by decide
theorem rowIx_univ : (rowIx.map ixN).toFinset = Finset.univ := by decide

theorem sepL_map (Φ : ℕ → sProp (MT nD τ sig Unit (Elt F) ℕ UA ℕ)) (g : ℕ → ℕ) : ∀ l : List ℕ, sepL (l.map g) Φ = sepL l (fun k => Φ (g k))
  | [] => rfl
  | o :: l => by rw [List.map_cons, sepL_cons, sepL_cons, sepL_map Φ g l]

theorem sepL_congr {Φ Ψ : ℕ → sProp (MT nD τ sig Unit (Elt F) ℕ UA ℕ)} : ∀ {l : List ℕ}, (∀ o ∈ l, Φ o = Ψ o) → sepL l Φ = sepL l Ψ
  | [], _ => rfl
  | o :: l, h => by
    rw [sepL_cons, sepL_cons, h o List.mem_cons_self, sepL_congr (l := l) fun p hp => h p (List.mem_cons_of_mem _ hp)]

theorem sepL_append_eq (Φ : ℕ → sProp (MT nD τ sig Unit (Elt F) ℕ UA ℕ)) (a b : List ℕ) : sepL (a ++ b) Φ = iprop(sepL a Φ ∗ sepL b Φ) :=
  (sepL_split Φ b a).antisymm (sepL_append Φ b a)

theorem cell_ix (c : Dev nD) {j k : ℕ} (hj : j < 4) (hk : k < 16) : kcell (c, ixN (16 * j + k)) = xCell j k c := by
  rw [← kcell_x c hj hk]
  exact congrArg (fun i => kcell (c, i)) (Fin.ext (show (16 * j + k) % 65 = 16 * j + k by omega))

theorem bankIx_nodup : ((bankIx 0 ++ (bankIx 1 ++ (bankIx 2 ++ bankIx 3))).map fun n => (⟨n % 64, Nat.mod_lt _ (Nat.succ_pos 63)⟩ : Fin 64)).Nodup := by decide
theorem bankIx_univ : ((bankIx 0 ++ (bankIx 1 ++ (bankIx 2 ++ bankIx 3))).map fun n => (⟨n % 64, Nat.mod_lt _ (Nat.succ_pos 63)⟩ : Fin 64)).toFinset = Finset.univ := by decide

theorem all_sepL {I : Type} [Fintype I] [DecidableEq I] (Φ : I → sProp (MT nD τ sig Unit (Elt F) ℕ UA ℕ)) (f : ℕ → I) (l : List ℕ)
    (hn : (l.map f).Nodup) (hu : (l.map f).toFinset = Finset.univ) : bigSep Finset.univ Φ = sepL l (fun o => Φ (f o)) :=
  Entails.antisymm (sepL_of_bigSep Φ f l Finset.univ hn (fun _ _ => Finset.mem_univ _))
    ((bigSep_of_sepL Φ f l hn).trans (Entails.of_eq (congrArg (fun S => bigSep S Φ) hu)))

theorem nest5_l (A B C D E : sProp (MT nD τ sig Unit (Elt F) ℕ UA ℕ)) : iprop((A ∗ B ∗ C ∗ D) ∗ E) ⊢ iprop(A ∗ B ∗ C ∗ D ∗ E) := by
  iintro ⟨⟨H0, H1, H2, H3⟩, H4⟩
  isplitl [H0]; · iexact H0
  isplitl [H1]; · iexact H1
  isplitl [H2]; · iexact H2
  isplitl [H3] <;> iassumption
theorem nest5_r (A B C D E : sProp (MT nD τ sig Unit (Elt F) ℕ UA ℕ)) : iprop(A ∗ B ∗ C ∗ D ∗ E) ⊢ iprop((A ∗ B ∗ C ∗ D) ∗ E) := by
  iintro ⟨H0, H1, H2, H3, H4⟩
  isplitr [H4]
  · isplitl [H0]; · iexact H0
    isplitl [H1]; · iexact H1
    isplitl [H2] <;> iassumption
  · iexact H4
theorem nest5 (A B C D E : sProp (MT nD τ sig Unit (Elt F) ℕ UA ℕ)) : iprop((A ∗ B ∗ C ∗ D) ∗ E) = iprop(A ∗ B ∗ C ∗ D ∗ E) :=
  Entails.antisymm (nest5_l A B C D E) (nest5_r A B C D E)

/-- A statement about every semaphore of a device, bank by bank. -/
theorem row_eq (c : Dev nD) (Φ : GSem nD τ sig → sProp (MT nD τ sig Unit (Elt F) ℕ UA ℕ)) :
    (bigSep Finset.univ fun i : Fin 65 => Φ (kcell (c, i)))
      = iprop(sepL (List.range 16) (fun k => Φ (xCell 0 k c)) ∗ sepL (List.range 16) (fun k => Φ (xCell 1 k c))
          ∗ sepL (List.range 16) (fun k => Φ (xCell 2 k c)) ∗ sepL (List.range 16) (fun k => Φ (xCell 3 k c)) ∗ Φ (barCell c)) := by
  have e : (bigSep Finset.univ fun i : Fin 65 => Φ (kcell (c, i))) = sepL rowIx (fun n => Φ (kcell (c, ixN n))) :=
    all_sepL (fun i : Fin 65 => Φ (kcell (c, i))) ixN rowIx rowIx_nodup rowIx_univ
  have hb : ∀ j, j < 4 → sepL (bankIx j) (fun n => Φ (kcell (c, ixN n))) = sepL (List.range 16) (fun k => Φ (xCell j k c)) := by
    intro j hj
    unfold bankIx
    rw [sepL_map]
    exact sepL_congr fun k hk => congrArg Φ (cell_ix c hj (List.mem_range.mp hk))
  have hl : sepL [64] (fun n => Φ (kcell (c, ixN n))) = Φ (barCell c) := by
    have h : kcell (c, ixN 64) = barCell c := kcell_bar c
    rw [sepL_cons, sepL_nil, h]
    exact Entails.antisymm BI.sep_emp.1 BI.sep_emp.2
  rw [e]
  unfold rowIx
  rw [sepL_append_eq, sepL_append_eq, sepL_append_eq, sepL_append_eq, hb 0 (by decide), hb 1 (by decide), hb 2 (by decide), hb 3 (by decide), hl]

/-- The kernel's own semaphores, as the launch numbers them. -/
def osem (i : Fin 64) : SemLoc sig := semL 0 i.val

theorem zeroed_row (c : Dev nD) : zeroed (F := F) c = bigSep Finset.univ fun i : Fin 65 => (semVal (kcell (c, i)) 0 : sProp 𝕄) :=
  (row_eq c (fun g => (semVal g 0 : sProp 𝕄))).symm

theorem unscoped_bar (c : Dev nD) : (unscopedSems0 c : sProp 𝕄) = semVal (barCell c) 0 := by
  unfold unscopedSems0; rw [bigSep_eq_bigSepL_of_eq [SemLoc.reg barS] (by decide) (by decide)]; rfl

theorem own_banks (c : Dev nD) : iprop(Pipeline.ownSems0 (Ix := Unit) (Name := ℕ) (U := UA) (Lvl := ℕ) (Val := Elt F) (τ := τ) osem c ∗ unscopedSems0 c)
    = (zeroed (F := F) c : sProp 𝕄) := by
  have hb : ∀ j, j < 4 → sepL (bankIx j) (fun n => (semVal ((c : Thread nD τ), osem ⟨n % 64, Nat.mod_lt _ (Nat.succ_pos 63)⟩) 0 : sProp 𝕄))
      = sepL (List.range 16) (fun k => semVal (xCell j k c) 0) := by
    intro j hj
    unfold bankIx
    rw [sepL_map]
    refine sepL_congr fun k hk => congrArg (fun g => (semVal g 0 : sProp 𝕄)) ?_
    have hk := List.mem_range.mp hk
    show ((c : Thread nD τ), SemLoc.dma (dq 0 ((16 * j + k) % 64))) = _
    rw [Nat.mod_eq_of_lt (by omega), dq_flat]
  have e : (bigSep Finset.univ fun i : Fin 64 => (semVal ((c : Thread nD τ), osem i) 0 : sProp 𝕄))
      = sepL (bankIx 0 ++ (bankIx 1 ++ (bankIx 2 ++ bankIx 3))) (fun n => (semVal ((c : Thread nD τ), osem ⟨n % 64, Nat.mod_lt _ (Nat.succ_pos 63)⟩) 0 : sProp 𝕄)) :=
    all_sepL (fun i : Fin 64 => (semVal ((c : Thread nD τ), osem i) 0 : sProp 𝕄)) (fun n => (⟨n % 64, Nat.mod_lt _ (Nat.succ_pos 63)⟩ : Fin 64)) _ bankIx_nodup bankIx_univ
  unfold Pipeline.ownSems0 zeroed
  rw [unscoped_bar, e, sepL_append_eq, sepL_append_eq, sepL_append_eq, hb 0 (by decide), hb 1 (by decide), hb 2 (by decide), hb 3 (by decide)]
  exact nest5 _ _ _ _ _

/-! ## The tokens, indexed by who discharges the duty -/

/-- Device `c`'s token number `i` of kind `j`: the departures and arrivals of its own copies (kinds 0 to 3), its ready signals (4). -/
def payTok (x : Dev nD × Fin 5 × Fin 15) : GSem nD τ sig × ℕ × ℕ :=
  if x.2.1.val = 4 then (barCell (sh x.1 (x.2.2.val + 1)), 0, 15 - x.2.2.val)
  else if x.2.1.val = 1 ∨ x.2.1.val = 3 then (xCell x.2.1.val (15 - x.2.2.val) (sh x.1 (x.2.2.val + 1)), 0, 0)
  else (xCell x.2.1.val (x.2.2.val + 1) x.1, 0, 0)

theorem sh_cancel {c d : Dev nD} {o : ℕ} (h1 : 0 < o) (h2 : o < 16) (h : sh c o = sh d o) : c = d := by
  have e : sh (sh c o) (16 - o) = sh (sh d o) (16 - o) := congrArg (fun x => sh x (16 - o)) h
  rwa [sh_sh (by omega), sh_sh (by omega)] at e

theorem xCell_inj {j k j' k' : ℕ} {c c' : Dev nD} (hj : j < 4) (hk : k < 16) (hj' : j' < 4) (hk' : k' < 16) (h : xCell j k c = xCell j' k' c') :
    j = j' ∧ k = k' ∧ c = c' := by
  have h1 : semL j k = semL j' k' := congrArg Prod.snd h
  have h2 : c = c' := congrArg (fun g : GSem nD τ sig => g.1.1) h
  have h3 := dq_inj hj hk hj' hk' (SemLoc.dma.inj h1)
  exact ⟨h3.1, h3.2, h2⟩
theorem bar_inj {c c' : Dev nD} (h : barCell c = barCell c') : c = c' := congrArg (fun g : GSem nD τ sig => g.1.1) h
theorem x_ne_bar {j k : ℕ} {c c' : Dev nD} : xCell j k c ≠ barCell c' := fun h => by
  have h1 : semL j k = SemLoc.reg barS := congrArg Prod.snd h
  cases h1

theorem payTok_injective : Function.Injective payTok := by
  rintro ⟨c, j, i⟩ ⟨c', j', i'⟩ h
  have hi := i.isLt; have hi' := i'.isLt; have hj := j.isLt; have hj' := j'.isLt
  unfold payTok at h
  dsimp only at h
  have key : c = c' ∧ j.val = j'.val ∧ i.val = i'.val := by
    split at h
    · rename_i h4
      split at h
      · rename_i h4'
        have hc := bar_inj (congrArg Prod.fst h)
        have hd : 15 - i.val = 15 - i'.val := congrArg (fun y => y.2.2) h
        have hii : i.val = i'.val := by omega
        rw [hii] at hc
        exact ⟨sh_cancel (by omega) (by omega) hc, by omega, hii⟩
      · split at h <;> exact absurd (congrArg Prod.fst h).symm x_ne_bar
    · rename_i h4
      split at h
      · rename_i h13
        split at h
        · exact absurd (congrArg Prod.fst h) x_ne_bar
        · rename_i h4'
          split at h
          · have e := xCell_inj (by omega) (by omega) (by omega) (by omega) (congrArg Prod.fst h)
            have hii : i.val = i'.val := by omega
            have hc := e.2.2
            rw [hii] at hc
            exact ⟨sh_cancel (by omega) (by omega) hc, e.1, hii⟩
          · rename_i h13'
            have e := xCell_inj (by omega) (by omega) (by omega) (by omega) (congrArg Prod.fst h)
            omega
      · rename_i h13
        split at h
        · exact absurd (congrArg Prod.fst h) x_ne_bar
        · rename_i h4'
          split at h
          · have e := xCell_inj (by omega) (by omega) (by omega) (by omega) (congrArg Prod.fst h)
            omega
          · have e := xCell_inj (by omega) (by omega) (by omega) (by omega) (congrArg Prod.fst h)
            exact ⟨e.2.2, e.1, by omega⟩
  obtain ⟨rfl, h1, h2⟩ := key
  rw [Fin.ext h1, Fin.ext h2]

theorem kcell_injective : Function.Injective kcell := by
  rintro ⟨c, i⟩ ⟨c', i'⟩ h
  have hi := i.isLt; have hi' := i'.isLt
  have hc : c = c' := congrArg (fun g : GSem nD τ sig => g.1.1) h
  have hs : csem i = csem i' := congrArg Prod.snd h
  subst hc
  unfold csem at hs
  have key : i.val = i'.val := by
    split at hs
    · rename_i h64
      split at hs
      · rename_i h64'
        have e := congrArg Fin.val (SemLoc.dma.inj hs)
        have e1 : ∀ n, n < 64 → (dq 0 n).val = 6 + n := fun n hn => by show (6 + 16 * 0 + n) % 70 = 6 + n; omega
        rw [e1 _ h64, e1 _ h64'] at e
        omega
      · exact absurd hs (fun h => by cases h)
    · split at hs
      · exact absurd hs (fun h => by cases h)
      · omega
  rw [Fin.ext key]

def allCells : Finset (GSem nD τ sig) := Finset.univ.map ⟨kcell, kcell_injective⟩
def allToks : Finset (GSem nD τ sig × ℕ × ℕ) := Finset.univ.map ⟨payTok, payTok_injective⟩

/-- The tokens device `c` discharges its duties with. -/
def purse (c : Dev nD) : sProp 𝕄 :=
  bigSep Finset.univ fun y : Fin 5 × Fin 15 => dutyTok ERx (payTok (c, y)).1 (payTok (c, y)).2.1 (payTok (c, y)).2.2

theorem purse_kind (c : Dev nD) (j : Fin 5) (Φ : ℕ → sProp (MT nD τ sig Unit (Elt F) ℕ UA ℕ))
    (h : ∀ i : Fin 15, (dutyTok ERx (payTok (c, j, i)).1 (payTok (c, j, i)).2.1 (payTok (c, j, i)).2.2 : sProp 𝕄) ⊢ Φ (i.val + 1)) :
    (bigSep Finset.univ fun i : Fin 15 => (dutyTok ERx (payTok (c, j, i)).1 (payTok (c, j, i)).2.1 (payTok (c, j, i)).2.2 : sProp 𝕄)) ⊢ sepL ord1 Φ := by
  refine BIBase.Entails.trans (sepL_of_bigSep (fun i : Fin 15 => (dutyTok ERx (payTok (c, j, i)).1 (payTok (c, j, i)).2.1 (payTok (c, j, i)).2.2 : sProp 𝕄))
    (fun n => (⟨(n - 1) % 15, Nat.mod_lt _ (Nat.succ_pos 14)⟩ : Fin 15)) ord1 Finset.univ (by decide) (fun _ _ => Finset.mem_univ _)) ?_
  refine sepL_mono fun o ho => ?_
  have ho' : 0 < o ∧ o < 16 := (by decide : ∀ o ∈ ord1, 0 < o ∧ o < 16) o ho
  refine BIBase.Entails.trans (h _) (Entails.of_eq (congrArg Φ ?_))
  show (o - 1) % 15 + 1 = o
  omega

theorem purse_deal (c : Dev nD) : purse (F := F) c
    ⊢ iprop(sepL ord1 (fun o => dutyTok ERx (barCell (sh c o)) 0 (16 - o)) ∗ sepL ord1 (dtok (F := F) c) ∗ sepL ord1 (dres (F := F) c)) := by
  have e1 : sepL ord1 (dtok (F := F) c) = iprop(sepL ord1 (fun o => (dutyTok ERx (xCell 0 o c) 0 0 : sProp 𝕄)) ∗ sepL ord1 (fun o => (dutyTok ERx (xCell 1 (16 - o) (sh c o)) 0 0 : sProp 𝕄))) := sepL_sep_eq _ _ _
  have e2 : sepL ord1 (dres (F := F) c) = iprop(sepL ord1 (fun o => (dutyTok ERx (xCell 2 o c) 0 0 : sProp 𝕄)) ∗ sepL ord1 (fun o => (dutyTok ERx (xCell 3 (16 - o) (sh c o)) 0 0 : sProp 𝕄))) := sepL_sep_eq _ _ _
  rw [e1, e2]
  have e5 : purse (F := F) c = iprop((bigSep Finset.univ fun i : Fin 15 => (dutyTok ERx (payTok (c, 0, i)).1 (payTok (c, 0, i)).2.1 (payTok (c, 0, i)).2.2 : sProp 𝕄))
      ∗ (bigSep Finset.univ fun i : Fin 15 => (dutyTok ERx (payTok (c, 1, i)).1 (payTok (c, 1, i)).2.1 (payTok (c, 1, i)).2.2 : sProp 𝕄))
      ∗ (bigSep Finset.univ fun i : Fin 15 => (dutyTok ERx (payTok (c, 2, i)).1 (payTok (c, 2, i)).2.1 (payTok (c, 2, i)).2.2 : sProp 𝕄))
      ∗ (bigSep Finset.univ fun i : Fin 15 => (dutyTok ERx (payTok (c, 3, i)).1 (payTok (c, 3, i)).2.1 (payTok (c, 3, i)).2.2 : sProp 𝕄))
      ∗ (bigSep Finset.univ fun i : Fin 15 => (dutyTok ERx (payTok (c, 4, i)).1 (payTok (c, 4, i)).2.1 (payTok (c, 4, i)).2.2 : sProp 𝕄))) := by
    unfold purse
    rw [bigSep_univ_prod, bigSep_univ_eq_bigSepL [(0 : Fin 5), 1, 2, 3, 4] (by decide) (by decide)]; rfl
  rw [e5]
  iintro ⟨H0, H1, H2, H3, H4⟩
  ihave H0 := (purse_kind c 0 (fun o => (dutyTok ERx (xCell 0 o c) 0 0 : sProp 𝕄)) (fun i => BIBase.Entails.rfl)) $$ H0
  ihave H2 := (purse_kind c 2 (fun o => (dutyTok ERx (xCell 2 o c) 0 0 : sProp 𝕄)) (fun i => BIBase.Entails.rfl)) $$ H2
  ihave H1 := (purse_kind c 1 (fun o => (dutyTok ERx (xCell 1 (16 - o) (sh c o)) 0 0 : sProp 𝕄)) (fun i => by
    rw [show 16 - (i.val + 1) = 15 - i.val by omega]; exact BIBase.Entails.rfl)) $$ H1
  ihave H3 := (purse_kind c 3 (fun o => (dutyTok ERx (xCell 3 (16 - o) (sh c o)) 0 0 : sProp 𝕄)) (fun i => by
    rw [show 16 - (i.val + 1) = 15 - i.val by omega]; exact BIBase.Entails.rfl)) $$ H3
  ihave H4 := (purse_kind c 4 (fun o => (dutyTok ERx (barCell (sh c o)) 0 (16 - o) : sProp 𝕄)) (fun i => by
    rw [show 16 - (i.val + 1) = 15 - i.val by omega]; exact BIBase.Entails.rfl)) $$ H4
  isplitl [H4]; · iexact H4
  isplitl [H0 H1]
  · isplitl [H0] <;> iassumption
  isplitl [H2] <;> iassumption

/-! ## The credit every semaphore is launched with -/

theorem tot_cons (p : GSem nD τ sig × ℕ) (l : List (GSem nD τ sig × ℕ)) (g : GSem nD τ sig) :
    tot (p :: l) g () = tot l g () + if g = p.1 then p.2 else 0 := by
  show (tot l + tallyAt p.1 () p.2) g () = _
  rw [Pi.add_apply, Finsupp.add_apply, tallyAt_apply]
  congr 1
  by_cases h : g = p.1
  · rw [if_pos ⟨h, rfl⟩, if_pos h]
  · rw [if_neg (fun e => h e.1), if_neg h]
theorem tot_append (l l' : List (GSem nD τ sig × ℕ)) (g : GSem nD τ sig) : tot (l ++ l') g () = tot l g () + tot l' g () := by
  induction l with
  | nil => show tot l' g () = 0 + _; rw [Nat.zero_add]
  | cons p l ih => rw [List.cons_append, tot_cons, tot_cons, ih]; omega

theorem sum_tot (f : Dev nD → ℕ → GSem nD τ sig) (n : ℕ) (g : GSem nD τ sig) : ∀ l : List ℕ,
    (∑ d : Dev nD, tot (l.map fun o => (f d o, n)) g ()) = (l.map fun o => ∑ d : Dev nD, if g = f d o then n else 0).sum
  | [] => Finset.sum_eq_zero fun _ _ => rfl
  | o :: l => by
    rw [List.map_cons, List.sum_cons, ← sum_tot f n g l, ← Finset.sum_add_distrib]
    refine Finset.sum_congr rfl fun d _ => ?_
    rw [List.map_cons, tot_cons]; exact Nat.add_comm _ _

/-- Just one device is `o` places before `c`. -/
theorem sum_sh (c : Dev nD) (o n : ℕ) (h0 : 0 < o) (h16 : o < 16) (p : Dev nD → Prop) [DecidablePred p] (hp : ∀ d, p d ↔ sh d o = c) :
    (∑ d : Dev nD, if p d then n else 0) = n := by
  rw [Finset.sum_eq_single (sh c (16 - o)) ?_ (fun h => absurd (Finset.mem_univ _) h), if_pos ((hp _).2 (sh_sh (by omega) c))]
  intro d _ hd
  refine if_neg fun h => hd ?_
  rw [← (hp d).1 h, sh_sh (by omega) d]

theorem sum_none (n : ℕ) (p : Dev nD → Prop) [DecidablePred p] (hp : ∀ d, ¬ p d) : (∑ d : Dev nD, if p d then n else 0) = 0 :=
  Finset.sum_eq_zero fun d _ => if_neg (hp d)

theorem owed_split (g : GSem nD τ sig) :
    (∑ d : Dev nD, owe d ord1 ord1 ord2 g ())
      = (ord1.map fun o => ∑ d : Dev nD, if g = barCell (sh d o) then 1 else 0).sum
        + ((ord1.map fun o => ∑ d : Dev nD, if g = xCell 1 (16 - o) (sh d o) then N1 else 0).sum
          + (ord2.map fun o => ∑ d : Dev nD, if g = xCell 3 (16 - o) (sh d o) then N2 else 0).sum) := by
  rw [← sum_tot, ← sum_tot, ← sum_tot, ← Finset.sum_add_distrib, ← Finset.sum_add_distrib]
  refine Finset.sum_congr rfl fun d _ => ?_
  unfold owe oweL
  rw [tot_append, tot_append]

theorem sum_zero_of (l : List ℕ) (f : ℕ → ℕ) (h : ∀ o ∈ l, f o = 0) : (l.map f).sum = 0 := by
  induction l with
  | nil => rfl
  | cons o l ih => rw [List.map_cons, List.sum_cons, h o List.mem_cons_self, ih fun p hp => h p (List.mem_cons_of_mem _ hp)]

theorem sum_one_of (l : List ℕ) (f : ℕ → ℕ) (k n : ℕ) (hn : l.Nodup) (hk : k ∈ l) (h : ∀ o ∈ l, f o = if o = k then n else 0) : (l.map f).sum = n := by
  induction l with
  | nil => exact absurd hk (List.not_mem_nil)
  | cons o l ih =>
    rw [List.map_cons, List.sum_cons, h o List.mem_cons_self]
    have hn' := List.nodup_cons.mp hn
    by_cases e : o = k
    · subst e
      rw [if_pos rfl, sum_zero_of l f (fun p hp => by rw [h p (List.mem_cons_of_mem _ hp), if_neg]; intro e; exact hn'.1 (e ▸ hp)), Nat.add_zero]
    · rw [if_neg e, Nat.zero_add]
      exact ih hn'.2 ((List.mem_cons.mp hk).resolve_left fun e' => e e'.symm) fun p hp => h p (List.mem_cons_of_mem _ hp)

theorem ord1_range {o : ℕ} (h : o ∈ ord1) : 0 < o ∧ o < 16 := (by decide : ∀ o ∈ ord1, 0 < o ∧ o < 16) o h
theorem ord2_range {o : ℕ} (h : o ∈ ord2) : 0 < o ∧ o < 16 := (by decide : ∀ o ∈ ord2, 0 < o ∧ o < 16) o h

theorem owed_bar (c : Dev nD) : (∑ d : Dev nD, owe d ord1 ord1 ord2 (barCell c) ()) = 15 := by
  rw [owed_split, sum_zero_of ord1 (fun o => ∑ d : Dev nD, if barCell c = xCell 1 (16 - o) (sh d o) then N1 else 0) (fun o _ => sum_none _ _ fun d h => x_ne_bar h.symm),
    sum_zero_of ord2 (fun o => ∑ d : Dev nD, if barCell c = xCell 3 (16 - o) (sh d o) then N2 else 0) (fun o _ => sum_none _ _ fun d h => x_ne_bar h.symm)]
  have e : (ord1.map fun o => ∑ d : Dev nD, if barCell c = barCell (sh d o) then 1 else 0) = ord1.map fun _ => 1 :=
    List.map_congr_left fun o ho => sum_sh c o 1 (ord1_range ho).1 (ord1_range ho).2 _ fun d => ⟨fun h => (bar_inj h).symm, fun h => by rw [h]⟩
  rw [e]; rfl

theorem owed_x (j : ℕ) (n : ℕ) (l : List ℕ) (hj : j < 4) (hn : l.Nodup) (hl : ∀ o ∈ l, 0 < o ∧ o < 16) (c : Dev nD) (k : ℕ) (h0 : 0 < k) (h16 : k < 16) (hk : 16 - k ∈ l) :
    (l.map fun o => ∑ d : Dev nD, if xCell j k c = xCell j (16 - o) (sh d o) then n else 0).sum = n := by
  refine sum_one_of l _ (16 - k) n hn hk fun o ho => ?_
  have hr := hl o ho
  by_cases e : o = 16 - k
  · rw [if_pos e]
    refine sum_sh c o n hr.1 hr.2 _ fun d => ⟨fun h => ((xCell_inj hj h16 hj (by omega) h).2.2).symm, fun h => ?_⟩
    rw [h, show 16 - o = k by omega]
  · rw [if_neg e]
    refine sum_none _ _ fun d h => e ?_
    have := (xCell_inj hj h16 hj (by omega) h).2.1
    omega

theorem owed_other (j j' : ℕ) (n : ℕ) (l : List ℕ) (hj : j < 4) (hj' : j' < 4) (hne : j ≠ j') (hl : ∀ o ∈ l, 0 < o ∧ o < 16) (c : Dev nD) (k : ℕ) (h16 : k < 16) :
    (l.map fun o => ∑ d : Dev nD, if xCell j k c = xCell j' (16 - o) (sh d o) then n else 0).sum = 0 :=
  sum_zero_of l _ fun o ho => sum_none _ _ fun d h => hne (xCell_inj hj h16 hj' (by have := hl o ho; omega) h).1
theorem owed_nobar (j : ℕ) (l : List ℕ) (c : Dev nD) (k : ℕ) :
    (l.map fun o => ∑ d : Dev nD, if xCell j k c = barCell (sh d o) then 1 else 0).sum = 0 :=
  sum_zero_of l _ fun o _ => sum_none _ _ fun d h => x_ne_bar h

theorem owed_1 (c : Dev nD) (k : ℕ) (h0 : 0 < k) (h16 : k < 16) : (∑ d : Dev nD, owe d ord1 ord1 ord2 (xCell 1 k c) ()) = bankN 1 := by
  rw [owed_split, owed_nobar, owed_x 1 N1 ord1 (by decide) (by decide) (fun o h => ord1_range h) c k h0 h16
      ((by decide : ∀ k, k < 16 → 0 < k → 16 - k ∈ ord1) k h16 h0),
    owed_other 1 3 N2 ord2 (by decide) (by decide) (by decide) (fun o h => ord2_range h) c k h16]
  show 0 + (N1 + 0) = bankN 1
  rw [Nat.zero_add, Nat.add_zero]; rfl
theorem owed_3 (c : Dev nD) (k : ℕ) (h0 : 0 < k) (h16 : k < 16) : (∑ d : Dev nD, owe d ord1 ord1 ord2 (xCell 3 k c) ()) = bankN 3 := by
  rw [owed_split, owed_nobar, owed_x 3 N2 ord2 (by decide) (by decide) (fun o h => ord2_range h) c k h0 h16
      ((by decide : ∀ k, k < 16 → 0 < k → 16 - k ∈ ord2) k h16 h0),
    owed_other 3 1 N1 ord1 (by decide) (by decide) (by decide) (fun o h => ord1_range h) c k h16]
  show 0 + (0 + N2) = bankN 3
  rw [Nat.zero_add, Nat.zero_add]; rfl

theorem credit_of (g : GSem nD τ sig) (n : ℕ) (h : (∑ d : Dev nD, owe d ord1 ord1 ord2 g ()) = n) :
    tallyOn g (launchCredit (Pipeline.owing fun d => owe d ord1 ord1 ord2) 0 g) = (tallyAt g () n : CellTallies nD τ sig Unit) := by
  unfold tallyAt; refine congrArg _ (Finsupp.ext fun u => ?_); cases u
  rw [Pipeline.launchCredit_owing, Finsupp.single_eq_same, h]

/-- The semaphores launched with credit: the ready one, bank 1's and bank 3's from place 1 on. -/
def credSem (n : ℕ) : SemLoc sig := if n = 0 then .reg barS else if n < 16 then semL 1 n else semL 3 (n - 16)
def credIx : List ℕ := [0] ++ (ord1 ++ ord1.map (fun k => 16 + k))

theorem credIx_nodup : (credIx.map credSem).Nodup := by decide

theorem creds (c : Dev nD) : (Pipeline.launchCred (fun d => owe d ord1 ord1 ord2) c : sProp 𝕄)
    ⊢ iprop(cred (tallyAt (barCell c) () 15) ∗ sepL ord1 (credRes (F := F) 1 c) ∗ sepL ord1 (credRes (F := F) 3 c)) := by
  unfold Pipeline.launchCred
  refine BIBase.Entails.trans (sepL_of_bigSep (fun sm : SemLoc sig => (cred (tallyOn ((c : Thread nD τ), sm) (launchCredit (Pipeline.owing fun d => owe d ord1 ord1 ord2) 0 ((c : Thread nD τ), sm))) : sProp 𝕄))
    credSem credIx Finset.univ credIx_nodup (fun _ _ => Finset.mem_univ _)) ?_
  unfold credIx
  rw [sepL_append_eq, sepL_append_eq, sepL_map, sepL_cons, sepL_nil]
  have hb : credSem 0 = .reg barS := rfl
  rw [hb, credit_of _ 15 (owed_bar c)]
  have h1 : sepL ord1 (fun o => (cred (tallyOn ((c : Thread nD τ), credSem o) (launchCredit (Pipeline.owing fun d => owe d ord1 ord1 ord2) 0 ((c : Thread nD τ), credSem o))) : sProp 𝕄))
      = sepL ord1 (credRes (F := F) 1 c) := sepL_congr fun o ho => by
    have hr := ord1_range ho
    have e : credSem o = semL 1 o := by unfold credSem; rw [if_neg (by omega), if_pos hr.2]
    rw [e, credit_of _ _ (owed_1 c o hr.1 hr.2)]; rfl
  have h3 : sepL ord1 (fun o => (cred (tallyOn ((c : Thread nD τ), credSem (16 + o)) (launchCredit (Pipeline.owing fun d => owe d ord1 ord1 ord2) 0 ((c : Thread nD τ), credSem (16 + o)))) : sProp 𝕄))
      = sepL ord1 (credRes (F := F) 3 c) := sepL_congr fun o ho => by
    have hr := ord1_range ho
    have e : credSem (16 + o) = semL 3 o := by unfold credSem; rw [if_neg (by omega), if_neg (by omega), show 16 + o - 16 = o by omega]
    rw [e, credit_of _ _ (owed_3 c o hr.1 hr.2)]; rfl
  rw [h1, h3]
  iintro ⟨⟨H0, -⟩, H1, H3⟩
  isplitl [H0]; · iexact H0
  isplitl [H1] <;> iassumption

end Cert.Exchange

end
-- ==== Proof.Launch.lean ====
/-
The launch: what every device starts from, and the run of the whole program.
-/
module

public import Idealize.ShloMosaic.Lib.Pipeline.CollectiveSegs
public import proofs.«01_k».proof.Proof.Deal

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

def u₀ : UA := (initOf (Pipeline.cells cfgs cellOf_inj) (Pipeline.launchToks cfgs cellOf_inj), initOf allCells allToks)

/-- A device's share of what the exchange's records start as. -/
def share0 (c : Dev nD) : sProp 𝕄 :=
  iprop((bigSep Finset.univ fun i : Fin 65 => roundState ERx (exRd (inpOf m ρ)) (kcell (c, i)) 0)
    ∗ ((bigSep Finset.univ fun i : Fin 65 => atPos ERx (kcell (c, i)) 0 ∅ 0) ∗ (bigSep Finset.univ fun i : Fin 65 => reached ERx (kcell (c, i)) 0)) ∗ purse c)

/-- The records every device shares, before the levels are known. -/
def common (K : Dev nD × Fin 65 → ℕ) : sProp 𝕄 :=
  iprop((bigSep Finset.univ fun ck : Dev nD × Fin 65 => cellInv ERx (exRd (inpOf m ρ)) (K ck) (kcell ck))
    ∗ (bigSep Finset.univ fun ck : Dev nD × Fin 65 => reached ERx (kcell ck) 0))
instance common_persistent (K : Dev nD × Fin 65 → ℕ) : BI.Persistent (common m ρ K) := by unfold common; infer_instance

/-- A device's own part: its places and its tokens. -/
def part (c : Dev nD) : sProp 𝕄 := iprop((bigSep Finset.univ fun i : Fin 65 => atPos ERx (kcell (c, i)) 0 ∅ 0) ∗ purse c)
def share1 (c : Dev nD) : sProp 𝕄 := iprop(∃ K, common m ρ K ∗ part c)

theorem cells_eq (Φ : GSem nD τ sig → sProp (MT nD τ sig Unit (Elt F) ℕ UA ℕ)) :
    bigSep allCells Φ = bigSep Finset.univ fun c : Dev nD => bigSep Finset.univ fun i : Fin 65 => Φ (kcell (c, i)) := by
  unfold allCells; rw [bigSep_map, bigSep_univ_prod]; rfl

theorem toks_eq : bigSep allToks (fun x => (dutyTok ERx x.1 x.2.1 x.2.2 : sProp 𝕄)) = bigSep Finset.univ fun c : Dev nD => purse c := by
  unfold allToks; rw [bigSep_map, bigSep_univ_prod]; rfl

theorem fund_all : BI.own (ERx (initOf allCells allToks)) ⊢ (|==> bigSep Finset.univ (share0 m ρ) : sProp 𝕄) := by
  iintro HX
  imod (Rounds.fund ERx (exRd (inpOf m ρ)) allCells allToks) $$ HX with ⟨Hst, Hr, Hat, Htok⟩
  imodintro
  ihave Hst' := (Entails.of_eq (cells_eq fun g => roundState ERx (exRd (inpOf m ρ)) g 0)) $$ Hst
  ihave Hat' := (Entails.of_eq (cells_eq fun g => atPos ERx g 0 ∅ 0)) $$ Hat
  ihave Hr' := (Entails.of_eq (cells_eq fun g => reached ERx g 0)) $$ Hr
  ihave Htok' := (Entails.of_eq (toks_eq (F := F))) $$ Htok
  unfold share0; simp only [bigSep_sep']
  isplitl [Hst']; · iexact Hst'
  isplitl [Hat' Hr']
  · isplitl [Hat'] <;> iassumption
  iexact Htok'

theorem device_alloc (c : Dev nD) :
    iprop(Pipeline.ownSems0 (Ix := Unit) (Name := ℕ) (U := UA) (Lvl := ℕ) (Val := Elt F) (τ := τ) osem c ∗ unscopedSems0 c ∗ share0 m ρ c)
      ⊢ |={Set.univ}=> iprop((bigSep Finset.univ fun i : Fin 65 => iprop(∃ κ : ℕ, cellInv ERx (exRd (inpOf m ρ)) κ (kcell (c, i))))
          ∗ (bigSep Finset.univ fun i : Fin 65 => reached ERx (kcell (c, i)) 0) ∗ part c) := by
  unfold share0
  iintro ⟨Hos, Hus, Hst, ⟨Hat, Hr⟩, Htok⟩
  ihave Hv := (Entails.of_eq ((own_banks (F := F) c).trans (zeroed_row c))) $$ [Hos Hus]
  · isplitl [Hos] <;> iassumption
  imod (show iprop((bigSep Finset.univ fun i : Fin 65 => semVal (kcell (c, i)) 0) ∗ bigSep Finset.univ fun i : Fin 65 => roundState ERx (exRd (inpOf m ρ)) (kcell (c, i)) 0)
      ⊢ (|={Set.univ}=> bigSep Finset.univ fun i : Fin 65 => iprop(∃ κ : ℕ, cellInv ERx (exRd (inpOf m ρ)) κ (kcell (c, i))) : sProp 𝕄) from by
        rw [← bigSep_sep']
        exact (bigSep_mono fun i _ => (Rounds.body_intro ERx (exRd (inpOf m ρ)) (kcell (c, i))).trans inv_alloc).trans (bigSep_fupd _ _)) $$ [Hv Hst] with Hinv
  · isplitl [Hv] <;> iassumption
  imodintro
  isplitl [Hinv]; · iexact Hinv
  isplitl [Hr]; · iexact Hr
  unfold part
  isplitl [Hat] <;> iassumption

theorem with_persistent {I : Type} [DecidableEq I] {S : Finset I} {R : sProp (MT nD τ sig Unit (Elt F) ℕ UA ℕ)} [BI.Persistent R]
    {Φ Ψ : I → sProp (MT nD τ sig Unit (Elt F) ℕ UA ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share1_intro (K : Dev nD × Fin 65 → ℕ) (c : Dev nD) : iprop(common m ρ K ∗ part c) ⊢ share1 m ρ c := by
  unfold share1
  iintro H
  iexists K
  iexact H

theorem pool :
    (bigSep Finset.univ fun c : Dev nD => iprop((bigSep Finset.univ fun i : Fin 65 => iprop(∃ κ : ℕ, cellInv ERx (exRd (inpOf m ρ)) κ (kcell (c, i))))
          ∗ (bigSep Finset.univ fun i : Fin 65 => reached ERx (kcell (c, i)) 0) ∗ part c) : sProp 𝕄)
      ⊢ bigSep Finset.univ (share1 m ρ) := by
  rw [bigSep_sep', bigSep_sep', ← bigSep_univ_prod (fun ck : Dev nD × Fin 65 => iprop(∃ κ : ℕ, cellInv ERx (exRd (inpOf m ρ)) κ (kcell ck))),
    ← bigSep_univ_prod (fun ck : Dev nD × Fin 65 => (reached ERx (kcell ck) 0 : sProp 𝕄))]
  iintro ⟨HI, #HR, Hp⟩
  ihave HK := (BI.bigSep_exists_pi Finset.univ (fun (ck : Dev nD × Fin 65) (κ : ℕ) => (cellInv ERx (exRd (inpOf m ρ)) κ (kcell ck) : sProp 𝕄))) $$ HI
  icases HK with ⟨%K, #HI⟩
  iapply (with_persistent (R := common m ρ K) fun c _ => share1_intro m ρ K c)
  isplitr
  · unfold common; isplitl; · iexact HI
    iexact HR
  · iexact Hp

theorem glob : (bigSep Finset.univ fun c => iprop(Pipeline.ownSems0 (Ix := Unit) (Name := ℕ) (U := UA) (Lvl := ℕ) (Val := Elt F) (τ := τ) osem c ∗ unscopedSems0 c ∗ share0 m ρ c) : sProp 𝕄)
    ⊢ |={Set.univ}=> bigSep Finset.univ (share1 m ρ) :=
  ((bigSep_mono fun c _ => device_alloc m ρ c).trans (bigSep_fupd _ _)).trans (BI.fupd_mono (pool m ρ))

/-! ## The side conditions -/

theorem part_deal (c : Dev nD) : part (F := F) c
    ⊢ iprop((atPos ERx (barCell c) 0 ∅ 0 ∗ sepL (0 :: ord1) (posRes (F := F) 0 c) ∗ sepL (0 :: ord1) (posRes (F := F) 1 c)
        ∗ sepL (0 :: ord1) (posRes (F := F) 2 c) ∗ sepL (0 :: ord1) (posRes (F := F) 3 c))
      ∗ sepL ord1 (fun o => dutyTok ERx (barCell (sh c o)) 0 (16 - o)) ∗ sepL ord1 (dtok (F := F) c) ∗ sepL ord1 (dres (F := F) c)) := by
  have hp : (List.range 16).Perm (0 :: ord1) := by decide
  have e : (bigSep Finset.univ fun i : Fin 65 => (atPos ERx (kcell (c, i)) 0 ∅ 0 : sProp 𝕄))
      = iprop(sepL (List.range 16) (posRes (F := F) 0 c) ∗ sepL (List.range 16) (posRes (F := F) 1 c) ∗ sepL (List.range 16) (posRes (F := F) 2 c)
        ∗ sepL (List.range 16) (posRes (F := F) 3 c) ∗ atPos ERx (barCell c) 0 ∅ 0) := row_eq c (fun g => (atPos ERx g 0 ∅ 0 : sProp 𝕄))
  unfold part
  rw [e]
  iintro ⟨⟨H0, H1, H2, H3, H4⟩, Hp⟩
  ihave H0 := (sepL_perm (Φ := posRes (F := F) 0 c) hp) $$ H0
  ihave H1 := (sepL_perm (Φ := posRes (F := F) 1 c) hp) $$ H1
  ihave H2 := (sepL_perm (Φ := posRes (F := F) 2 c) hp) $$ H2
  ihave H3 := (sepL_perm (Φ := posRes (F := F) 3 c) hp) $$ H3
  isplitr [Hp]
  · isplitl [H4]; · iexact H4
    isplitl [H0]; · iexact H0
    isplitl [H1]; · iexact H1
    isplitl [H2] <;> iassumption
  · iapply (purse_deal (F := F) c); iexact Hp

theorem kit_intro (K : Dev nD × Fin 65 → ℕ) (c : Dev nD) :
    iprop((common m ρ K ∗ levAts Lx lvx) ∗ Pipeline.launchCred (fun d => owe d ord1 ord1 ord2) c ∗ part c) ⊢ kit (inpOf m ρ) K c := by
  unfold kit records common
  iintro ⟨⟨⟨H1, H2⟩, H3⟩, Hc, Hp⟩
  ihave Hc := (creds (F := F) c) $$ Hc
  ihave Hp := (part_deal (F := F) c) $$ Hp
  icases Hc with ⟨Hc1, Hc2, Hc3⟩
  icases Hp with ⟨⟨Hp0, Hp1, Hp2, Hp3, Hp4⟩, Ht1, Ht2, Ht3⟩
  isplitl [H1 H2 H3]
  · isplitl [H1]; · iexact H1
    isplitl [H2] <;> iassumption
  isplitl [Ht1]; · iexact Ht1
  isplitl [Ht2]; · iexact Ht2
  isplitl [Ht3]; · iexact Ht3
  isplitl [Hc1]; · iexact Hc1
  isplitl [Hc2]; · iexact Hc2
  isplitl [Hc3]; · iexact Hc3
  isplitl [Hp0]; · iexact Hp0
  isplitl [Hp1]; · iexact Hp1
  isplitl [Hp2]; · iexact Hp2
  isplitl [Hp3] <;> iassumption

theorem start_intro (c : Dev nD) :
    iprop(Pipeline.unscopedRestP Pipeline.Prefetch.none cfg0.spec c (fun b => m ((c : Thread nD τ).loc b)) ∗ levAts Lx lvx
        ∗ Pipeline.launchCred (fun d => owe d ord1 ord1 ord2) c ∗ prngReg c (ρ c) ∗ share1 m ρ c)
      ⊢ |={Set.univ}=> iprop(begin m ρ c ∗ emp) := by
  unfold share1
  iintro ⟨-, Hlev, Hcr, -, ⟨%K, Hk, Hp⟩⟩
  imodintro
  isplitl
  · unfold begin
    iexists K
    iapply (kit_intro m ρ K c)
    isplitl [Hk Hlev]
    · isplitl [Hk] <;> iassumption
    isplitl [Hcr] <;> iassumption
  · iempintro

theorem bnd_all {d : ℕ} : (bnd (d := d) 0 16) = Finset.univ :=
  Finset.eq_univ_iff_forall.mpr fun i => mem_bnd.mpr ⟨Nat.zero_le _, (i 0).isLt⟩

abbrev loose (c : Dev nD) : sProp 𝕄 := Pipeline.scopedRest cfg0.spec c

theorem scratch_eq (c : Dev nD) : scratch (F := F) c = loose c := by
  unfold loose
  rw [scopedRest0_eq]
  unfold scratch p6 p7 p8 p9
  rw [bnd_all, bnd_all]
  rfl

theorem phi0_intro (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl]
  unfold before₀
  iintro ⟨Hs, -, Hr⟩
  isplitl [Hs]; · iexact Hs
  iapply (Entails.of_eq (scratch_eq (F := F) c).symm); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl]
  unfold after₀
  iintro ⟨Hz, Hr⟩
  ihave Hz := (Entails.of_eq (own_banks (F := F) c).symm) $$ Hz
  icases Hz with ⟨Ho, Hu⟩
  isplitl [Hu]; · iexact Hu
  isplitl [Ho]; · iexact Ho
  iapply (Entails.of_eq (scratch_eq (F := F) c)); iexact Hr

theorem lvl_le : ∀ sm : SemLoc sig, lvl sm ≤ 3
  | .reg _ => show 1 ≤ 3 by decide
  | .dma q => by
    show (if 22 ≤ q.val ∧ q.val < 38 then 2 else if 54 ≤ q.val then 3 else 0) ≤ 3
    split
    · decide
    · split <;> decide

theorem zero_wait (c : Dev nD) (sm : SemLoc sig) : (levAts Lx lvx : sProp 𝕄) ⊢ MayWait (c : Thread nD τ) sm () (0 : CellTallies nD τ sig Unit) :=
  mayWait_of c sm [] [] [] (by decide) (by decide) 3 (lvl_le sm) (fun h => absurd rfl h) (fun h => absurd rfl h) (fun h => absurd rfl h)

theorem waits (c : Dev nD) : (levAts Lx lvx : sProp 𝕄) ⊢ Pipeline.cellsWaits cfgs (dats m ρ) () 0 c :=
  Pipeline.cellsWaits_intro cfgs (dats m ρ) () 0 c fun w s t => by
    have h0 : lvl (SemLoc.dma ((cfg0.win w).sem s)) ≤ 0 := by fin_cases w <;> fin_cases s <;> decide
    rcases t with ⟨_ | _, ht⟩
    · exact mayWait_of c _ ord1 ord1 ord2 (by decide) (by decide) 0 h0 (by decide) (by decide) (by decide)
    · exact zero_wait c _

/-! ## The run -/

def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, ∀ w : Fin cfg0.W, r.2.mem ((cfg0.win w).arr.view.loc (c : Thread nD τ)) = finalA m ρ c w

/-- From any memory with zero counters every fair run ends, with every array at its computed contents and every counter at zero. -/
theorem run_main : θ_run defs (onTc (τ := τ) (main (F := F))) (mem₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EPx defs₀ 𝒱x m ρ main
    (hmain := fun _ => rfl)
    (hbody := body_obl m ρ) (hne := block_pos0) (harr := arr_whole0) (hstage := stage_whole0) (hshare := share_eq m ρ)
    (hdistinct := winFacts0.arr_inj)
    (O₀ := fun d => owe d ord1 ord1 ord2) (howed₀ := fun _ => rfl) (howedN := fun _ => rfl)
    (L := Lx) (lv := lvx) (hL := Lx_of_ne) (hwaits := waits m ρ)
    (G := share0 m ρ) (G' := share1 m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := begin m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (hw : (cfg0.win w).isOut = false) : finalA m ρ c w = (mem₀ m ρ).mem ((cfg0.win w).arr.view.loc (c : Thread nD τ)) :=
  (dats (F := F) m ρ 0 c).arrAt_in w hw _

theorem final_out (c : Dev nD) : (win0_5.blk (0 : Fin 1)).view.read (Elt F) (finalA m ρ c (5 : Fin 6)) = outC (inpOf m ρ) c := by
  unfold finalA
  rw [show cfg0.N = ((0 : Fin 1) : Fin cfg0.N).val + 1 from rfl, (dats (F := F) m ρ 0 c).arrAt_succ (5 : Fin 6) (0 : Fin 1)]
  rw [show (cfg0.win (5 : Fin 6)).flush (0 : Fin 1) = true from by decide, if_pos rfl]
  exact View.read_write_univ _ _

end Cert.Exchange

end
-- ==== Proof.Frames.lean ====
/-
What the run leaves: the result of every device at its computed contents, the arguments as they were.
-/
module

public import proofs.«01_k».proof.Proof.Launch

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (A : Inp F) (K : Dev nD × Fin 65 → ℕ) (c : Dev nD)
variable {X O : sProp (MT nD τ sig Unit (Elt F) ℕ UA ℕ)}

variable (m : (ℓ : Loc nD τ sig) → Buf (Elt F) ℓ) (ρ : Dev nD → PrngReg)

theorem read_x (f : main_arg0.ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f
theorem read_rw (f : main_arg1.ty.Contents (Elt F)) : (win0_1.blk (0 : Fin 1)).view.read (Elt F) f = f :=
  Memref.read_access_unit_zero (Elt F) main_arg1 (show (fun a => (win0_1.index (0 : Fin 1)) a * main_arg1.ty.shape.size a) = fun _ => 0 from
    funext fun a => by fin_cases a <;> decide) (fun a => by fin_cases a <;> decide) f
theorem read_idx (f : main_arg2.ty.Contents (Elt F)) : (win0_2.blk (0 : Fin 1)).view.read (Elt F) f = f :=
  Memref.read_access_unit_zero (Elt F) main_arg2 (show (fun a => (win0_2.index (0 : Fin 1)) a * main_arg2.ty.shape.size a) = fun _ => 0 from
    funext fun a => by fin_cases a <;> decide) (fun a => by fin_cases a <;> decide) f
theorem read_ew (f : main_arg3.ty.Contents (Elt F)) : (win0_3.blk (0 : Fin 1)).view.read (Elt F) f = f :=
  Memref.read_access_unit_zero (Elt F) main_arg3 (show (fun a => (win0_3.index (0 : Fin 1)) a * main_arg3.ty.shape.size a) = fun _ => 0 from
    funext fun a => by fin_cases a <;> decide) (fun a => by fin_cases a <;> decide) f
theorem read_sw (f : main_arg4.ty.Contents (Elt F)) : (win0_4.blk (0 : Fin 1)).view.read (Elt F) f = f :=
  Memref.read_access_unit_zero (Elt F) main_arg4 (show (fun a => (win0_4.index (0 : Fin 1)) a * main_arg4.ty.shape.size a) = fun _ => 0 from
    funext fun a => by fin_cases a <;> decide) (fun a => by fin_cases a <;> decide) f
theorem read_out (f : main_v1.ty.Contents (Elt F)) : (win0_5.blk (0 : Fin 1)).view.read (Elt F) f = f :=
  Memref.read_access_unit_zero (Elt F) main_v1 (show (fun a => (win0_5.index (0 : Fin 1)) a * main_v1.ty.shape.size a) = fun _ => 0 from
    funext fun a => by fin_cases a <;> decide) (fun a => by fin_cases a <;> decide) f

theorem final_whole (c : Dev nD) : finalA m ρ c (5 : Fin 6) = outC (inpOf m ρ) c :=
  (read_out _).symm.trans (final_out m ρ c)

/-- The state a run ends in, of one device. -/
def Ends (r : PUnit × MemSt nD τ sig (Elt F)) (c : Dev nD) : Prop :=
  r.2.mem ((c : Thread nD τ).loc main_v1) = outC (inpOf m ρ) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem ends_of (r : PUnit × MemSt nD τ sig (Elt F)) (h : Final m ρ r) (c : Dev nD) : Ends m ρ r c :=
  ⟨(h c (5 : Fin 6)).trans (final_whole m ρ c),
    (h c (0 : Fin 6)).trans (final_in m ρ c (0 : Fin 6) rfl), (h c (1 : Fin 6)).trans (final_in m ρ c (1 : Fin 6) rfl),
    (h c (2 : Fin 6)).trans (final_in m ρ c (2 : Fin 6) rfl), (h c (3 : Fin 6)).trans (final_in m ρ c (3 : Fin 6) rfl),
    (h c (4 : Fin 6)).trans (final_in m ρ c (4 : Fin 6) rfl)⟩

theorem run_ends : θ_run defs (onTc (τ := τ) (main (F := F))) ⟨m, fun _ => 0, ρ⟩ (fun r => (∀ c, Ends m ρ r c) ∧ r.2.sem = fun _ => 0) :=
  (θ_run defs _ _).mono (fun r h => ⟨ends_of m ρ r h.1, h.2⟩) (run_main m ρ)

/-- What the device was given is the arguments themselves. -/
theorem inp_args (c : Dev nD) : (inpOf m ρ).x c = m ((c : Thread nD τ).loc main_arg0) ∧ (inpOf m ρ).rw c = m ((c : Thread nD τ).loc main_arg1)
    ∧ (inpOf m ρ).idx c = m ((c : Thread nD τ).loc main_arg2) ∧ (inpOf m ρ).ew c = m ((c : Thread nD τ).loc main_arg3)
    ∧ (inpOf m ρ).sw c = m ((c : Thread nD τ).loc main_arg4) :=
  ⟨read_x (F := F) (m ((c : Thread nD τ).loc main_arg0)), read_rw (F := F) (m ((c : Thread nD τ).loc main_arg1)),
    read_idx (F := F) (m ((c : Thread nD τ).loc main_arg2)), read_ew (F := F) (m ((c : Thread nD τ).loc main_arg3)), read_sw (F := F) (m ((c : Thread nD τ).loc main_arg4))⟩

end Cert.Exchange

end
-- ==== Proof.Values1.lean ====
/-
Where a token goes: the offset of its owner, its rank among the tokens of that owner, and the one-hot row of its slot.
-/
module

public import proofs.«01_k».proof.Proof.Contents
public import Idealize.ShloMosaic.Lib.Pointwise

@[expose] public section

set_option maxRecDepth 16384

noncomputable section

namespace Cert.Exchange

open Cert.KernelIdeal Cert.KernelIdeal.Gen
open Idealize.ShloMosaic

/-- Sixteen arrays of expert numbers below 64, at most 128 tokens of a device with one owner. -/
structure Good (A : Inp Ideal) (E : Dev nD → Fin 1024 → Fin 64) : Prop where
  word : ∀ c (i : Fin 1024) (k : Fin 1), A.idx c (ix2 i k) = BitVec.ofNat 32 (E c i).val
  cap : ∀ c (d : ℕ), (Finset.univ.filter fun i : Fin 1024 => (E c i).val / 4 = d).card ≤ 128

/-- How many places on from device `c` the owner of expert `e` sits. -/
def off (c : Dev nD) (e : Fin 64) : ℕ := (e.val / 4 + 16 - c.val) % 16

theorem off_lt (c : Dev nD) (e : Fin 64) : off c e < 16 := Nat.mod_lt _ (Nat.succ_pos 15)

theorem off_eq_iff (c : Dev nD) (e f : Fin 64) : off c e = off c f ↔ e.val / 4 = f.val / 4 := by
  have hc : c.val < 16 := c.isLt
  have he := e.isLt
  have hf := f.isLt
  unfold off
  omega

theorem sh_off (c : Dev nD) (e : Fin 64) : (sh c (off c e)).val = e.val / 4 := by
  have hc : c.val < 16 := c.isLt
  have he := e.isLt
  rw [sh_val]
  unfold off
  omega

/-- The rank of token `i` among the tokens before it that go the same way. -/
def rk (o : Fin 1024 → ℕ) (i : Fin 1024) : ℕ := (Finset.univ.filter fun j : Fin 1024 => j < i ∧ o j = o i).card

theorem rk_lt_of {o : Fin 1024 → ℕ} {i : Fin 1024} {n : ℕ} (h : (Finset.univ.filter fun j : Fin 1024 => o j = o i).card ≤ n) :
    rk o i < n := by
  refine lt_of_lt_of_le (Finset.card_lt_card ?_) h
  rw [Finset.ssubset_iff_of_subset (fun j hj => by simp only [Finset.mem_filter] at hj ⊢; exact ⟨hj.1, hj.2.2⟩)]
  exact ⟨i, by simp, by simp⟩

theorem rk_inj {o : Fin 1024 → ℕ} {i j : Fin 1024} (ho : o i = o j) (hr : rk o i = rk o j) : i = j := by
  have aux : ∀ a b : Fin 1024, a < b → o a = o b → rk o a < rk o b := by
    intro a b hab hab'
    refine Finset.card_lt_card ?_
    rw [Finset.ssubset_iff_of_subset (fun k hk => by
      simp only [Finset.mem_filter] at hk ⊢; exact ⟨hk.1, hk.2.1.trans hab, hk.2.2.trans hab'⟩)]
    exact ⟨a, by simp [hab, hab'], by simp⟩
  rcases lt_trichotomy i j with h | h | h
  · exact absurd hr (Nat.ne_of_lt (aux i j h ho))
  · exact h
  · exact absurd hr.symm (Nat.ne_of_lt (aux j i h ho.symm))

theorem toInt_small {n : ℕ} (hn : n < 4096) : (BitVec.ofNat 32 n).toInt = (n : ℤ) := by
  rw [BitVec.toInt_eq_toNat_cond, BitVec.toNat_ofNat, Nat.mod_eq_of_lt (by omega), if_pos (by omega)]

/-- A comparison for equality, widened and read as a number. -/
theorem hot_val (a b : BitVec 32) :
    (FloatOps.sitofp (F := Ideal) .f32 (BitVec.setWidth 32 (IntOp.cmpi .eq a b)) : EReal) = if a = b then 1 else 0 := by
  show ((((BitVec.setWidth 32 (IntOp.cmpi .eq a b)).toInt : ℤ) : ℝ) : EReal) = _
  by_cases h : a = b
  · subst h
    simp [IntOp.cmpi]
  · have h1 : IntOp.cmpi .eq a b = 0#1 := by
      have : (a == b) = false := by simpa using h
      simp [IntOp.cmpi, this]
    rw [h1, if_neg h]
    simp

theorem below_val (i j : Fin 1024) :
    (FloatOps.sitofp (F := Ideal) .f32 (BitVec.setWidth 32 (IntOp.cmpi .sgt (BitVec.ofNat 32 i.val) (BitVec.ofNat 32 j.val))) : EReal)
      = if j < i then 1 else 0 := by
  have hi := i.isLt
  have hj := j.isLt
  have e : IntOp.cmpi .sgt (BitVec.ofNat 32 i.val) (BitVec.ofNat 32 j.val) = if j < i then 1#1 else 0#1 := by
    have h1 : (BitVec.ofNat 32 i.val).toInt = i.val := toInt_small (by omega)
    have h2 : (BitVec.ofNat 32 j.val).toInt = j.val := toInt_small (by omega)
    simp only [IntOp.cmpi, BitVec.slt, h1, h2]
    by_cases h : j < i
    · have : (j.val : ℤ) < i.val := by exact_mod_cast h
      simp [h, this]
    · have : ¬ (j.val : ℤ) < i.val := by
        intro h'
        exact h (by exact_mod_cast h')
      simp [h, this]
  rw [e]
  show ((((BitVec.setWidth 32 _).toInt : ℤ) : ℝ) : EReal) = _
  by_cases h : j < i <;> simp [h]

theorem ofNat_inj {a b : ℕ} (ha : a < 4096) (hb : b < 4096) : BitVec.ofNat 32 a = BitVec.ofNat 32 b ↔ a = b := by
  constructor
  · intro h
    have := congrArg BitVec.toNat h
    rw [BitVec.toNat_ofNat, BitVec.toNat_ofNat] at this
    omega
  · rintro rfl; rfl

theorem fptosi_nat (n : ℕ) (hn : n < 4096) : Ideal.fptosi 32 ((n : ℕ) : EReal) = BitVec.ofNat 32 n := by
  have h : ((n : ℕ) : EReal) = (((n : ℝ)) : EReal) := EReal.coe_natCast.symm
  rw [Ideal.fptosi, h, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  rfl

theorem meW_val (c : Dev nD) : meW c = BitVec.ofNat 32 c.val := by
  revert c
  decide +kernel

theorem off_word (c : Fin 16) (e : Fin 64) :
    IntOp.remsi .vector (IntOp.addi (IntOp.subi (Scalar.select (IntOp.andi (IntOp.cmpi .ne
      (IntOp.subi (BitVec.setWidth 32 (IntOp.cmpi .sgt (BitVec.ofNat 32 e.val) 0#32))
        (BitVec.setWidth 32 (IntOp.cmpi .slt (BitVec.ofNat 32 e.val) 0#32)))
      (Scalar.subi (Scalar.extui (Scalar.cmpi .sgt 4#32 0#32)) (Scalar.extui (Scalar.cmpi .slt 4#32 0#32))))
      (IntOp.cmpi .ne (IntOp.remsi .vector (BitVec.ofNat 32 e.val) 4#32) 0#32))
      (IntOp.subi (IntOp.divsi .vector (BitVec.ofNat 32 e.val) 4#32) 1#32)
      (IntOp.divsi .vector (BitVec.ofNat 32 e.val) 4#32)) (BitVec.ofNat 32 c.val)) 16#32) 16#32
      = BitVec.ofNat 32 ((e.val / 4 + 16 - c.val) % 16) := by
  revert c e
  decide +kernel

theorem local_word (e : Fin 64) : IntOp.remsi .vector (BitVec.ofNat 32 e.val) 4#32 = BitVec.ofNat 32 (e.val % 4) := by
  revert e
  decide +kernel

variable {A : Inp Ideal} {E : Dev nD → Fin 1024 → Fin 64}

theorem idxC_val (H : Good A E) (c : Dev nD) (i : Fin 1024) (k : Fin 1) : idxC A c (ix2 i k) = BitVec.ofNat 32 (E c i).val := by
  unfold idxC
  unfold_payloads
  pointwise
  exact H.word c i k

theorem qC_val (H : Good A E) (c : Dev nD) (i : Fin 1024) (k : Fin 1) : qC A c (ix2 i k) = BitVec.ofNat 32 (off c (E c i)) := by
  unfold qC
  unfold_payloads
  pointwise
  rw [idxC_val H, meW_val]
  exact off_word c (E c i)

theorem localC_val (H : Good A E) (c : Dev nD) (i : Fin 1024) (k : Fin 1) :
    localC A c (ix2 i k) = BitVec.ofNat 32 ((E c i).val % 4) := by
  unfold localC
  unfold_payloads
  pointwise
  rw [idxC_val H]
  exact local_word (E c i)

theorem hotC_val (H : Good A E) (c : Dev nD) (i : Fin 1024) (k : Fin 16) :
    (FloatOps.sitofp (F := Ideal) .f32 (hotC A c (ix2 i k)) : EReal) = if off c (E c i) = k.val then 1 else 0 := by
  have h : hotC A c (ix2 i k) = BitVec.setWidth 32 (IntOp.cmpi .eq (BitVec.ofNat 32 k.val) (qC A c (ix2 i 0))) := by
    unfold hotC k0_pay7
    pointwise
    rfl
  have hk := k.isLt
  have ho := off_lt c (E c i)
  rw [h, hot_val, qC_val H]
  simp only [ofNat_inj (show k.val < 4096 by omega) (show off c (E c i) < 4096 by omega), eq_comm]

/-- The rank of a token of device `c` among those with its owner. -/
def rank (E : Dev nD → Fin 1024 → Fin 64) (c : Dev nD) (i : Fin 1024) : ℕ := rk (fun j => off c (E c j)) i

theorem rank_lt (H : Good A E) (c : Dev nD) (i : Fin 1024) : rank E c i < 128 := by
  refine rk_lt_of (le_trans (le_of_eq ?_) (H.cap c ((E c i).val / 4)))
  simp only [off_eq_iff]

theorem cum_val (o : Fin 1024 → ℕ) (i : Fin 1024) (k : Fin 16) :
    (∑ j : Fin 1024, (if j < i then (1 : EReal) else 0) * (if o j = k.val then 1 else 0))
      = ((Finset.univ.filter fun j : Fin 1024 => j < i ∧ o j = k.val).card : EReal) := by
  rw [← Finset.sum_boole]
  refine Finset.sum_congr rfl fun j _ => ?_
  by_cases h1 : j < i <;> by_cases h2 : o j = k.val <;> simp [h1, h2]

theorem pos_val (o : Fin 1024 → ℕ) (ho : ∀ i, o i < 16) (i : Fin 1024) :
    (∑ k : Fin 16, (if o i = k.val then (1 : EReal) else 0) * ∑ j : Fin 1024, (if j < i then (1 : EReal) else 0) * (if o j = k.val then 1 else 0))
      = ((rk o i : ℕ) : EReal) := by
  simp only [cum_val]
  rw [Finset.sum_eq_single (⟨o i, ho i⟩ : Fin 16)]
  · rw [if_pos rfl, one_mul]
    rfl
  · intro k _ hk
    rw [if_neg (fun h => hk (Fin.ext h.symm)), zero_mul]
  · intro h
    exact absurd (Finset.mem_univ _) h

/-- The one-hot row of a token marks its slot. -/
theorem pC_val (H : Good A E) (c : Dev nD) (i : Fin 1024) (s : Fin 2048) :
    pC A c (ix2 i s) = if s.val = off c (E c i) * 128 + rank E c i then (1 : EReal) else 0 := by
  unfold pC
  unfold_payloads
  pointwise
  simp only [hotC_val H, below_val, qC_val H]
  rw [pos_val (fun j => off c (E c j)) (fun j => off_lt _ _)]
  have hr : rk (fun j => off c (E c j)) i < 128 := rank_lt H c i
  have ho := off_lt c (E c i)
  have hs := s.isLt
  have hf : FloatOps.fptosi (F := Ideal) (φ := .f32) 32 ((rk (fun j => off c (E c j)) i : ℕ) : EReal)
      = BitVec.ofNat 32 (rk (fun j => off c (E c j)) i) := fptosi_nat _ (by omega)
  rw [hf, hot_val]
  have hlt : IntOp.cmpi .slt (BitVec.ofNat 32 (rk (fun j => off c (E c j)) i)) 128#32 = 1#1 := by
    have h1 : (BitVec.ofNat 32 (rk (fun j => off c (E c j)) i)).toInt = (rk (fun j => off c (E c j)) i : ℤ) := toInt_small (by omega)
    have h2 : ((rk (fun j => off c (E c j)) i : ℕ) : ℤ) < 128 := by exact_mod_cast hr
    simp [IntOp.cmpi, BitVec.slt, h1, h2]
  rw [hlt]
  have hw : Scalar.select 1#1 (IntOp.addi (IntOp.muli (BitVec.ofNat 32 (off c (E c i))) 128#32)
      (BitVec.ofNat 32 (rk (fun j => off c (E c j)) i))) 4294967295#32
      = BitVec.ofNat 32 (off c (E c i) * 128 + rank E c i) := by
    show BitVec.ofNat 32 (off c (E c i)) * BitVec.ofNat 32 128 + BitVec.ofNat 32 (rank E c i) = _
    rw [← BitVec.ofNat_mul, ← BitVec.ofNat_add]
  have hr' : rank E c i < 128 := hr
  rw [hw]
  simp only [ofNat_inj (show s.val < 4096 by omega) (show off c (E c i) * 128 + rank E c i < 4096 by omega)]

end Cert.Exchange

end
-- ==== Proof.Values2.lean ====
/-
What comes back to a token's slot: its row of `x` times the weights of its expert.
-/
module

public import proofs.«01_k».proof.Proof.Values1

@[expose] public section

set_option maxRecDepth 16384

noncomputable section

namespace Cert.Exchange

open Cert.KernelIdeal Cert.KernelIdeal.Gen
open Idealize.ShloMosaic

theorem at3_eq {d : ℕ} (k : ℕ) (a : Fin 128) (b : Fin d) :
    at3 k a b = ix3 (⟨k % 16, Nat.mod_lt _ (Nat.succ_pos 15)⟩ : Fin 16) a b := rfl

/-- A group's element is the whole's. -/
theorem grp_val {α : Type} {d : ℕ} (lo n : ℕ) (f : (⟨3, ![16, 128, d]⟩ : Shape).Idx → α) (k : Fin n) (a : Fin 128) (b : Fin d) :
    grp lo n f (ix3 k a b) = f (at3 (lo + k.val) a b) := rfl

/-- If each of three groups agrees with `g` on its slots, so does the whole. -/
theorem cat3_val {α : Type} {d n0 n1 n2 : ℕ} (f0 : (⟨3, ![n0, 128, d]⟩ : Shape).Idx → α) (f1 : (⟨3, ![n1, 128, d]⟩ : Shape).Idx → α)
    (f2 : (⟨3, ![n2, 128, d]⟩ : Shape).Idx → α) (hn : 16 ≤ n0 + n1 + n2) (g : ℕ → Fin 128 → Fin d → α)
    (h0 : ∀ (k : Fin n0) a b, f0 (ix3 k a b) = g k.val a b) (h1 : ∀ (k : Fin n1) a b, f1 (ix3 k a b) = g (n0 + k.val) a b)
    (h2 : ∀ (k : Fin n2) a b, f2 (ix3 k a b) = g (n0 + n1 + k.val) a b) (k : ℕ) (hk : k < 16) (a : Fin 128) (b : Fin d) :
    cat3 f0 f1 f2 hn (at3 k a b) = g k a b := by
  have hm : k % 16 = k := Nat.mod_eq_of_lt hk
  have e0 : ((at3 k a b : (⟨3, ![16, 128, d]⟩ : Shape).Idx) 0).val = k := hm
  unfold cat3
  by_cases c0 : k < n0
  · rw [dif_pos (by rw [e0]; exact c0)]
    refine (h0 ⟨_, _⟩ a b).trans ?_
    show g ((at3 k a b : (⟨3, ![16, 128, d]⟩ : Shape).Idx) 0).val a b = _
    rw [e0]
  · rw [dif_neg (by rw [e0]; exact c0)]
    by_cases c1 : k - n0 < n1
    · rw [dif_pos (by rw [e0]; exact c1)]
      refine (h1 ⟨_, _⟩ a b).trans ?_
      show g (n0 + (((at3 k a b : (⟨3, ![16, 128, d]⟩ : Shape).Idx) 0).val - n0)) a b = _
      rw [e0]
      congr 1
      omega
    · rw [dif_neg (by rw [e0]; exact c1)]
      refine (h2 ⟨_, _⟩ a b).trans ?_
      show g (n0 + n1 + (((at3 k a b : (⟨3, ![16, 128, d]⟩ : Shape).Idx) 0).val - n0 - n1)) a b = _
      rw [e0]
      congr 1
      omega

theorem at3_cong {d : ℕ} {k l : ℕ} (h : k % 16 = l % 16) (a : Fin 128) (b : Fin d) : at3 k a b = at3 l a b := by
  unfold at3
  simp only [h]

variable (A : Inp Ideal)

/-- What slot `o` of device `c` has arrived with at the other end. -/
theorem recv_at (c : Dev nD) (o : ℕ) (ho : o < 16) (p : Fin 128) (b : Fin 384) :
    recvC A (sh c o) (at3 (16 - o) p b) = dispC A c (at3 o p b) := by
  have hc : c.val < 16 := c.isLt
  unfold recvC
  have e0 : ((at3 (16 - o) p b : (⟨3, ![16, 128, 384]⟩ : Shape).Idx) 0).val = (16 - o) % 16 := rfl
  by_cases h : o = 0
  · subst h
    rw [if_pos e0]
    have hs : sh c 0 = c := Fin.ext (by rw [sh_val]; omega)
    rw [hs]
    unfold_payloads
    pointwise
    rfl
  · have e1 : ((at3 (16 - o) p b : (⟨3, ![16, 128, 384]⟩ : Shape).Idx) 0).val = 16 - o := e0.trans (Nat.mod_eq_of_lt (by omega))
    rw [if_neg (by rw [e1]; omega), e1, sh_sh (by omega)]
    exact congrArg (dispC A c) (at3_cong (by omega) p b)

/-- What slot `o` of device `c` comes back with. -/
theorem back_at (c : Dev nD) (o : ℕ) (ho : o < 16) (p : Fin 128) (h : Fin 512) :
    backC A c (at3 o p h) = retC A (sh c o) (at3 (16 - o) p h) := by
  have hc : c.val < 16 := c.isLt
  unfold backC
  have e0 : ((at3 o p h : (⟨3, ![16, 128, 512]⟩ : Shape).Idx) 0).val = o := Nat.mod_eq_of_lt ho
  by_cases h0 : o = 0
  · subst h0
    rw [if_pos e0]
    have hs : sh c 0 = c := Fin.ext (by rw [sh_val]; omega)
    rw [hs]
    refine Eq.trans (b := grp 0 1 (retC A c) (ix3 (0 : Fin 1) p h)) ?_ ?_
    · unfold_payloads
      pointwise
      rfl
    · exact congrArg (retC A c) (at3_cong (by simp) p h)
  · rw [if_neg (by rw [e0]; exact h0), e0]
    rfl

/-- The four experts of a device applied to one row, each weighted by the row's mark for it. -/
def four (w : Fin 384 → EReal) (v : Fin 4 → Fin 256 → EReal) : EReal :=
  w 256 * (∑ k : Fin 256, w ⟨k.val, by omega⟩ * v 0 k) + w 257 * (∑ k : Fin 256, w ⟨k.val, by omega⟩ * v 1 k)
    + w 258 * (∑ k : Fin 256, w ⟨k.val, by omega⟩ * v 2 k) + w 259 * (∑ k : Fin 256, w ⟨k.val, by omega⟩ * v 3 k)

theorem ewC_val (c : Dev nD) (j : Fin 4) (k : Fin 256) (h : Fin 512) : ewC A c (ix3 j k h) = A.ew c (ix3 j k h) := by
  unfold ewC
  unfold_payloads
  pointwise

theorem ret_val (d : Dev nD) (s : ℕ) (hs : s < 16) (p : Fin 128) (h : Fin 512) :
    retC A d (at3 s p h) = four (fun b => recvC A d (at3 s p b)) (fun j k => A.ew d (ix3 j k h)) := by
  unfold retC
  refine cat3_val _ _ _ _ (fun s p h => four (fun b => recvC A d (at3 s p b)) (fun j k => A.ew d (ix3 j k h))) ?_ ?_ ?_ s hs p h
  · intro k a b
    unfold_payloads
    pointwise
    simp only [ewC_val]
    obtain rfl : k = 0 := Subsingleton.elim _ _
    rfl
  · intro k a b
    unfold_payloads
    pointwise
    simp only [ewC_val]
    rfl
  · intro k a b
    unfold_payloads
    pointwise
    simp only [ewC_val]
    rfl

variable {A} {E : Dev nD → Fin 1024 → Fin 64}

theorem slot_lt (H : Good A E) (c : Dev nD) (i : Fin 1024) : off c (E c i) * 128 + rank E c i < 2048 := by
  have := off_lt c (E c i)
  have := rank_lt H c i
  omega

/-- The row sent out in the slot of token `i` is the token's. -/
theorem disp_slot (H : Good A E) (c : Dev nD) (i : Fin 1024) (b : Fin 384) :
    dispC A c (at3 (off c (E c i)) ⟨rank E c i, rank_lt H c i⟩ b) = augC A c (ix2 i b) := by
  have key : ∀ (k : ℕ) (hk : k < 16) (p : Fin 128) (b : Fin 384), dispC A c (at3 k p b)
      = ∑ j : Fin 1024, (if k * 128 + p.val = off c (E c j) * 128 + rank E c j then (1 : EReal) else 0) * augC A c (ix2 j b) := by
    intro k hk p b
    unfold dispC
    refine cat3_val _ _ _ _ (fun k p b => ∑ j : Fin 1024,
      (if k * 128 + p.val = off c (E c j) * 128 + rank E c j then (1 : EReal) else 0) * augC A c (ix2 j b)) ?_ ?_ ?_ k hk p b
    · intro k p b
      unfold k0_pay12
      pointwise
      simp only [pC_val H]
    · intro k p b
      unfold k0_pay10
      pointwise
      have e : ∀ (j : Fin 1024) (s : Fin 2048), k0_pay8 (F := Ideal) (qC A c) (hotC A c) (ix2 j s)
          = if s.val = off c (E c j) * 128 + rank E c j then (1 : EReal) else 0 := pC_val H c
      simp only [e]
      refine Finset.sum_congr rfl fun j _ => ?_
      have e' : k0_pay9 (F := Ideal) (xC A c) (localC A c) = augC A c := rfl
      rw [e']
      congr 2
      apply propext
      constructor <;> intro h <;> omega
    · intro k p b
      unfold k0_pay11
      pointwise
      simp only [pC_val H]
      refine Finset.sum_congr rfl fun j _ => ?_
      congr 2
      apply propext
      constructor <;> intro h <;> omega
  rw [key _ (off_lt _ _)]
  rw [Finset.sum_eq_single i]
  · rw [if_pos rfl, one_mul]
  · intro j _ hj
    rw [if_neg, zero_mul]
    intro h
    have h1 := rank_lt H c i
    have h2 := rank_lt H c j
    have h' : off c (E c i) * 128 + rank E c i = off c (E c j) * 128 + rank E c j := h
    have h3 : off c (E c i) = off c (E c j) := by omega
    have h4 : rank E c i = rank E c j := by omega
    exact hj (rk_inj (o := fun j => off c (E c j)) h3.symm h4.symm)
  · intro h
    exact absurd (Finset.mem_univ _) h

theorem aug_x (c : Dev nD) (i : Fin 1024) (k : Fin 256) : augC A c (ix2 i ⟨k.val, by omega⟩) = A.x c (ix2 i k) := by
  unfold augC k0_pay9
  pointwise
  unfold xC
  unfold_payloads
  pointwise

theorem aug_mark (H : Good A E) (c : Dev nD) (i : Fin 1024) (j : Fin 4) :
    augC A c (ix2 i ⟨256 + j.val, by omega⟩) = if j.val = (E c i).val % 4 then (1 : EReal) else 0 := by
  unfold augC k0_pay9
  pointwise
  have hj := j.isLt
  have he := (E c i).isLt
  rw [localC_val H, hot_val]
  simp only [ofNat_inj (show j.val < 4096 by omega) (show (E c i).val % 4 < 4096 by omega)]

/-- A row marked for one expert meets that expert only. -/
theorem four_mark (w : Fin 384 → EReal) (v : Fin 4 → Fin 256 → EReal) (x : Fin 256 → EReal) (j : Fin 4)
    (hx : ∀ k : Fin 256, w ⟨k.val, by omega⟩ = x k) (hm : ∀ l : Fin 4, w ⟨256 + l.val, by omega⟩ = if l.val = j.val then 1 else 0) :
    four w v = ∑ k : Fin 256, x k * v j k := by
  have m0 : w 256 = if (0 : ℕ) = j.val then 1 else 0 := hm 0
  have m1 : w 257 = if (1 : ℕ) = j.val then 1 else 0 := hm 1
  have m2 : w 258 = if (2 : ℕ) = j.val then 1 else 0 := hm 2
  have m3 : w 259 = if (3 : ℕ) = j.val then 1 else 0 := hm 3
  unfold four
  simp only [m0, m1, m2, m3, hx]
  match j with
  | ⟨0, _⟩ => simp
  | ⟨1, _⟩ => simp
  | ⟨2, _⟩ => simp
  | ⟨3, _⟩ => simp

/-- What comes back in the slot of token `i`. -/
theorem back_slot (H : Good A E) (c : Dev nD) (i : Fin 1024) (h : Fin 512) :
    backC A c (at3 (off c (E c i)) ⟨rank E c i, rank_lt H c i⟩ h)
      = ∑ k : Fin 256, A.x c (ix2 i k) * A.ew (sh c (off c (E c i))) (ix3 (⟨(E c i).val % 4, Nat.mod_lt _ (by decide)⟩ : Fin 4) k h) := by
  have ho := off_lt c (E c i)
  rw [back_at A c _ ho, at3_cong (l := (16 - off c (E c i)) % 16) (by omega), ret_val A _ _ (Nat.mod_lt _ (by decide))]
  refine four_mark _ _ (fun k => A.x c (ix2 i k)) ⟨(E c i).val % 4, Nat.mod_lt _ (by decide)⟩ ?_ ?_
  · intro k
    rw [at3_cong (l := 16 - off c (E c i)) (by omega), recv_at A c _ ho, disp_slot H, aug_x]
  · intro l
    rw [at3_cong (l := 16 - off c (E c i)) (by omega), recv_at A c _ ho, disp_slot H, aug_mark H]

end Cert.Exchange

end
-- ==== Proof.Values3.lean ====
/-
The kernel's result at a token: the shared part, and the token's share of its own expert.
-/
module

public import proofs.«01_k».proof.Proof.Values2

@[expose] public section

set_option maxRecDepth 16384

noncomputable section

namespace Cert.Exchange

open Cert.KernelIdeal Cert.KernelIdeal.Gen
open Idealize.ShloMosaic

/-- The softmax of 64 scores at one of them. -/
def soft (t : Fin 64 → EReal) (e : Fin 64) : EReal :=
  Ideal.div (Ideal.exp (t e - Finset.fold max (Ideal.ofBits .f32 0xFF800000#32) t Finset.univ))
    (∑ l : Fin 64, Ideal.exp (t l - Finset.fold max (Ideal.ofBits .f32 0xFF800000#32) t Finset.univ))

variable {A : Inp Ideal} {E : Dev nD → Fin 1024 → Fin 64}

theorem scoreC_val (c : Dev nD) (i : Fin 1024) (l : Fin 64) :
    scoreC A c (ix2 i l) = Ideal.exp ((∑ k : Fin 256, A.x c (ix2 i k) * A.rw c (ix2 k l))
      - Finset.fold max (Ideal.ofBits .f32 0xFF800000#32) (fun l => ∑ k : Fin 256, A.x c (ix2 i k) * A.rw c (ix2 k l)) Finset.univ) := by
  unfold scoreC
  unfold_payloads
  pointwise [dot_S1024x256_S256x64_S1024x64_1_0_0_1_n_n]

theorem probC_val (H : Good A E) (c : Dev nD) (i : Fin 1024) (k : Fin 1) :
    probC A c (ix2 i k) = soft (fun l => ∑ k : Fin 256, A.x c (ix2 i k) * A.rw c (ix2 k l)) (E c i) := by
  unfold probC k0_pay4
  pointwise
  simp only [hot_val, idxC_val H, scoreC_val]
  rw [Finset.sum_eq_single (E c i)]
  · rw [if_pos rfl, mul_one]
    rfl
  · intro l _ hl
    have h1 := l.isLt
    have h2 := (E c i).isLt
    rw [if_neg, mul_zero]
    rw [ofNat_inj (by omega) (by omega)]
    exact fun h => hl (Fin.ext h)
  · intro h
    exact absurd (Finset.mem_univ _) h

theorem out_val (H : Good A E) (c : Dev nD) (i : Fin 1024) (h : Fin 512) :
    outC A c (ix2 i h) = (∑ k : Fin 256, A.x c (ix2 i k) * A.sw c (ix2 k h))
      + soft (fun l => ∑ k : Fin 256, A.x c (ix2 i k) * A.rw c (ix2 k l)) (E c i)
        * ∑ k : Fin 256, A.x c (ix2 i k)
            * A.ew (sh c (off c (E c i))) (ix3 (⟨(E c i).val % 4, Nat.mod_lt _ (by decide)⟩ : Fin 4) k h) := by
  unfold outC k0_pay34
  pointwise
  rw [probC_val H]
  have hs : sharedC A c (ix2 i h) = ∑ k : Fin 256, A.x c (ix2 i k) * A.sw c (ix2 k h) := by
    unfold sharedC xC
    unfold_payloads
    pointwise
  rw [hs]
  congr 2
  simp only [pC_val H]
  have hr := rank_lt H c i
  have hsl := slot_lt H c i
  rw [Finset.sum_eq_single (⟨off c (E c i) * 128 + rank E c i, hsl⟩ : Fin 2048)]
  · rw [if_pos rfl, one_mul, ← back_slot H c i h, at3_eq]
    have ho := off_lt c (E c i)
    congr 2
    · apply Fin.ext
      show (off c (E c i) * 128 + rank E c i) / 128 = off c (E c i) % 16
      omega
    · apply Fin.ext
      show (off c (E c i) * 128 + rank E c i) % 128 = rank E c i
      omega
  · intro s _ hn
    rw [if_neg (fun h' => hn (Fin.ext h')), zero_mul]
  · intro h'
    exact absurd (Finset.mem_univ _) h'

end Cert.Exchange

end
-- ==== Proof.RefVal.lean ====
/-
The reference's result at a token.
-/
module

public import proofs.«01_k».proof.Proof.Gen.ReferenceIdeal
public import proofs.«01_k».proof.Proof.Gen.ReferenceIdeal.Run
public import proofs.«01_k».proof.Proof.Values3
public import Idealize.ShloMosaic.Lib.WordCmp

@[expose] public section

set_option maxRecDepth 16384

noncomputable section

namespace Cert.Exchange

open Cert.ReferenceIdeal Cert.ReferenceIdeal.Gen
open Idealize.ShloMosaic Idealize.ShloMosaic.WordCmp

/-- The probability row's entry that the expert number names. -/
theorem pick_val (x : FVec Ideal S16384x64 .f32) (idx : IVec S16384x1x1 32) (e : Fin 64) (r : Fin 16384)
    (h : idx (ix3 r 0 0) = BitVec.ofNat 32 e.val) :
    Host.gather gather_S16384x64_S16384x1x1_S16384x1_n_1_0_0_1_2_11 x idx (ix2 r 0) = x (ix2 r e) := by
  unfold Host.gather
  congr 1
  funext a
  refine Fin.ext ?_
  show GatherDims.start _ (ix2 r 0) idx a + GatherDims.batchCoord _ (ix2 r 0) a + GatherDims.offCoord _ (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x64_S16384x1x1_S16384x1_n_1_0_0_1_2_11.operandBatchingDims from List.mem_singleton.mpr rfl)]
    rfl
  · rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x64_S16384x1x1_S16384x1_n_1_0_0_1_2_11.startIndexMap from List.mem_singleton.mpr rfl)]
    have hsi : gather_S16384x64_S16384x1x1_S16384x1_n_1_0_0_1_2_11.siIdx (ix2 r 0)
        ⟨List.idxOf (1 : Fin 2) [(1 : Fin 2)], List.idxOf_lt_length_iff.2 (List.mem_singleton.mpr rfl)⟩ = ix3 r 0 0 := by
      funext b
      refine Fin.ext ?_
      match b with
      | ⟨0, _⟩ => rfl
      | ⟨1, _⟩ => rfl
      | ⟨2, _⟩ => rfl
    have he := e.isLt
    have ht : (BitVec.ofNat 32 e.val).toInt.toNat = e.val := by rw [toInt_small (by omega)]; rfl
    refine (congrArg (fun w : BitVec 32 => min w.toInt.toNat 63) ((congrArg idx hsi).trans h)).trans ?_
    show min (BitVec.ofNat 32 e.val).toInt.toNat 63 = e.val
    rw [ht]
    omega

/-- The expert's weights that the expert number names. -/
theorem take_val (x : FVec Ideal S64x256x512 .f32) (idx : IVec S16384x1 32) (e : Fin 64) (r : Fin 16384) (k : Fin 256) (l : Fin 512)
    (h : idx (ix2 r 0) = BitVec.ofNat 32 e.val) :
    Host.gather gather_S64x256x512_S16384x1_S16384x256x512_12_0_n_n_0_1_1256512 x idx (ix3 r k l) = x (ix3 e k l) := by
  unfold Host.gather
  congr 1
  funext a
  refine Fin.ext ?_
  show GatherDims.start _ (ix3 r k l) idx a + GatherDims.batchCoord _ (ix3 r k l) a + GatherDims.offCoord _ (ix3 r k l) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x256x512_S16384x1_S16384x256x512_12_0_n_n_0_1_1256512.startIndexMap from List.mem_singleton.mpr rfl)]
    have hsi : gather_S64x256x512_S16384x1_S16384x256x512_12_0_n_n_0_1_1256512.siIdx (ix3 r k l)
        ⟨List.idxOf (0 : Fin 3) [(0 : Fin 3)], List.idxOf_lt_length_iff.2 (List.mem_singleton.mpr rfl)⟩ = ix2 r 0 := by
      funext b
      refine Fin.ext ?_
      match b with
      | ⟨0, _⟩ => rfl
      | ⟨1, _⟩ => rfl
    have he := e.isLt
    have ht : (BitVec.ofNat 32 e.val).toInt.toNat = e.val := by rw [toInt_small (by omega)]; rfl
    refine (congrArg (fun w : BitVec 32 => min w.toInt.toNat 63) ((congrArg idx hsi).trans h)).trans ?_
    show min (BitVec.ofNat 32 e.val).toInt.toNat 63 = e.val
    rw [ht]
    omega
  · unfold GatherDims.start
    rw [dif_neg (show (1 : Fin 3) ∉ gather_S64x256x512_S16384x1_S16384x256x512_12_0_n_n_0_1_1256512.startIndexMap from (by decide : (1 : Fin 3) ∉ [(0 : Fin 3)]))]
    unfold GatherDims.offCoord
    rw [dif_pos ((GatherDims.mem_sKept _ _).mpr ⟨(show (1 : Fin 3) ∉ [(0 : Fin 3)] by decide), List.not_mem_nil⟩)]
    simp only [Nat.zero_add]
    rfl
  · unfold GatherDims.start
    rw [dif_neg (show (2 : Fin 3) ∉ gather_S64x256x512_S16384x1_S16384x256x512_12_0_n_n_0_1_1256512.startIndexMap from (by decide : (2 : Fin 3) ∉ [(0 : Fin 3)]))]
    unfold GatherDims.offCoord
    rw [dif_pos ((GatherDims.mem_sKept _ _).mpr ⟨(show (2 : Fin 3) ∉ [(0 : Fin 3)] by decide), List.not_mem_nil⟩)]
    simp only [Nat.zero_add]
    rfl

/-- The reference's router scores. -/
def refD (a0 : FVec Ideal S16384x256 .bf16) (a1 : FVec Ideal S256x64 .bf16) : FVec Ideal S16384x64 .f32 :=
  Host.dotGeneral dot_S16384x256_S256x64_S16384x64_1_0_0_1_n_n none (extf .f32 a0 bitsLt_bf16_f32) (extf .f32 a1 bitsLt_bf16_f32)

/-- The exponentials of the scores, each less its row's largest. -/
def refX (a0 : FVec Ideal S16384x256 .bf16) (a1 : FVec Ideal S256x64 .bf16) : FVec Ideal S16384x64 .f32 :=
  Host.exp (subf (refD a0 a1) (broadcastInDim S16384x64 ![0, 1] bcast_S16384x1_S16384x64_0_1
    (broadcastInDim S16384x1 ![0] bcast_S16384_S16384x1_0
      (Host.reduce FloatOps.maximumf (refD a0 a1) (constant S_ .f32 0xFF800000#32) reducesTo_S16384x64_S16384_d1 h_S_))))

/-- The reference's probabilities. -/
def refP (a0 : FVec Ideal S16384x256 .bf16) (a1 : FVec Ideal S256x64 .bf16) : FVec Ideal S16384x64 .f32 :=
  Host.divf (refX a0 a1) (broadcastInDim S16384x64 ![0, 1] bcast_S16384x1_S16384x64_0_1
    (broadcastInDim S16384x1 ![0] bcast_S16384_S16384x1_0
      (Host.reduceAdd (refX a0 a1) (constant S_ .f32 0x00000000#32) reducesTo_S16384x64_S16384_d1 h_S_)))

/-- The expert numbers, a negative one counted from the end. -/
def refI (a2 : IVec S16384x1 32) : IVec S16384x1x1 32 :=
  shapeCast S16384x1x1 (select (cmpi .slt a2 (broadcastInDim S16384x1 ![] bcast_S_S16384x1 (constantI S_ 32 0#32)))
    (addi a2 (broadcastInDim S16384x1 ![] bcast_S_S16384x1 (constantI S_ 32 64#32))) a2) shapeCasts_S16384x1_S16384x1x1

/-- The reference's result as a function of its five arguments. -/
def refV (a0 : FVec Ideal S16384x256 .bf16) (a1 : FVec Ideal S256x64 .bf16) (a2 : IVec S16384x1 32) (a3 : FVec Ideal S64x256x512 .bf16)
    (a4 : FVec Ideal S256x512 .bf16) : FVec Ideal S16384x512 .f32 :=
  addf (Host.dotGeneral dot_S16384x256_S256x512_S16384x512_1_0_0_1_n_n none (extf .f32 a0 bitsLt_bf16_f32) (extf .f32 a4 bitsLt_bf16_f32))
    (mulf (broadcastInDim S16384x512 ![0, 1] bcast_S16384x1_S16384x512_0_1
        (Host.gather gather_S16384x64_S16384x1x1_S16384x1_n_1_0_0_1_2_11 (refP a0 a1) (refI a2)))
      (Host.dotGeneral dot_S16384x256_S16384x256x512_S16384x512_1_1_n_2_0_0 none (extf .f32 a0 bitsLt_bf16_f32)
        (Host.gather gather_S64x256x512_S16384x1_S16384x256x512_12_0_n_n_0_1_1256512 (extf .f32 a3 bitsLt_bf16_f32)
          (broadcastInDim S16384x1 ![0] bcast_S16384_S16384x1_0 (shapeCast S16384 a2 shapeCasts_S16384x1_S16384)))))

theorem refX_val (a0 : FVec Ideal S16384x256 .bf16) (a1 : FVec Ideal S256x64 .bf16) (r : Fin 16384) (l : Fin 64) :
    refX a0 a1 (ix2 r l) = Ideal.exp ((∑ k : Fin 256, a0 (ix2 r k) * a1 (ix2 k l))
      - Finset.fold max (Ideal.ofBits .f32 0xFF800000#32) (fun l => ∑ k : Fin 256, a0 (ix2 r k) * a1 (ix2 k l)) Finset.univ) := by
  unfold refX refD
  pointwise

theorem refP_val (a0 : FVec Ideal S16384x256 .bf16) (a1 : FVec Ideal S256x64 .bf16) (r : Fin 16384) (e : Fin 64) :
    refP a0 a1 (ix2 r e) = soft (fun l => ∑ k : Fin 256, a0 (ix2 r k) * a1 (ix2 k l)) e := by
  unfold refP
  pointwise
  simp only [refX_val]
  rfl

theorem refI_val (a2 : IVec S16384x1 32) (r : Fin 16384) (e : Fin 64) (he : a2 (ix2 r 0) = BitVec.ofNat 32 e.val) :
    refI a2 (ix3 r 0 0) = BitVec.ofNat 32 e.val := by
  have hl := e.isLt
  unfold refI
  pointwise
  rw [he]
  refine if_neg ?_
  show ¬ (IntOp.cmpi .slt (BitVec.ofNat 32 e.val) 0#32 = 1#1)
  rw [cmpi_slt_ofNat (by omega) (by decide), decide_eq_false (by omega)]
  decide

theorem ref_val (a0 : FVec Ideal S16384x256 .bf16) (a1 : FVec Ideal S256x64 .bf16) (a2 : IVec S16384x1 32) (a3 : FVec Ideal S64x256x512 .bf16)
    (a4 : FVec Ideal S256x512 .bf16) (r : Fin 16384) (e : Fin 64) (he : a2 (ix2 r 0) = BitVec.ofNat 32 e.val) (h : Fin 512) :
    refV a0 a1 a2 a3 a4 (ix2 r h) = (∑ k : Fin 256, a0 (ix2 r k) * a4 (ix2 k h))
      + soft (fun l => ∑ k : Fin 256, a0 (ix2 r k) * a1 (ix2 k l)) e * ∑ k : Fin 256, a0 (ix2 r k) * a3 (ix3 e k h) := by
  have hi : (broadcastInDim S16384x1 ![0] bcast_S16384_S16384x1_0 (shapeCast S16384 a2 shapeCasts_S16384x1_S16384)) (ix2 r 0)
      = BitVec.ofNat 32 e.val := by
    rw [← he]
    pointwise
  unfold refV
  pointwise
  rw [pick_val _ _ e r (refI_val a2 r e he), refP_val]
  simp only [take_val _ _ e r _ _ hi]
  rfl

end Cert.Exchange

end
-- ==== Proof.Cap.lean ====
/-
What the precondition says of a device's expert numbers.
-/
module

public import proofs.«01_k».proof.Pre_within_capacity_KernelIdeal
public import proofs.«01_k».proof.Proof.Values3
public import Idealize.ShloMosaic.Lib.IndicatorCount
public import Idealize.ShloMosaic.Lib.WordCmp

@[expose] public section

set_option maxRecDepth 16384

noncomputable section

namespace Cert.Exchange

open Cert.Pre_within_capacity_KernelIdeal
open Idealize.ShloMosaic Idealize.ShloMosaic.WordCmp

instance capFacts : Cert.Pre_within_capacity_KernelIdeal.Facts where
  bcast_S_S1024x1 := by decide
  bcast_S16_S1x16_1 := by decide
  bcast_S_S1x16 := by decide
  bcast_S1024x1_S1024x16_0_1 := by decide
  bcast_S1x16_S1024x16_0_1 := by decide
  natLt_1_32 := by decide
  reducesTo_S1024x16_S16_d0 := by decide
  h_S_ := by decide
  bcast_S_S16 := by decide

open Facts

/-- Whether each expert number is one of the 64. -/
def inRange (v : IVec S1024x1 32) : IVec S1024x1 1 :=
  andi (cmpi .sge v (broadcastInDim S1024x1 ![] bcast_S_S1024x1 (constantI S_ 32 0#32)))
    (cmpi .slt v (broadcastInDim S1024x1 ![] bcast_S_S1024x1 (constantI S_ 32 64#32)))

/-- Four times each owner's number. -/
def firsts : IVec S1x16 32 :=
  muli (broadcastInDim S1x16 ![] bcast_S_S1x16 (constantI S_ 32 4#32)) (broadcastInDim S1x16 ![1] bcast_S16_S1x16_1 (iotaInDim S16 32 0))

/-- Which tokens each owner is to serve. -/
def served (v : IVec S1024x1 32) : IVec S1024x16 1 :=
  andi (cmpi .sge (broadcastInDim S1024x16 ![0, 1] bcast_S1024x1_S1024x16_0_1 v) (broadcastInDim S1024x16 ![0, 1] bcast_S1x16_S1024x16_0_1 firsts))
    (cmpi .slt (broadcastInDim S1024x16 ![0, 1] bcast_S1024x1_S1024x16_0_1 v)
      (broadcastInDim S1024x16 ![0, 1] bcast_S1x16_S1024x16_0_1 (addi firsts (broadcastInDim S1x16 ![] bcast_S_S1x16 (constantI S_ 32 4#32)))))

/-- How many tokens each owner is to serve. -/
def loads (v : IVec S1024x1 32) : IVec S16 32 :=
  Host.reduce IntOp.addi (extui 32 (served v) natLt_1_32) (constantI S_ 32 0#32) reducesTo_S1024x16_S16_d0 h_S_

/-- How many tokens of a device an owner can serve. -/
def limit : IVec S16 32 := broadcastInDim S16 ![] bcast_S_S16 (constantI S_ 32 128#32)

theorem fn_eq {F : FTy → Type} [FloatOps F] (a0 : FVec F S1024x256 .bf16) (a1 : FVec F S256x64 .bf16) (v : IVec S1024x1 32)
    (a3 : FVec F S4x256x512 .bf16) (a4 : FVec F S256x512 .bf16) :
    fn a0 a1 v a3 a4 = (inRange v, cmpi .sle (loads v) limit) := rfl

/-- The number of tokens that owner `d` is to serve, as a word. -/
theorem loads_val (v : IVec S1024x1 32) (d : Fin 16) :
    loads v (ix1 d) = BitVec.ofNat 32 (Finset.univ.filter fun i : Fin 1024 => served v (ix2 i d) = 1#1).card := by
  unfold loads
  pointwise
  exact IndicatorCount.fold_addi_setWidth_eq_card (fun i : Fin 1024 => served v (ix2 i d)) Finset.univ

theorem ofBool_one {b : Bool} : BitVec.ofBool b = 1#1 ↔ b = true := by
  cases b <;> decide

theorem andi_one {a b : BitVec 1} : IntOp.andi a b = 1#1 ↔ a = 1#1 ∧ b = 1#1 := by
  revert a b
  decide

/-- An expert number in range is below 64 read without its sign. -/
theorem word_lt (v : IVec S1024x1 32) (i : Fin 1024) (k : Fin 1) (h : inRange v (ix2 i k) = 1#1) : (v (ix2 i k)).toNat < 64 := by
  have e : inRange v (ix2 i k) = IntOp.andi (IntOp.cmpi .sge (v (ix2 i k)) 0#32) (IntOp.cmpi .slt (v (ix2 i k)) 64#32) := by
    unfold inRange
    pointwise
  rw [e, andi_one, cmpi_sge_eq, cmpi_slt_eq, ofBool_one, ofBool_one, decide_eq_true_eq, decide_eq_true_eq] at h
  have h0 : (0#32 : BitVec 32).toInt = 0 := by decide
  have h1 : (64#32 : BitVec 32).toInt = 64 := by decide
  rw [h0, h1, BitVec.toInt_eq_toNat_cond] at h
  have hl := (v (ix2 i k)).isLt
  split at h <;> omega

/-- A token is served by the owner of its expert. -/
theorem served_iff (v : IVec S1024x1 32) (i : Fin 1024) (d : Fin 16) (e : Fin 64) (h : v (ix2 i 0) = BitVec.ofNat 32 e.val) :
    served v (ix2 i d) = 1#1 ↔ e.val / 4 = d.val := by
  have hd := d.isLt
  have he := e.isLt
  have es : served v (ix2 i d) = IntOp.andi (IntOp.cmpi .sge (v (ix2 i 0)) (IntOp.muli 4#32 (BitVec.ofNat 32 d.val)))
      (IntOp.cmpi .slt (v (ix2 i 0)) (IntOp.addi (IntOp.muli 4#32 (BitVec.ofNat 32 d.val)) 4#32)) := by
    unfold served firsts
    pointwise
  have em : IntOp.muli 4#32 (BitVec.ofNat 32 d.val) = BitVec.ofNat 32 (4 * d.val) := (BitVec.ofNat_mul 4 d.val).symm
  have ea : IntOp.addi (BitVec.ofNat 32 (4 * d.val)) 4#32 = BitVec.ofNat 32 (4 * d.val + 4) := (BitVec.ofNat_add (4 * d.val) 4).symm
  rw [es, em, ea, h, andi_one, cmpi_sge_ofNat (by omega) (by omega), cmpi_slt_ofNat (by omega) (by omega), ofBool_one, ofBool_one,
    decide_eq_true_eq, decide_eq_true_eq]
  omega

theorem loads_le (v : IVec S1024x1 32)
    (h : cmpi .sle (loads v) limit = fun _ => 1#1) (d : Fin 16) :
    IntOp.cmpi .sle (loads v (ix1 d)) 128#32 = 1#1 := by
  have e : cmpi .sle (loads v) limit (ix1 d)
      = IntOp.cmpi .sle (loads v (ix1 d)) 128#32 := by
    have hl : limit (ix1 d) = 128#32 := by
      unfold limit
      pointwise
    exact congrArg (IntOp.cmpi .sle (loads v (ix1 d))) hl
  rw [← e, h]

theorem fn_loads {F : FTy → Type} [FloatOps F] {a0 : FVec F S1024x256 .bf16} {a1 : FVec F S256x64 .bf16} {v : IVec S1024x1 32}
    {a3 : FVec F S4x256x512 .bf16} {a4 : FVec F S256x512 .bf16} (h : (fn a0 a1 v a3 a4).2 = fun _ => 1#1) :
    cmpi .sle (loads v) limit = fun _ => 1#1 := by
  rw [fn_eq] at h
  dsimp only at h
  exact h

theorem card_le (p : Fin 1024 → BitVec 1) : (Finset.univ.filter fun i => p i = 1#1).card ≤ 1024 := by
  have h := Finset.card_le_univ (Finset.univ.filter fun i => p i = 1#1)
  rwa [Fintype.card_fin] at h

theorem load_le {n : ℕ} (hn : n ≤ 1024) (h : IntOp.cmpi .sle (BitVec.ofNat 32 n) 128#32 = 1#1) : n ≤ 128 := by
  rwa [cmpi_sle_ofNat (by omega) (by omega), ofBool_one, decide_eq_true_eq] at h

/-- Each token's expert. -/
def expert (A : Inp Ideal) (c : Dev Cert.KernelIdeal.nD) (i : Fin 1024) : Fin 64 :=
  ⟨(A.idx c (ix2 i 0)).toNat % 64, Nat.mod_lt _ (by decide)⟩

/-- Under the precondition every expert number is in range, and no owner is to serve more of a device's tokens than its slots hold. -/
theorem good_of (A : Inp Ideal)
    (h : ∀ c, (fn (F := Ideal) (A.x c) (A.rw c) (A.idx c) (A.ew c) (A.sw c)).1 = (fun _ => 1#1)
      ∧ (fn (F := Ideal) (A.x c) (A.rw c) (A.idx c) (A.ew c) (A.sw c)).2 = (fun _ => 1#1)) : Good A (expert A) := by
  have hw : ∀ c (i : Fin 1024) (k : Fin 1), A.idx c (ix2 i k) = BitVec.ofNat 32 (expert A c i).val := by
    intro c i k
    have hk : k = 0 := Fin.ext (by omega)
    subst hk
    have h1 := word_lt (A.idx c) i 0 (congrFun (h c).1 (ix2 i 0))
    show _ = BitVec.ofNat 32 ((A.idx c (ix2 i 0)).toNat % 64)
    rw [Nat.mod_eq_of_lt h1]
    refine BitVec.eq_of_toNat_eq ?_
    rw [BitVec.toNat_ofNat]
    omega
  refine ⟨hw, ?_⟩
  intro c d
  by_cases hd : d < 16
  · have h2 : loads (A.idx c) (ix1 ⟨d, hd⟩) = _ := loads_val (A.idx c) ⟨d, hd⟩
    have h3 := loads_le (A.idx c) (fn_loads (h c).2) ⟨d, hd⟩
    have hc : (Finset.univ.filter fun i : Fin 1024 => served (A.idx c) (ix2 i (⟨d, hd⟩ : Fin 16)) = 1#1).card ≤ 1024 :=
      card_le (fun i => served (A.idx c) (ix2 i (⟨d, hd⟩ : Fin 16)))
    rw [h2] at h3
    refine le_trans (Finset.card_le_card ?_) (load_le hc h3)
    intro i hi
    rw [Finset.mem_filter] at hi ⊢
    exact ⟨hi.1, (served_iff (A.idx c) i ⟨d, hd⟩ (expert A c i) (hw c i 0)).mpr hi.2⟩
  · rw [Finset.card_eq_zero.mpr]
    · omega
    · refine Finset.filter_eq_empty_iff.mpr ?_
      intro i _ hi
      have := (expert A c i).isLt
      omega

end Cert.Exchange

end
-- ==== Proof.Equal.lean ====
/-
The kernel's result on each device is that device's rows of the reference's result.
-/
module

public import proofs.«01_k».proof.Proof.RefVal
public import proofs.«01_k».proof.Proof.Cap
public import Idealize.ShloMosaic.Lib.Layout

@[expose] public section

set_option maxRecDepth 16384

noncomputable section

namespace Cert.Exchange

open Idealize.ShloMosaic

/-- A device's row among the rows of all the devices. -/
def row (c : Dev Cert.KernelIdeal.nD) (i : Fin 1024) : Fin 16384 := ⟨c.val * 1024 + i.val, by
  have := i.isLt
  have hc : c.val < 16 := c.isLt
  omega⟩

/-- The inputs of the devices are their parts of the reference's arguments. -/
structure Split (A : Inp Ideal) (a0 : FVec Ideal Cert.ReferenceIdeal.S16384x256 .bf16) (a1 : FVec Ideal Cert.ReferenceIdeal.S256x64 .bf16)
    (a2 : IVec Cert.ReferenceIdeal.S16384x1 32) (a3 : FVec Ideal Cert.ReferenceIdeal.S64x256x512 .bf16)
    (a4 : FVec Ideal Cert.ReferenceIdeal.S256x512 .bf16) : Prop where
  x : ∀ c, A.x c = Layout.block ⟨2, ![1024, 256]⟩ ⟨2, ![16384, 256]⟩ 0 16 c a0
  rw : ∀ c, A.rw c = a1
  idx : ∀ c, A.idx c = Layout.block ⟨2, ![1024, 1]⟩ ⟨2, ![16384, 1]⟩ 0 16 c a2
  ew : ∀ c, A.ew c = Layout.block ⟨3, ![4, 256, 512]⟩ ⟨3, ![64, 256, 512]⟩ 0 16 c a3
  sw : ∀ c, A.sw c = a4

variable {A : Inp Ideal} {a0 : FVec Ideal Cert.ReferenceIdeal.S16384x256 .bf16} {a1 : FVec Ideal Cert.ReferenceIdeal.S256x64 .bf16}
  {a2 : IVec Cert.ReferenceIdeal.S16384x1 32} {a3 : FVec Ideal Cert.ReferenceIdeal.S64x256x512 .bf16}
  {a4 : FVec Ideal Cert.ReferenceIdeal.S256x512 .bf16}

theorem block_rows {α : Type} {n : ℕ} (v : Shape.Idx ⟨2, ![16384, n]⟩ → α) (h : Layout.Tiles ⟨2, ![1024, n]⟩ ⟨2, ![16384, n]⟩ 0 16)
    (c : Fin 16) (i : Fin 1024) (k : Fin n) :
    Layout.block ⟨2, ![1024, n]⟩ ⟨2, ![16384, n]⟩ 0 16 c v h (ix2 i k) = v (ix2 (row c i) k) := by
  rw [Layout.block_apply]
  refine congrArg v (funext fun a => Fin.ext ?_)
  match a with
  | ⟨0, _⟩ => rfl
  | ⟨1, _⟩ => rfl

theorem block_experts {α : Type} (v : Shape.Idx ⟨3, ![64, 256, 512]⟩ → α) (h : Layout.Tiles ⟨3, ![4, 256, 512]⟩ ⟨3, ![64, 256, 512]⟩ 0 16)
    (c : Fin 16) (j : Fin 4) (k : Fin 256) (l : Fin 512) (e : Fin 64) (he : e.val = c.val * 4 + j.val) :
    Layout.block ⟨3, ![4, 256, 512]⟩ ⟨3, ![64, 256, 512]⟩ 0 16 c v h (ix3 j k l) = v (ix3 e k l) := by
  rw [Layout.block_apply]
  refine congrArg v (funext fun a => Fin.ext ?_)
  match a with
  | ⟨0, _⟩ => exact he.symm
  | ⟨1, _⟩ => rfl
  | ⟨2, _⟩ => rfl

theorem out_eq {E : Dev Cert.KernelIdeal.nD → Fin 1024 → Fin 64} (H : Good A E) (S : Split A a0 a1 a2 a3 a4)
    (h : Layout.Tiles ⟨2, ![1024, 512]⟩ ⟨2, ![16384, 512]⟩ 0 16) (c : Dev Cert.KernelIdeal.nD) :
    outC A c = Layout.block ⟨2, ![1024, 512]⟩ ⟨2, ![16384, 512]⟩ 0 16 c (refV a0 a1 a2 a3 a4) h := by
  funext ih
  obtain ⟨i, l, rfl⟩ : ∃ (i : Fin 1024) (l : Fin 512), ih = ix2 i l := ⟨ih 0, ih 1, funext fun a => by
    match a with
    | ⟨0, _⟩ => rfl
    | ⟨1, _⟩ => rfl⟩
  have hx : ∀ k : Fin 256, A.x c (ix2 i k) = a0 (ix2 (row c i) k) := fun k =>
    (congrFun (S.x c) (ix2 i k)).trans (block_rows a0 _ c i k)
  have hi : a2 (ix2 (row c i) 0) = BitVec.ofNat 32 (E c i).val :=
    ((congrFun (S.idx c) (ix2 i 0)).trans (block_rows a2 _ c i 0)).symm.trans (H.word c i 0)
  have hw : ∀ k : Fin 256, A.ew (sh c (off c (E c i))) (ix3 (⟨(E c i).val % 4, Nat.mod_lt _ (by decide)⟩ : Fin 4) k l)
      = a3 (ix3 (E c i) k l) := fun k =>
    (congrFun (S.ew _) (ix3 _ k l)).trans (block_experts a3 _ _ _ k l (E c i) (by
      rw [sh_off c (E c i)]
      show (E c i).val = (E c i).val / 4 * 4 + (E c i).val % 4
      omega))
  refine (out_val H c i l).trans ?_
  refine Eq.trans ?_ (block_rows (refV a0 a1 a2 a3 a4) h c i l).symm
  rw [ref_val a0 a1 a2 a3 a4 (row c i) (E c i) hi l, S.rw c, S.sw c]
  simp only [hx, hw]

end Cert.Exchange

end
-- ==== Proof.lean ====
/- The claims proved: each program's frame, that the idealized kernel is the kernel's own text, and that its result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

open Cert.KernelIdeal in
theorem frame_any {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono (fun _ h => ⟨fun c => (h.1 c).2, h.2⟩) (Cert.Exchange.run_ends m ρ)

theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl

theorem defs_eq : Cert.Kernel.defs (F := Bits) = Cert.KernelIdeal.defs (F := Bits) :=
  congrArg (Pipeline.defs Cert.KernelIdeal.pcfgs) bodies_eq

/-- The kernel as printed is the text the run was proved of, read at the bit patterns. -/
theorem frame_kernel : Cert.quiescent_Kernel := fun m ρ _ => by
  rw [defs_eq]
  exact frame_any (F := Bits) m ρ

theorem frame_ideal : Cert.quiescent_KernelIdeal := fun m ρ _ => frame_any (F := Ideal) m ρ

theorem no_sems (s : MemSt Cert.ReferenceIdeal.nD Cert.ReferenceIdeal.τ Cert.ReferenceIdeal.sig (Elt Ideal)) : s.sem = fun _ => 0 := by
  funext g
  obtain ⟨t, sm⟩ := g
  cases sm with
  | reg k => exact k.elim0
  | dma k => exact k.elim0

theorem frame_ref : Cert.quiescent_ReferenceIdeal := fun m ρ _ =>
  (θ_run Cert.ReferenceIdeal.defs _ _).mono (fun r h => ⟨fun c => (h c).2, no_sems r.2⟩) (Cert.ReferenceIdeal.Value.run (F := Ideal) m ρ)

/-- The reference's run, its result named. -/
theorem run_ref (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => r.2.mem (((0 : Dev Cert.ReferenceIdeal.nD).tc : Thread Cert.ReferenceIdeal.nD Cert.ReferenceIdeal.τ).loc Cert.ReferenceIdeal.main_v21)
          = Cert.Exchange.refV (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))
            (m' (((0 : Dev Cert.ReferenceIdeal.nD).tc : Thread Cert.ReferenceIdeal.nD Cert.ReferenceIdeal.τ).loc Cert.ReferenceIdeal.main_arg4))
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
        ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
        ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
        ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)) :=
  (θ_run Cert.ReferenceIdeal.defs _ _).mono (fun r h => h 0) (Cert.ReferenceIdeal.Value.run (F := Ideal) m' g')

instance capFactsRef : Cert.Pre_within_capacity_ReferenceIdeal.Facts where
  bcast_S_S16384x1 := by decide
  bcast_S16_S1x16_1 := by decide
  bcast_S_S1x16 := by decide
  bcast_S16384x1_S16384x16_0_1 := by decide
  bcast_S1x16_S16384x16_0_1 := by decide
  natLt_1_32 := by decide
  reducesTo_S16384x16_S16_d0 := by decide
  h_S_ := by decide
  bcast_S_S16 := by decide

theorem frame_ideal_pre : Cert.quiescent_KernelIdeal_pre_within_capacity_KernelIdeal := fun m ρ _ => frame_any (F := Ideal) m ρ

theorem frame_ref_pre : Cert.quiescent_ReferenceIdeal_pre_within_capacity_ReferenceIdeal := fun m ρ _ => frame_ref m ρ trivial

/-- Each device's inputs, as the run reads them, are its part of the reference's arguments; so its result is its part of the reference's. -/
theorem algebraic : Cert.algebraic_KernelIdeal_ReferenceIdeal_pre_within_capacity_KernelIdeal := by
  intro m g m' g' hp ha
  refine ⟨_, ?_, run_ref m' g'⟩
  refine (θ_run Cert.KernelIdeal.defs _ _).mono (fun r h c => ⟨(h.1 c).1.trans ?_, (h.1 c).2⟩) (Cert.Exchange.run_ends m g)
  have hA := Cert.Exchange.inp_args (F := Ideal) m g
  refine Cert.Exchange.out_eq (Cert.Exchange.good_of _ fun d => ?_) ⟨fun d => (hA d).1.trans (ha d).1, fun d => (hA d).2.1.trans (ha d).2.1,
    fun d => (hA d).2.2.1.trans (ha d).2.2.1, fun d => (hA d).2.2.2.1.trans (ha d).2.2.2.1, fun d => (hA d).2.2.2.2.trans (ha d).2.2.2.2⟩ _ c
  rw [(hA d).1, (hA d).2.1, (hA d).2.2.1, (hA d).2.2.2.1, (hA d).2.2.2.2]
  exact hp d

theorem claim : Cert.Claim :=
  ⟨Cert.Kernel.Gen.facts, Cert.KernelIdeal.Gen.facts, Cert.ReferenceIdeal.Gen.facts, Cert.Exchange.capFacts, capFactsRef,
    frame_kernel, frame_ideal, frame_ideal_pre, frame_ref, frame_ref_pre, trivial, algebraic⟩

end Cert.Proof

end
